-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_sqrt_d" .f32 0x3DB504F3#32 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![16384, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 128]⟩ ⟨2, ![16384, 128]⟩ 0 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 128]⟩ ⟨2, ![16384, 128]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![16384, 128]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .f32) (main_arg1 : FVec F S1024x128 .f32) (main_arg2 : FVec F S1024x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Pre_finite_ReferenceIdeal.lean ====
abbrev S16384x128 : Shape := ⟨2, ![16384, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel

variable [Facts]

def fn {F : FTy → Type} [FloatOps F] (main_arg0 : FVec F S16384x128 .f32) (main_arg1 : FVec F S16384x128 .f32) (main_arg2 : FVec F S16384x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S1024x128 : Shape := ⟨2, ![1024, 128]⟩
abbrev S4x1024x128 : Shape := ⟨3, ![4, 1024, 128]⟩
abbrev S4x2 : Shape := ⟨2, ![4, 2]⟩
abbrev S_ : Shape := ⟨0, ![]⟩
abbrev S1x1024x128 : Shape := ⟨3, ![1, 1024, 128]⟩
abbrev S1024x1 : Shape := ⟨2, ![1024, 1]⟩
abbrev S1x1 : Shape := ⟨2, ![1, 1]⟩
abbrev S1x512x128 : Shape := ⟨3, ![1, 512, 128]⟩
abbrev S512x128 : Shape := ⟨2, ![512, 128]⟩
abbrev S1024x1024 : Shape := ⟨2, ![1024, 1024]⟩
abbrev S1024 : Shape := ⟨1, ![1024]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S4x1024x128, .bf16⟩
  | .local _ .vmem, ⟨5, _⟩ => ⟨S4x1024x128, .bf16⟩
  | .local _ .vmem, ⟨6, _⟩ => ⟨S4x1024x128, .bf16⟩
  | .local _ .vmem, ⟨7, _⟩ => ⟨S4x1024x128, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 3 68 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_45 : BitVec 32 := 1#32
  let v56 : BitVec 32 := Scalar.muli v25 c1_i32_45
  let v57 : BitVec 32 := Scalar.addi c0_i32_46 v56
  v57.toNat
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_57 : BitVec 32 := 1#32
  let v66 : BitVec 32 := Scalar.muli v14 c1_i32_57
  let v67 : BitVec 32 := Scalar.addi c0_i32_58 v66
  v67.toNat
def k0_dev5 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_69 : BitVec 32 := 1#32
  let v76 : BitVec 32 := Scalar.muli v25 c1_i32_69
  let v77 : BitVec 32 := Scalar.addi c0_i32_70 v76
  v77.toNat
def k0_dev6 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_80 : BitVec 32 := 1#32
  let v86 : BitVec 32 := Scalar.muli v14 c1_i32_80
  let v87 : BitVec 32 := Scalar.addi c0_i32_81 v86
  v87.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_92 : BitVec 32 := 1#32
  let v96 : BitVec 32 := Scalar.muli v25 c1_i32_92
  let v97 : BitVec 32 := Scalar.addi c0_i32_93 v96
  v97.toNat
def k0_dev8 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_104 : BitVec 32 := 1#32
  let v106 : BitVec 32 := Scalar.muli v14 c1_i32_104
  let v107 : BitVec 32 := Scalar.addi c0_i32_105 v106
  v107.toNat
def k0_dev9 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_116 : BitVec 32 := 1#32
  let v116 : BitVec 32 := Scalar.muli v25 c1_i32_116
  let v117 : BitVec 32 := Scalar.addi c0_i32_117 v116
  v117.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_128 : BitVec 32 := 1#32
  let v126 : BitVec 32 := Scalar.muli v14 c1_i32_128
  let v127 : BitVec 32 := Scalar.addi c0_i32_129 v126
  v127.toNat
def k0_dev11 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_161 : BitVec 32 := 1#32
  let v156 : BitVec 32 := Scalar.muli v25 c1_i32_161
  let v157 : BitVec 32 := Scalar.addi c0_i32_162 v156
  v157.toNat
def k0_dev12 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_185 : BitVec 32 := 1#32
  let v174 : BitVec 32 := Scalar.muli v14 c1_i32_185
  let v175 : BitVec 32 := Scalar.addi c0_i32_186 v174
  v175.toNat
def k0_dev13 (d0 : Dev nD) : Nat :=
  let c0_i32_210 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_209 : BitVec 32 := 1#32
  let v192 : BitVec 32 := Scalar.muli v25 c1_i32_209
  let v193 : BitVec 32 := Scalar.addi c0_i32_210 v192
  v193.toNat
def k0_dev14 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_233 : BitVec 32 := 1#32
  let v210 : BitVec 32 := Scalar.muli v14 c1_i32_233
  let v211 : BitVec 32 := Scalar.addi c0_i32_234 v210
  v211.toNat
def k0_dev15 (d0 : Dev nD) : Nat :=
  let c0_i32_258 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_257 : BitVec 32 := 1#32
  let v228 : BitVec 32 := Scalar.muli v25 c1_i32_257
  let v229 : BitVec 32 := Scalar.addi c0_i32_258 v228
  v229.toNat
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_281 : BitVec 32 := 1#32
  let v246 : BitVec 32 := Scalar.muli v14 c1_i32_281
  let v247 : BitVec 32 := Scalar.addi c0_i32_282 v246
  v247.toNat
def k0_dev17 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_305 : BitVec 32 := 1#32
  let v264 : BitVec 32 := Scalar.muli v25 c1_i32_305
  let v265 : BitVec 32 := Scalar.addi c0_i32_306 v264
  v265.toNat
def k0_dev18 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_329 : BitVec 32 := 1#32
  let v282 : BitVec 32 := Scalar.muli v14 c1_i32_329
  let v283 : BitVec 32 := Scalar.addi c0_i32_330 v282
  v283.toNat
def k0_dev19 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_441 : BitVec 32 := 1#32
  let v364 : BitVec 32 := Scalar.muli v14 c1_i32_441
  let v365 : BitVec 32 := Scalar.addi c0_i32_442 v364
  v365.toNat
def k0_dev20 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_444 : BitVec 32 := 1#32
  let v366 : BitVec 32 := Scalar.muli v25 c1_i32_444
  let v367 : BitVec 32 := Scalar.addi c0_i32_445 v366
  v367.toNat
def k0_dev21 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_463 : BitVec 32 := 1#32
  let v376 : BitVec 32 := Scalar.muli v25 c1_i32_463
  let v377 : BitVec 32 := Scalar.addi c0_i32_464 v376
  v377.toNat
def k0_dev22 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_487 : BitVec 32 := 1#32
  let v394 : BitVec 32 := Scalar.muli v14 c1_i32_487
  let v395 : BitVec 32 := Scalar.addi c0_i32_488 v394
  v395.toNat
def k0_dev23 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_511 : BitVec 32 := 1#32
  let v412 : BitVec 32 := Scalar.muli v25 c1_i32_511
  let v413 : BitVec 32 := Scalar.addi c0_i32_512 v412
  v413.toNat
def k0_dev24 (d0 : Dev nD) : Nat :=
  let c0_i32_536 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_535 : BitVec 32 := 1#32
  let v430 : BitVec 32 := Scalar.muli v14 c1_i32_535
  let v431 : BitVec 32 := Scalar.addi c0_i32_536 v430
  v431.toNat
def k0_dev25 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_559 : BitVec 32 := 1#32
  let v448 : BitVec 32 := Scalar.muli v25 c1_i32_559
  let v449 : BitVec 32 := Scalar.addi c0_i32_560 v448
  v449.toNat
def k0_dev26 (d0 : Dev nD) : Nat :=
  let c0_i32_584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_583 : BitVec 32 := 1#32
  let v466 : BitVec 32 := Scalar.muli v14 c1_i32_583
  let v467 : BitVec 32 := Scalar.addi c0_i32_584 v466
  v467.toNat
def k0_dev27 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_607 : BitVec 32 := 1#32
  let v484 : BitVec 32 := Scalar.muli v25 c1_i32_607
  let v485 : BitVec 32 := Scalar.addi c0_i32_608 v484
  v485.toNat
def k0_dev28 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_631 : BitVec 32 := 1#32
  let v502 : BitVec 32 := Scalar.muli v14 c1_i32_631
  let v503 : BitVec 32 := Scalar.addi c0_i32_632 v502
  v503.toNat
def k0_dev29 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_743 : BitVec 32 := 1#32
  let v584 : BitVec 32 := Scalar.muli v14 c1_i32_743
  let v585 : BitVec 32 := Scalar.addi c0_i32_744 v584
  v585.toNat
def k0_dev30 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_746 : BitVec 32 := 1#32
  let v586 : BitVec 32 := Scalar.muli v25 c1_i32_746
  let v587 : BitVec 32 := Scalar.addi c0_i32_747 v586
  v587.toNat
def k0_dev31 (d0 : Dev nD) : Nat :=
  let c0_i32_771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_770 : BitVec 32 := 1#32
  let v596 : BitVec 32 := Scalar.muli v25 c1_i32_770
  let v597 : BitVec 32 := Scalar.addi c0_i32_771 v596
  v597.toNat
def k0_dev32 (d0 : Dev nD) : Nat :=
  let c0_i32_795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_794 : BitVec 32 := 1#32
  let v614 : BitVec 32 := Scalar.muli v14 c1_i32_794
  let v615 : BitVec 32 := Scalar.addi c0_i32_795 v614
  v615.toNat
def k0_dev33 (d0 : Dev nD) : Nat :=
  let c0_i32_819 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_818 : BitVec 32 := 1#32
  let v632 : BitVec 32 := Scalar.muli v25 c1_i32_818
  let v633 : BitVec 32 := Scalar.addi c0_i32_819 v632
  v633.toNat
def k0_dev34 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_842 : BitVec 32 := 1#32
  let v650 : BitVec 32 := Scalar.muli v14 c1_i32_842
  let v651 : BitVec 32 := Scalar.addi c0_i32_843 v650
  v651.toNat
def k0_dev35 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_866 : BitVec 32 := 1#32
  let v668 : BitVec 32 := Scalar.muli v25 c1_i32_866
  let v669 : BitVec 32 := Scalar.addi c0_i32_867 v668
  v669.toNat
def k0_dev36 (d0 : Dev nD) : Nat :=
  let c0_i32_891 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_890 : BitVec 32 := 1#32
  let v686 : BitVec 32 := Scalar.muli v14 c1_i32_890
  let v687 : BitVec 32 := Scalar.addi c0_i32_891 v686
  v687.toNat
def k0_dev37 (d0 : Dev nD) : Nat :=
  let c0_i32_915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_914 : BitVec 32 := 1#32
  let v704 : BitVec 32 := Scalar.muli v25 c1_i32_914
  let v705 : BitVec 32 := Scalar.addi c0_i32_915 v704
  v705.toNat
def k0_dev38 (d0 : Dev nD) : Nat :=
  let c0_i32_939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_938 : BitVec 32 := 1#32
  let v722 : BitVec 32 := Scalar.muli v14 c1_i32_938
  let v723 : BitVec 32 := Scalar.addi c0_i32_939 v722
  v723.toNat
def k0_dev39 (d0 : Dev nD) : Nat :=
  let c0_i32_1051 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1050 : BitVec 32 := 1#32
  let v804 : BitVec 32 := Scalar.muli v14 c1_i32_1050
  let v805 : BitVec 32 := Scalar.addi c0_i32_1051 v804
  v805.toNat
def k0_dev40 (d0 : Dev nD) : Nat :=
  let c0_i32_1054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1053 : BitVec 32 := 1#32
  let v806 : BitVec 32 := Scalar.muli v25 c1_i32_1053
  let v807 : BitVec 32 := Scalar.addi c0_i32_1054 v806
  v807.toNat
def k0_dev41 (d0 : Dev nD) : Nat :=
  let c0_i32_1078 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1077 : BitVec 32 := 1#32
  let v816 : BitVec 32 := Scalar.muli v25 c1_i32_1077
  let v817 : BitVec 32 := Scalar.addi c0_i32_1078 v816
  v817.toNat
def k0_dev42 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1101 : BitVec 32 := 1#32
  let v834 : BitVec 32 := Scalar.muli v14 c1_i32_1101
  let v835 : BitVec 32 := Scalar.addi c0_i32_1102 v834
  v835.toNat
def k0_dev43 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1125 : BitVec 32 := 1#32
  let v852 : BitVec 32 := Scalar.muli v25 c1_i32_1125
  let v853 : BitVec 32 := Scalar.addi c0_i32_1126 v852
  v853.toNat
def k0_dev44 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1149 : BitVec 32 := 1#32
  let v870 : BitVec 32 := Scalar.muli v14 c1_i32_1149
  let v871 : BitVec 32 := Scalar.addi c0_i32_1150 v870
  v871.toNat
def k0_dev45 (d0 : Dev nD) : Nat :=
  let c0_i32_1174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1173 : BitVec 32 := 1#32
  let v888 : BitVec 32 := Scalar.muli v25 c1_i32_1173
  let v889 : BitVec 32 := Scalar.addi c0_i32_1174 v888
  v889.toNat
def k0_dev46 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1197 : BitVec 32 := 1#32
  let v906 : BitVec 32 := Scalar.muli v14 c1_i32_1197
  let v907 : BitVec 32 := Scalar.addi c0_i32_1198 v906
  v907.toNat
def k0_dev47 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1221 : BitVec 32 := 1#32
  let v924 : BitVec 32 := Scalar.muli v25 c1_i32_1221
  let v925 : BitVec 32 := Scalar.addi c0_i32_1222 v924
  v925.toNat
def k0_dev48 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1245 : BitVec 32 := 1#32
  let v942 : BitVec 32 := Scalar.muli v14 c1_i32_1245
  let v943 : BitVec 32 := Scalar.addi c0_i32_1246 v942
  v943.toNat
def k0_dev49 (d0 : Dev nD) : Nat :=
  let c0_i32_1359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1358 : BitVec 32 := 1#32
  let v1024 : BitVec 32 := Scalar.muli v14 c1_i32_1358
  let v1025 : BitVec 32 := Scalar.addi c0_i32_1359 v1024
  v1025.toNat
def k0_dev50 (d0 : Dev nD) : Nat :=
  let c0_i32_1362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1361 : BitVec 32 := 1#32
  let v1026 : BitVec 32 := Scalar.muli v25 c1_i32_1361
  let v1027 : BitVec 32 := Scalar.addi c0_i32_1362 v1026
  v1027.toNat
def k0_dev51 (d0 : Dev nD) : Nat :=
  let c0_i32_1386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1385 : BitVec 32 := 1#32
  let v1036 : BitVec 32 := Scalar.muli v25 c1_i32_1385
  let v1037 : BitVec 32 := Scalar.addi c0_i32_1386 v1036
  v1037.toNat
def k0_dev52 (d0 : Dev nD) : Nat :=
  let c0_i32_1410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1409 : BitVec 32 := 1#32
  let v1054 : BitVec 32 := Scalar.muli v14 c1_i32_1409
  let v1055 : BitVec 32 := Scalar.addi c0_i32_1410 v1054
  v1055.toNat
def k0_dev53 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1433 : BitVec 32 := 1#32
  let v1072 : BitVec 32 := Scalar.muli v25 c1_i32_1433
  let v1073 : BitVec 32 := Scalar.addi c0_i32_1434 v1072
  v1073.toNat
def k0_dev54 (d0 : Dev nD) : Nat :=
  let c0_i32_1458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1457 : BitVec 32 := 1#32
  let v1090 : BitVec 32 := Scalar.muli v14 c1_i32_1457
  let v1091 : BitVec 32 := Scalar.addi c0_i32_1458 v1090
  v1091.toNat
def k0_dev55 (d0 : Dev nD) : Nat :=
  let c0_i32_1482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1481 : BitVec 32 := 1#32
  let v1108 : BitVec 32 := Scalar.muli v25 c1_i32_1481
  let v1109 : BitVec 32 := Scalar.addi c0_i32_1482 v1108
  v1109.toNat
def k0_dev56 (d0 : Dev nD) : Nat :=
  let c0_i32_1506 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1505 : BitVec 32 := 1#32
  let v1126 : BitVec 32 := Scalar.muli v14 c1_i32_1505
  let v1127 : BitVec 32 := Scalar.addi c0_i32_1506 v1126
  v1127.toNat
def k0_dev57 (d0 : Dev nD) : Nat :=
  let c0_i32_1530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1529 : BitVec 32 := 1#32
  let v1144 : BitVec 32 := Scalar.muli v25 c1_i32_1529
  let v1145 : BitVec 32 := Scalar.addi c0_i32_1530 v1144
  v1145.toNat
def k0_dev58 (d0 : Dev nD) : Nat :=
  let c0_i32_1554 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1553 : BitVec 32 := 1#32
  let v1162 : BitVec 32 := Scalar.muli v14 c1_i32_1553
  let v1163 : BitVec 32 := Scalar.addi c0_i32_1554 v1162
  v1163.toNat
def k0_dev59 (d0 : Dev nD) : Nat :=
  let c0_i32_1667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1666 : BitVec 32 := 1#32
  let v1244 : BitVec 32 := Scalar.muli v14 c1_i32_1666
  let v1245 : BitVec 32 := Scalar.addi c0_i32_1667 v1244
  v1245.toNat
def k0_dev60 (d0 : Dev nD) : Nat :=
  let c0_i32_1670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1669 : BitVec 32 := 1#32
  let v1246 : BitVec 32 := Scalar.muli v25 c1_i32_1669
  let v1247 : BitVec 32 := Scalar.addi c0_i32_1670 v1246
  v1247.toNat
def k0_dev61 (d0 : Dev nD) : Nat :=
  let c0_i32_1694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1693 : BitVec 32 := 1#32
  let v1256 : BitVec 32 := Scalar.muli v25 c1_i32_1693
  let v1257 : BitVec 32 := Scalar.addi c0_i32_1694 v1256
  v1257.toNat
def k0_dev62 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1717 : BitVec 32 := 1#32
  let v1274 : BitVec 32 := Scalar.muli v14 c1_i32_1717
  let v1275 : BitVec 32 := Scalar.addi c0_i32_1718 v1274
  v1275.toNat
def k0_dev63 (d0 : Dev nD) : Nat :=
  let c0_i32_1742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1741 : BitVec 32 := 1#32
  let v1292 : BitVec 32 := Scalar.muli v25 c1_i32_1741
  let v1293 : BitVec 32 := Scalar.addi c0_i32_1742 v1292
  v1293.toNat
def k0_dev64 (d0 : Dev nD) : Nat :=
  let c0_i32_1766 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1765 : BitVec 32 := 1#32
  let v1310 : BitVec 32 := Scalar.muli v14 c1_i32_1765
  let v1311 : BitVec 32 := Scalar.addi c0_i32_1766 v1310
  v1311.toNat
def k0_dev65 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1789 : BitVec 32 := 1#32
  let v1328 : BitVec 32 := Scalar.muli v25 c1_i32_1789
  let v1329 : BitVec 32 := Scalar.addi c0_i32_1790 v1328
  v1329.toNat
def k0_dev66 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1813 : BitVec 32 := 1#32
  let v1346 : BitVec 32 := Scalar.muli v14 c1_i32_1813
  let v1347 : BitVec 32 := Scalar.addi c0_i32_1814 v1346
  v1347.toNat
def k0_dev67 (d0 : Dev nD) : Nat :=
  let c0_i32_1838 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1837 : BitVec 32 := 1#32
  let v1364 : BitVec 32 := Scalar.muli v25 c1_i32_1837
  let v1365 : BitVec 32 := Scalar.addi c0_i32_1838 v1364
  v1365.toNat
def k0_dev68 (d0 : Dev nD) : Nat :=
  let c0_i32_1862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1861 : BitVec 32 := 1#32
  let v1382 : BitVec 32 := Scalar.muli v14 c1_i32_1861
  let v1383 : BitVec 32 := Scalar.addi c0_i32_1862 v1382
  v1383.toNat
def k0_dev69 (d0 : Dev nD) : Nat :=
  let c0_i32_1996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1995 : BitVec 32 := 1#32
  let v1472 : BitVec 32 := Scalar.muli v25 c1_i32_1995
  let v1473 : BitVec 32 := Scalar.addi c0_i32_1996 v1472
  v1473.toNat
def k0_dev70 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2043 : BitVec 32 := 1#32
  let v1506 : BitVec 32 := Scalar.muli v14 c1_i32_2043
  let v1507 : BitVec 32 := Scalar.addi c0_i32_2044 v1506
  v1507.toNat
def k0_dev71 (d0 : Dev nD) : Nat :=
  let c0_i32_2068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2067 : BitVec 32 := 1#32
  let v1524 : BitVec 32 := Scalar.muli v25 c1_i32_2067
  let v1525 : BitVec 32 := Scalar.addi c0_i32_2068 v1524
  v1525.toNat
def k0_dev72 (d0 : Dev nD) : Nat :=
  let c0_i32_2116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let v4 : BitVec 32 := Scalar.addi v3 c16_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2115 : BitVec 32 := 1#32
  let v1558 : BitVec 32 := Scalar.muli v14 c1_i32_2115
  let v1559 : BitVec 32 := Scalar.addi c0_i32_2116 v1558
  v1559.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "inv_sqrt_d" => some (((Real.sqrt 128)⁻¹ : ℝ) : EReal)
  | _ => none
-- ==== ReferenceIdeal.lean ====
abbrev S16384x128 : Shape := ⟨2, ![16384, 128]⟩
abbrev S128x16384 : Shape := ⟨2, ![128, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩

abbrev nBuf : Space → Nat
  | .hbm => 21
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S16384x128, .f32⟩
  | .hbm, ⟨3, _⟩ => ⟨S128x16384, .f32⟩
  | .hbm, ⟨4, _⟩ => ⟨S16384x16384, .f32⟩
  | .hbm, ⟨5, _⟩ => ⟨S_, .f32⟩
  | .hbm, ⟨6, _⟩ => ⟨S_, .f32⟩
  | .hbm, ⟨7, _⟩ => ⟨S16384x16384, .f32⟩
  | .hbm, ⟨8, _⟩ => ⟨S16384x16384, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S16384x16384, .f32⟩
  | .hbm, ⟨19, _⟩ => ⟨S16384x16384, .f32⟩
  | .hbm, ⟨20, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Loop.lean ====
/-
  The kernel's body as a LOOP. The printed body is straight-line code: nine rounds over eight lanes, written out. Here the
  same operations are written once at a symbolic round and lane, and `body_eq` says the printed body, on the kernel's own
  buffers, is that loop.

  A LANE is one of the eight streams of copies: a direction (clockwise 0, counter-clockwise 1), a buffer of that direction
  (keys or values) and a half of its 1024 rows. HOP `h` of a lane copies the lane's half of slot `h - 1` (mod 4) of this
  device into slot `h` (mod 4) of the next device in the lane's direction.
-/
module

public import proofs.«01_k».proof.Proof.Gen.KernelIdeal
public import proofs.«01_k».proof.Proof.Gen.KernelIdeal.Skeleton
public import Idealize.ShloMosaic.Lib.Pipeline.Regions

@[expose] public section

noncomputable section

namespace Cert.Proof

open Cert.KernelIdeal Cert.KernelIdeal.Gen
open Idealize.ShloMosaic Idealize.SL.Sem

variable {F : FTy → Type} [FloatOps F] [Named F]

/-- The programs of the body. -/
abbrev P (F : FTy → Type) (α : Type) : Type 1 := Prog (TpuEff nD τ sig (Elt F) Λ₀ .tc) α

/-! ## Lanes -/

/-- The lane's half of the rows. -/
def half : Fin 8 → Fin 2
  | 0 => 0 | 1 => 0 | 2 => 1 | 3 => 1 | 4 => 0 | 5 => 0 | 6 => 1 | 7 => 1

/-- The lane's direction: 0 towards the next device, 1 towards the previous one. -/
def dir : Fin 8 → Fin 2
  | 0 => 0 | 1 => 1 | 2 => 0 | 3 => 1 | 4 => 0 | 5 => 1 | 6 => 0 | 7 => 1

/-- The lane's buffer. -/
def laneM : Fin 8 → Memref sig .tc .vmem S4x1024x128 .bf16
  | 0 => Memref.whole cc0_scratch0 | 1 => Memref.whole cc0_scratch2
  | 2 => Memref.whole cc0_scratch0 | 3 => Memref.whole cc0_scratch2
  | 4 => Memref.whole cc0_scratch1 | 5 => Memref.whole cc0_scratch3
  | 6 => Memref.whole cc0_scratch1 | 7 => Memref.whole cc0_scratch3

theorem laneM_whole (ℓ : Fin 8) : (laneM ℓ).IsWhole := by
  fin_cases ℓ <;> exact Memref.isWhole_whole _

/-- The lane's semaphores: of the copies' read-outs, -/
def sendSems : Fin 8 → DmaSems sig S4x2
  | 0 => cc0_scratch4 | 1 => cc0_scratch8 | 2 => cc0_scratch4 | 3 => cc0_scratch8
  | 4 => cc0_scratch6 | 5 => cc0_scratch10 | 6 => cc0_scratch6 | 7 => cc0_scratch10

/-- and of their landings. -/
def recvSems : Fin 8 → DmaSems sig S4x2
  | 0 => cc0_scratch5 | 1 => cc0_scratch9 | 2 => cc0_scratch5 | 3 => cc0_scratch9
  | 4 => cc0_scratch7 | 5 => cc0_scratch11 | 6 => cc0_scratch7 | 7 => cc0_scratch11

theorem inb_chunk (s : Fin 4) (h : Fin 2) : ∀ a, (![s.val, 512 * h.val, 0] : Fin 3 → Nat) a + S1x512x128.size a ≤ S4x1024x128.size a := by
  revert s h; decide

theorem inb_sem (s : Fin 4) (h : Fin 2) : ∀ a, (![s.val, h.val] : Fin 2 → Nat) a + S1x1.size a ≤ S4x2.size a := by
  revert s h; decide

theorem inb_slot (s : Fin 4) : ∀ a, (![s.val, 0, 0] : Fin 3 → Nat) a + S1x1024x128.size a ≤ S4x1024x128.size a := by
  revert s; decide

theorem words_chunk (s : Fin 4) (h : Fin 2) :
    (Rect.unit (s := S4x1024x128) ![s.val, 512 * h.val, 0] S1x512x128.size (inb_chunk s h)).WholeWords (EltTy.packing .bf16) := by
  fin_cases s <;> fin_cases h
  · exact wordsbf16_S4x1024x128_S1x512x128_0_0_0
  · exact wordsbf16_S4x1024x128_S1x512x128_0_512_0
  · exact wordsbf16_S4x1024x128_S1x512x128_1_0_0
  · exact wordsbf16_S4x1024x128_S1x512x128_1_512_0
  · exact wordsbf16_S4x1024x128_S1x512x128_2_0_0
  · exact wordsbf16_S4x1024x128_S1x512x128_2_512_0
  · exact wordsbf16_S4x1024x128_S1x512x128_3_0_0
  · exact wordsbf16_S4x1024x128_S1x512x128_3_512_0

/-- The slot the content of hop `h` lives in. -/
def slotOf (h : ℕ) : Fin 4 := ⟨h % 4, Nat.mod_lt _ (by decide)⟩

/-- The lane's half of slot `s` of its buffer. -/
def chunk (ℓ : Fin 8) (s : Fin 4) : Memref sig .tc .vmem S512x128 .bf16 :=
  ((laneM ℓ).slice (Rect.unit (s := S4x1024x128) ![s.val, 512 * (half ℓ).val, 0] S1x512x128.size (inb_chunk s (half ℓ))) (fun _ => rfl)).squeeze
    S512x128 squeezes_S1x512x128_S512x128

theorem chunk_words (ℓ : Fin 8) (s : Fin 4) : (chunk ℓ s).view.WordExact :=
  ((laneM_whole ℓ).wordExact_slice rfl _ (words_chunk s (half ℓ))).reshape _ _

/-- The lane's semaphore of slot `s`: of read-outs, -/
def sendSem (ℓ : Fin 8) (s : Fin 4) : DmaSem sig :=
  (((sendSems ℓ).slice (Rect.unit (s := S4x2) ![s.val, (half ℓ).val] S1x1.size (inb_sem s (half ℓ)))).squeeze S_ squeezes_S1x1_S_).sem

/-- and of landings. -/
def recvSem (ℓ : Fin 8) (s : Fin 4) : DmaSem sig :=
  (((recvSems ℓ).slice (Rect.unit (s := S4x2) ![s.val, (half ℓ).val] S1x1.size (inb_sem s (half ℓ)))).squeeze S_ squeezes_S1x1_S_).sem

/-- The device a lane of direction `d` copies to, as the kernel computes it, -/
def downP (d0 : Dev nD) : Fin 2 → Dev nD
  | 0 => ⟨k0_dev2 d0, k0_dev2_lt d0⟩ | 1 => ⟨k0_dev1 d0, k0_dev1_lt d0⟩

/-- and the device it is copied from. -/
def upP (d0 : Dev nD) : Fin 2 → Dev nD
  | 0 => ⟨k0_dev1 d0, k0_dev1_lt d0⟩ | 1 => ⟨k0_dev2 d0, k0_dev2_lt d0⟩

/-- The credit semaphore of a direction. -/
def credS : Fin 2 → Sems sig S_ | 0 => cc0_scratch12 | 1 => cc0_scratch13

/-- The barrier semaphore. -/
def barS : Sems sig S_ := SemArray.scalar (sig.barrier 0 rfl)

/-! ## The operations of one lane -/

/-- Start hop `h`. -/
def sendStep (d0 : Dev nD) (h : ℕ) (ℓ : Fin 8) : P F PUnit :=
  Prog.lift (.enqueueDma (chunk ℓ (slotOf (h - 1))) (.remote (Dev.tc (downP d0 (dir ℓ))) (chunk ℓ (slotOf h)) (.dma (sendSem ℓ (slotOf (h - 1)))))
    (.dma (recvSem ℓ (slotOf h))) (chunk_words ℓ _) (chunk_words ℓ _) ⟨⟨rfl, Or.inl rfl⟩, trivial⟩)

/-- Wait for the landing of hop `h` here. -/
def recvStep (h : ℕ) (ℓ : Fin 8) : P F PUnit :=
  Prog.lift (.waitDma2 (recvSem ℓ (slotOf h)) (chunk ℓ (slotOf (h - 1))) (chunk ℓ (slotOf h)) (chunk_words ℓ _) (chunk_words ℓ _))

/-- Wait for the read-out of this device's own hop `h`. -/
def doneStep (h : ℕ) (ℓ : Fin 8) : P F PUnit :=
  Prog.lift (.waitDma2 (sendSem ℓ (slotOf (h - 1))) (chunk ℓ (slotOf h)) (chunk ℓ (slotOf (h - 1))) (chunk_words ℓ _) (chunk_words ℓ _))

/-- One program per lane, in order. -/
def lanes (f : Fin 8 → P F PUnit) : P F PUnit := do
  f 0; f 1; f 2; f 3; f 4; f 5; f 6; f 7

/-- Hop 8 is made of half the data only: the first half clockwise, the second counter-clockwise. -/
def lanes4 (f : Fin 8 → P F PUnit) : P F PUnit := do
  f 0; f 3; f 4; f 7

/-! ## The operations of one round -/

/-- A load of a whole slot. -/
def loadSlot (M : Memref sig .tc .vmem S4x1024x128 .bf16) (s : Fin 4) : P F (Vec F S1x1024x128 .bf16) :=
  Prog.lift (.load M (Rect.unit (s := S4x1024x128) ![s.val, 0, 0] S1x1024x128.size (inb_slot s)).toLoadRect (View.loadsAt_vmem h_S1x1024x128))

/-- A load of a half of a slot. -/
def loadHalf (M : Memref sig .tc .vmem S4x1024x128 .bf16) (s : Fin 4) (h : Fin 2) : P F (Vec F S1x512x128 .bf16) :=
  Prog.lift (.load M (Rect.unit (s := S4x1024x128) ![s.val, 512 * h.val, 0] S1x512x128.size (inb_chunk s h)).toLoadRect (View.loadsAt_vmem h_S1x512x128))

/-- The scores of a block of keys, exponentiated. -/
def probs (q : FVec F S1024x128 .bf16) (k : Vec F S1x1024x128 .bf16) : FVec F S1024x1024 .f32 :=
  exp (matmul dot_S1024x128_S1024x128_S1024x1024_1_1_0_0_n_n none q (shapeCast S1024x128 k shapeCasts_S1x1024x128_S1024x128) (constant S1024x1024 .f32 0x00000000#32))

/-- The running denominator after a block, -/
def foldL (q : FVec F S1024x128 .bf16) (l : FVec F S1024x1 .f32) (k : Vec F S1x1024x128 .bf16) : FVec F S1024x1 .f32 :=
  addf l (shapeCast S1024x1 (multiReduction .add [1] S1024 (probs q k) 0x00000000#32 reduces_S1024x1024_S1024 (.inl rfl) rfl) shapeCasts_S1024_S1024x1)

/-- and the running numerator. -/
def foldA (q : FVec F S1024x128 .bf16) (a : FVec F S1024x128 .f32) (k v : Vec F S1x1024x128 .bf16) : FVec F S1024x128 .f32 :=
  addf a (matmul dot_S1024x1024_S1024x128_S1024x128_1_0_0_1_n_n none (truncf .bf16 (probs q k) bitsLt_bf16_f32) (shapeCast S1024x128 v shapeCasts_S1x1024x128_S1024x128)
    (constant S1024x128 .f32 0x00000000#32))

/-- The same of half a block: the exponentiated scores, -/
def probsH (q : FVec F S1024x128 .bf16) (k : Vec F S1x512x128 .bf16) : FVec F S1024x512 .f32 :=
  exp (matmul dot_S1024x128_S512x128_S1024x512_1_1_0_0_n_n none q (shapeCast S512x128 k shapeCasts_S1x512x128_S512x128) (constant S1024x512 .f32 0x00000000#32))

/-- the denominator, -/
def foldLH (q : FVec F S1024x128 .bf16) (l : FVec F S1024x1 .f32) (k : Vec F S1x512x128 .bf16) : FVec F S1024x1 .f32 :=
  addf l (shapeCast S1024x1 (multiReduction .add [1] S1024 (probsH q k) 0x00000000#32 reduces_S1024x512_S1024 (.inl rfl) rfl) shapeCasts_S1024_S1024x1)

/-- and the numerator. -/
def foldAH (q : FVec F S1024x128 .bf16) (a : FVec F S1024x128 .f32) (k v : Vec F S1x512x128 .bf16) : FVec F S1024x128 .f32 :=
  addf a (matmul dot_S1024x512_S512x128_S1024x128_1_0_0_1_n_n none (truncf .bf16 (probsH q k) bitsLt_bf16_f32) (shapeCast S512x128 v shapeCasts_S1x512x128_S512x128)
    (constant S1024x128 .f32 0x00000000#32))

/-- The running pair: denominator and numerator. -/
abbrev Acc (F : FTy → Type) [FloatOps F] : Type := FVec F S1024x1 .f32 × FVec F S1024x128 .f32

/-- The running pair after a block. -/
def fold (q : FVec F S1024x128 .bf16) (x : Acc F) (k v : Vec F S1x1024x128 .bf16) : Acc F := (foldL q x.1 k, foldA q x.2 k v)

/-- The running pair after half a block. -/
def foldH (q : FVec F S1024x128 .bf16) (x : Acc F) (k v : Vec F S1x512x128 .bf16) : Acc F := (foldLH q x.1 k, foldAH q x.2 k v)

/-- Fold the blocks in slot `s` of both directions. -/
def fold2 (q : FVec F S1024x128 .bf16) (x : Acc F) (s : Fin 4) : P F (Acc F) := do
  let k ← loadSlot (Memref.whole cc0_scratch0) s
  let v ← loadSlot (Memref.whole cc0_scratch1) s
  let k' ← loadSlot (Memref.whole cc0_scratch2) s
  let v' ← loadSlot (Memref.whole cc0_scratch3) s
  pure (fold q (fold q x k v) k' v')

/-- Both credits, one unit each. -/
def credWait : P F PUnit := do
  semWaitWord (credS 0).sem 1#32
  semWaitWord (credS 1).sem 1#32

/-- Tell both devices copying here that a slot is free. -/
def credSignal (d0 : Dev nD) : P F PUnit := do
  semSignalWord (upP d0 0) (credS 0).sem 1#32
  semSignalWord (upP d0 1) (credS 1).sem 1#32

/-- Rounds 2 … 7: each lane's block of hop `r - 1` arrives and is sent on; the blocks that arrived are folded; the sends of the
    round before are done. -/
def round (d0 : Dev nD) (q : FVec F S1024x128 .bf16) (r : ℕ) (x : Acc F) : P F (Acc F) := do
  lanes fun ℓ => do recvStep (r - 1) ℓ; sendStep d0 r ℓ
  let x' ← fold2 q x (slotOf (r - 1))
  lanes fun ℓ => doneStep (r - 1) ℓ
  pure x'

/-- Round 8: only half of the lanes send on. -/
def round8 (d0 : Dev nD) (q : FVec F S1024x128 .bf16) (x : Acc F) : P F (Acc F) := do
  recvStep 7 0; sendStep d0 8 0; recvStep 7 1; recvStep 7 2; recvStep 7 3; sendStep d0 8 3
  recvStep 7 4; sendStep d0 8 4; recvStep 7 5; recvStep 7 6; recvStep 7 7; sendStep d0 8 7
  let x' ← fold2 q x (slotOf 7)
  lanes fun ℓ => doneStep 7 ℓ
  pure x'

/-- Round 9: the two halves of the opposite device's block, one from each direction. -/
def round9 (q : FVec F S1024x128 .bf16) (x : Acc F) : P F (Acc F) := do
  lanes4 fun ℓ => recvStep 8 ℓ
  let k ← loadHalf (Memref.whole cc0_scratch0) 0 0
  let v ← loadHalf (Memref.whole cc0_scratch1) 0 0
  let k' ← loadHalf (Memref.whole cc0_scratch2) 0 1
  let v' ← loadHalf (Memref.whole cc0_scratch3) 0 1
  lanes4 fun ℓ => doneStep 8 ℓ
  pure (foldH q (foldH q x k v) k' v')

/-- Copy this device's block into slot 0 of a buffer. -/
def fill (M : Memref sig .tc .vmem S4x1024x128 .bf16) (hM : M.IsWhole) (x : FVec F S1024x128 .f32) : P F PUnit := do
  let _ ← loadSlot M 0
  Prog.lift (.store M (Rect.unit (s := S4x1024x128) ![0, 0, 0] S1x1024x128.size (inb_slot 0))
    (k0_pay4 x) Finset.univ
    (View.stores_vmem h_S1x1024x128 (hM.storeExact_slice rfl _ packedbf16_S4x1024x128_S1x1024x128_0_0_0) (fun _ => rfl)) (.inl rfl))

/-- A load of a whole staging buffer. -/
def loadStg (M : Memref sig .tc .vmem S1024x128 .f32) : P F (Vec F S1024x128 .f32) :=
  Prog.lift (.load M (Rect.unit (s := S1024x128) ![0, 0] S1024x128.size inb_S1024x128_S1024x128_0_0).toLoadRect (View.loadsAt_vmem h_S1024x128))

/-- The queries, scaled. -/
def scaled (x : FVec F S1024x128 .f32) : FVec F S1024x128 .bf16 := k0_pay8 x

/-- The running pair before the first block. -/
def acc0 : Acc F := (k0_pay9, k0_pay10)

/-- Before the rounds: the barrier, then this device's block into slot 0 of each buffer. -/
def prologue : P F (Σ' (_ : Dev nD), FVec F S1024x128 .bf16) := do
  let d0 : Dev nD ← Prog.lift .deviceId
  semSignalWord (upP d0 0) barS.sem 1#32
  semSignalWord (upP d0 1) barS.sem 1#32
  semWaitWord barS.sem 2#32
  let k ← loadStg (Memref.whole cc0_stg1_0)
  let v ← loadStg (Memref.whole cc0_stg2_0)
  fill (Memref.whole cc0_scratch0) (Memref.isWhole_whole _) k
  fill (Memref.whole cc0_scratch1) (Memref.isWhole_whole _) v
  fill (Memref.whole cc0_scratch2) (Memref.isWhole_whole _) k
  fill (Memref.whole cc0_scratch3) (Memref.isWhole_whole _) v
  let q ← loadStg (Memref.whole cc0_stg0_0)
  pure ⟨d0, scaled q⟩

/-- Round 1: every lane starts; this device's own block is folded. -/
def round1 (d0 : Dev nD) (q : FVec F S1024x128 .bf16) : P F (Acc F) := do
  lanes fun ℓ => sendStep d0 1 ℓ
  let k ← loadSlot (Memref.whole cc0_scratch0) 0
  let v ← loadSlot (Memref.whole cc0_scratch1) 0
  pure (fold q acc0 k v)

/-- After the rounds: the quotient is stored. -/
def epilogue (x : Acc F) : P F PUnit := do
  let _ ← loadStg (Memref.whole cc0_stg3_0)
  Prog.lift (.store (Memref.whole cc0_stg3_0) (Rect.unit (s := S1024x128) ![0, 0] S1024x128.size inb_S1024x128_S1024x128_0_0) (k0_pay1 x.1 x.2) Finset.univ
    (View.stores_vmem_bits_univ h_S1024x128 rfl) (.inl rfl))

/-- The body as a loop. -/
def ringProg : P F PUnit := do
  let ⟨d0, q⟩ ← prologue
  let x ← round1 d0 q
  let x ← round d0 q 2 x
  credSignal d0
  let x ← round d0 q 3 x
  credSignal d0
  credWait
  let x ← round d0 q 4 x
  credSignal d0
  credWait
  let x ← round d0 q 5 x
  credSignal d0
  credWait
  let x ← round d0 q 6 x
  credSignal d0
  credWait
  let x ← round d0 q 7 x
  credWait
  let x ← round8 d0 q x
  let x ← round9 q x
  epilogue x

set_option maxRecDepth 100000 in
/-- The printed body, on the kernel's own buffers, is the loop. -/
theorem body_eq :
    cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12 cc0_scratch13
      = ringProg := by
  chain_rfl

end Cert.Proof

end
-- ==== Proof.Protocol.lean ====
/-
  The PROTOCOL of the ring: which semaphore cell is waited on by whom, who signals it or copies into it, how much, in which
  order, and what each landing hands over.

  Notation. Device `c` copies lane `ℓ` to `dn (dir ℓ) c` and is copied to by `up (dir ℓ) c`. The content of hop `h` of lane `ℓ`
  at device `c` is the lane's half of the block (of keys or values) of device `org (dir ℓ) c h`, which is `h` devices
  upstream; content 0 is the device's own. Content `h` lives in slot `h % 4`.

  * Barrier cell, one round of two units: duty `δ` is paid by `dn δ c` and hands over slots 1, 2, 3 of that device's lanes of
    direction `δ` — device `c` may write them.
  * Receive cell of lane `ℓ` and slot `s`: hop `h` with `h % 4 = s` is its round `(h - 1) / 4`; the landing hands over the
    written half slot, holding content `h`.
  * Send cell of lane `ℓ` and slot `s`: hop `h` with `(h - 1) % 4 = s`; the read-out hands back the half share lent to it.
  * Credit cell of direction `δ`, one round of five units: duty `k` is paid by `dn δ c` at the end of its round `k + 2` and
    tells that, for every `j ≤ k`, the slot of content `j` has been released and its receive cell has advanced — hop `j + 4`
    may be sent. A wait for one unit cannot tell WHICH unit it consumed; but after `k + 1` of them some duty `≥ k` has been paid,
    and its message includes that of `k`.
-/
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

/-! ## The ring of devices -/

/-- The device a lane of direction `δ` copies to, -/
def dn (δ : Fin 2) (c : Dev nD) : Dev nD := if δ = 0 then ⟨(c.val + 1) % 16, Nat.mod_lt _ (by decide)⟩ else ⟨(c.val + 15) % 16, Nat.mod_lt _ (by decide)⟩

/-- and the device it is copied from. -/
def up (δ : Fin 2) (c : Dev nD) : Dev nD := if δ = 0 then ⟨(c.val + 15) % 16, Nat.mod_lt _ (by decide)⟩ else ⟨(c.val + 1) % 16, Nat.mod_lt _ (by decide)⟩

theorem up_dn (δ : Fin 2) (c : Dev nD) : up δ (dn δ c) = c := by revert δ c; decide
theorem dn_up (δ : Fin 2) (c : Dev nD) : dn δ (up δ c) = c := by revert δ c; decide

theorem dev1_val (c : Dev nD) : k0_dev1 c = (c.val + 15) % 16 := by revert c; decide
theorem dev2_val (c : Dev nD) : k0_dev2 c = (c.val + 1) % 16 := by revert c; decide

theorem downP_eq (c : Dev nD) (δ : Fin 2) : downP c δ = dn δ c := by
  fin_cases δ
  · exact Fin.ext (dev2_val c)
  · exact Fin.ext (dev1_val c)
theorem upP_eq (c : Dev nD) (δ : Fin 2) : upP c δ = up δ c := by
  fin_cases δ
  · exact Fin.ext (dev1_val c)
  · exact Fin.ext (dev2_val c)

/-- The device `h` steps upstream. -/
def org (δ : Fin 2) (c : Dev nD) (h : ℕ) : Dev nD :=
  if δ = 0 then ⟨(c.val + 15 * h) % 16, Nat.mod_lt _ (by decide)⟩ else ⟨(c.val + h) % 16, Nat.mod_lt _ (by decide)⟩

theorem org_zero (δ : Fin 2) (c : Dev nD) : org δ c 0 = c := by revert δ c; decide

/-- What is `h` steps upstream of `c` is `h + 1` steps upstream of the next device. -/
theorem org_dn (δ : Fin 2) (c : Dev nD) (h : ℕ) : org δ (dn δ c) (h + 1) = org δ c h := by
  fin_cases δ
  · apply Fin.ext; simp only [org, dn, Fin.zero_eta, if_pos]; omega
  · apply Fin.ext; simp only [org, dn, Fin.mk_one, if_neg (show (1 : Fin 2) ≠ 0 by decide)]; omega

/-- Lane `ℓ` takes part in hop `h`: the eighth hop carries half of the data only. -/
def Active (h : ℕ) (ℓ : Fin 8) : Prop := h ≤ 7 ∨ (h = 8 ∧ half ℓ = dir ℓ)
instance (h : ℕ) (ℓ : Fin 8) : Decidable (Active h ℓ) := by unfold Active; infer_instance

theorem active_of_le {h : ℕ} (hh : h ≤ 7) (ℓ : Fin 8) : Active h ℓ := .inl hh
theorem Active.le {h : ℕ} {ℓ : Fin 8} (a : Active h ℓ) : h ≤ 8 := by unfold Active at a; omega
theorem active_mono {h h' : ℕ} {ℓ : Fin 8} (a : Active h ℓ) (hle : h' ≤ h) : Active h' ℓ := by
  unfold Active at *; rcases a with a | ⟨a, b⟩
  · left; omega
  · by_cases h' ≤ 7
    · left; assumption
    · right; exact ⟨by omega, b⟩

/-! ## The resources -/

/-- A slot to be released: a device, a lane, and which content it held. -/
abbrev Key : Type := Dev nD × Fin 8 × ℕ

abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s block of queries, -/
def qstg (c : Dev nD) : (cc0_stg0_0 : Ref sig .tc).ty.Contents (Elt F) :=
  (win0_0.blk (0 : Fin 1)).view.read (Elt F) ((s₀ m ρ).mem ((c : Thread nD τ).loc main_arg0))
/-- of keys, -/
def kstg (c : Dev nD) : (cc0_stg1_0 : Ref sig .tc).ty.Contents (Elt F) :=
  (win0_1.blk (0 : Fin 1)).view.read (Elt F) ((s₀ m ρ).mem ((c : Thread nD τ).loc main_arg1))
/-- and of values. -/
def vstg (c : Dev nD) : (cc0_stg2_0 : Ref sig .tc).ty.Contents (Elt F) :=
  (win0_2.blk (0 : Fin 1)).view.read (Elt F) ((s₀ m ρ).mem ((c : Thread nD τ).loc main_arg2))

/-- The keys of device `o`, as the ring carries them, -/
def kblk (o : Dev nD) : Vec F S1x1024x128 .bf16 := k0_pay4 (kstg m ρ o)
/-- and the values. -/
def vblk (o : Dev nD) : Vec F S1x1024x128 .bf16 := k0_pay4 (vstg m ρ o)

/-- A block at every slot of a buffer. -/
def spread (B : Vec F S1x1024x128 .bf16) : S4x1024x128.Idx → Elt F .bf16 :=
  fun i => B fun a => match a with | 0 => ⟨0, by decide⟩ | 1 => i 1 | 2 => i 2

/-- The block of device `o` lane `ℓ` carries, as contents of the lane's buffer. -/
def cont (ℓ : Fin 8) (c o : Dev nD) : Buf (Elt F) ((laneM ℓ).view.loc (c : Thread nD τ)) :=
  match ℓ with
  | 0 => spread (kblk m ρ o) | 1 => spread (kblk m ρ o) | 2 => spread (kblk m ρ o) | 3 => spread (kblk m ρ o)
  | 4 => spread (vblk m ρ o) | 5 => spread (vblk m ρ o) | 6 => spread (vblk m ρ o) | 7 => spread (vblk m ρ o)

/-- The lane's half of slot `s` of device `c`, holding the block of device `o`, at share `q`. -/
def reg (ℓ : Fin 8) (c : Dev nD) (s : Fin 4) (q : PosShare TreeShare) (o : Dev nD) : sProp 𝕄 :=
  (laneM ℓ).view.loc (c : Thread nD τ) ↦[(chunk ℓ s).view.set]{q} cont m ρ ℓ c o

/-- The lane's half of slot `s` of device `c`, holding anything. -/
def anyReg (ℓ : Fin 8) (c : Dev nD) (s : Fin 4) : sProp 𝕄 := slot ((laneM ℓ).view.loc (c : Thread nD τ)) (chunk ℓ s).view.set

theorem pts_storable (ℓ : Loc nD τ sig) (I : Finset (Idx ℓ)) (q : PosShare TreeShare) (f : Buf (Elt F) ℓ) : BI.Storable (upEmb : UEmb _ 𝕄) (ℓ ↦[I]{q} f) := inferInstance
instance reg_storable (ℓ : Fin 8) (c : Dev nD) (s : Fin 4) (q : PosShare TreeShare) (o : Dev nD) : BI.Storable (upEmb : UEmb _ 𝕄) (reg (F := F) m ρ ℓ c s q o) :=
  pts_storable _ _ _ _
instance anyReg_storable (ℓ : Fin 8) (c : Dev nD) (s : Fin 4) : BI.Storable (upEmb : UEmb _ 𝕄) (anyReg (F := F) ℓ c s) :=
  slot_storable _ _

theorem reg_any (ℓ : Fin 8) (c : Dev nD) (s : Fin 4) (o : Dev nD) : reg (F := F) m ρ ℓ c s fullShare o ⊢ anyReg ℓ c s := by
  unfold reg anyReg slot; iintro H; iexists _; iexact H

/-! ## The cells -/

/-- The semaphores of the protocol on one device. -/
inductive Ch where
  | bar | cred (δ : Fin 2) | send (ℓ : Fin 8) (s : Fin 4) | recv (ℓ : Fin 8) (s : Fin 4)
deriving DecidableEq

/-- A channel as one of 67 indices, and back. -/
def Ch.equiv : Ch ≃ (Unit ⊕ Fin 2) ⊕ (Fin 8 × Fin 4) ⊕ (Fin 8 × Fin 4) where
  toFun | .bar => .inl (.inl ()) | .cred δ => .inl (.inr δ) | .send ℓ s => .inr (.inl (ℓ, s)) | .recv ℓ s => .inr (.inr (ℓ, s))
  invFun | .inl (.inl ()) => .bar | .inl (.inr δ) => .cred δ | .inr (.inl (ℓ, s)) => .send ℓ s | .inr (.inr (ℓ, s)) => .recv ℓ s
  left_inv k := by cases k <;> rfl
  right_inv k := by rcases k with (⟨⟩ | _) | (⟨_, _⟩ | ⟨_, _⟩) <;> rfl

instance : Fintype Ch := Fintype.ofEquiv _ Ch.equiv.symm

/-- The semaphore of a channel. -/
def csem : Ch → SemLoc sig
  | .bar => .reg barS.sem | .cred δ => .reg (credS δ).sem | .send ℓ s => .dma (sendSem ℓ s) | .recv ℓ s => .dma (recvSem ℓ s)

theorem sendSem_inj : Function.Injective fun p : Fin 8 × Fin 4 => sendSem p.1 p.2 := by decide
theorem recvSem_inj : Function.Injective fun p : Fin 8 × Fin 4 => recvSem p.1 p.2 := by decide
theorem sendSem_ne_recvSem : ∀ p p' : Fin 8 × Fin 4, sendSem p.1 p.2 ≠ recvSem p'.1 p'.2 := by decide

theorem csem_inj : Function.Injective csem := by
  intro a b h
  cases a <;> cases b <;> simp only [csem, SemLoc.reg.injEq, SemLoc.dma.injEq, reduceCtorEq] at h
  · rfl
  · exact absurd h (by rename_i δ; revert δ; decide)
  · exact absurd h (by rename_i δ; revert δ; decide)
  · rename_i δ δ'; exact congrArg Ch.cred (by revert δ δ'; decide)
  · rename_i ℓ s ℓ' s'; have := sendSem_inj (a₁ := (ℓ, s)) (a₂ := (ℓ', s')) h; cases this; rfl
  · rename_i ℓ s ℓ' s'; exact absurd h (sendSem_ne_recvSem (ℓ, s) (ℓ', s'))
  · rename_i ℓ s ℓ' s'; exact absurd h.symm (sendSem_ne_recvSem (ℓ', s') (ℓ, s))
  · rename_i ℓ s ℓ' s'; have := recvSem_inj (a₁ := (ℓ, s)) (a₂ := (ℓ', s')) h; cases this; rfl

/-- The cell of a channel on a device. -/
def kcell (ck : Dev nD × Ch) : GSem nD τ sig := ((ck.1 : Thread nD τ), csem ck.2)

theorem kcell_inj : Function.Injective kcell := by
  rintro ⟨c, k⟩ ⟨c', k'⟩ h
  have h1 : c = c' := congrArg (fun g : GSem nD τ sig => g.1.1) h
  have h2 : k = k' := csem_inj (congrArg (fun g : GSem nD τ sig => g.2) h)
  rw [h1, h2]

open Classical in
/-- Which channel's cell a cell is. -/
def kindOf (g : GSem nD τ sig) : Option (Dev nD × Ch) := if h : ∃ ck, kcell ck = g then some h.choose else none

theorem kindOf_kcell (ck : Dev nD × Ch) : kindOf (kcell ck) = some ck := by
  unfold kindOf
  rw [dif_pos ⟨ck, rfl⟩]
  exact congrArg some (kcell_inj (Exists.choose_spec (⟨ck, rfl⟩ : ∃ ck', kcell ck' = kcell ck)))

/-! ## The schedule -/

/-- The units a copy of one half slot credits. -/
def N : ℕ := (chunk 0 0).view.dmaCredit
theorem N_pos : 0 < N := View.dmaCredit_pos _ (by decide)

/-- The hop a receive cell's round is for, -/
def rhop (s : Fin 4) (r : ℕ) : ℕ := 4 * r + (if s.val = 0 then 4 else s.val)
/-- and a send cell's. -/
def shop (s : Fin 4) (r : ℕ) : ℕ := 4 * r + s.val + 1

def duties (k : Ch) (r : ℕ) : Finset ℕ :=
  match k with
  | .bar => if r = 0 then {0, 1} else ∅
  | .cred _ => if r = 0 then Finset.range 5 else ∅
  | .send ℓ s => if Active (shop s r) ℓ then {0} else ∅
  | .recv ℓ s => if Active (rhop s r) ℓ then {0} else ∅

def amount (k : Ch) : ℕ := match k with | .bar => 1 | .cred _ => 1 | .send _ _ => N | .recv _ _ => N

/-- That the slot of content `j` of lane `ℓ` of device `c` is free for hop `j + 4`, and that its receive cell awaits that hop. -/
def freed (c : Dev nD) (ℓ : Fin 8) (j : ℕ) : sProp 𝕄 :=
  if Active (j + 4) ℓ then iprop(released ES (c, ℓ, j) 1 ∗ reached ER (kcell (c, .recv ℓ (slotOf (j + 4)))) ((j + 3) / 4)) else iprop(emp)

instance freed_storable (c : Dev nD) (ℓ : Fin 8) (j : ℕ) : BI.Storable (upEmb : UEmb _ 𝕄) (freed (F := F) c ℓ j) := by
  unfold freed; split <;> infer_instance
instance freed_persistent (c : Dev nD) (ℓ : Fin 8) (j : ℕ) : BI.Persistent (freed (F := F) c ℓ j) := by
  unfold freed; split <;> infer_instance

/-- The lanes of a direction. -/
def lanesOf (δ : Fin 2) : Finset (Fin 8) := Finset.univ.filter fun ℓ => dir ℓ = δ

/-- The three slots the neighbour may write from the start. -/
def barPay (δ : Fin 2) (c : Dev nD) : sProp 𝕄 := bigSep (lanesOf δ) fun ℓ => bigSep (Finset.Ico 1 4) fun h => anyReg ℓ c (slotOf h)

/-- Everything about lanes of direction `δ` freed up to content `k`. -/
def freedTo (δ : Fin 2) (c : Dev nD) (k : ℕ) : sProp 𝕄 := bigSep (lanesOf δ) fun ℓ => bigSep (Finset.range (k + 1)) fun j => freed c ℓ j

def payAt (c : Dev nD) (k : Ch) (r d : ℕ) : sProp 𝕄 :=
  match k with
  | .bar => if d = 0 then barPay 0 (dn 0 c) else barPay 1 (dn 1 c)
  | .cred δ => freedTo δ (dn δ c) d
  | .send ℓ s => reg m ρ ℓ c s fullShare.right (org (dir ℓ) c (shop s r - 1))
  | .recv ℓ s => reg m ρ ℓ c s fullShare (org (dir ℓ) c (rhop s r))

instance payAt_storable (c : Dev nD) (k : Ch) (r d : ℕ) : BI.Storable (upEmb : UEmb _ 𝕄) (payAt (F := F) m ρ c k r d) := by
  cases k <;> dsimp only [payAt]
  · unfold barPay; split <;> infer_instance
  · unfold freedTo; infer_instance
  all_goals infer_instance

/-- The schedule. -/
def Rd : Schedule (GSem nD τ sig) ℕ 𝕄 where
  duties g r := match kindOf g with | some (_, k) => duties k r | none => ∅
  unitless _ := False
  amount g _ _ := match kindOf g with | some (_, k) => amount k | none => 1
  payload g r d := match kindOf g with | some (c, k) => payAt m ρ c k r d | none => iprop(emp)
  amount_pos g _ _ _ := by
    cases kindOf g with
    | none => exact Nat.one_pos
    | some p => obtain ⟨_, k⟩ := p; cases k <;> first | exact Nat.one_pos | exact N_pos

instance Rd_storable (g : GSem nD τ sig) (r d : ℕ) : BI.Storable (upEmb : UEmb _ 𝕄) ((Rd (F := F) m ρ).payload g r d) := by
  show BI.Storable upEmb (match kindOf g with | some (c, k) => payAt m ρ c k r d | none => iprop(emp))
  split <;> infer_instance

theorem Rd_duties (c : Dev nD) (k : Ch) (r : ℕ) : (Rd (F := F) m ρ).duties (kcell (c, k)) r = duties k r := by
  dsimp only [Rd]; rw [kindOf_kcell]
theorem Rd_amount (c : Dev nD) (k : Ch) (r d : ℕ) : (Rd (F := F) m ρ).amount (kcell (c, k)) r d = amount k := by
  dsimp only [Rd]; rw [kindOf_kcell]
theorem Rd_payload (c : Dev nD) (k : Ch) (r d : ℕ) : (Rd (F := F) m ρ).payload (kcell (c, k)) r d = payAt m ρ c k r d := by
  dsimp only [Rd]; rw [kindOf_kcell]
theorem Rd_expect (c : Dev nD) (k : Ch) (r : ℕ) : (Rd (F := F) m ρ).expect (kcell (c, k)) r = (duties k r).card * amount k := by
  unfold Schedule.expect Schedule.amountOf
  rw [Rd_duties, Finset.sum_congr rfl fun d _ => Rd_amount m ρ c k r d, Finset.sum_const, smul_eq_mul]

/-- From round 2 on no cell has a duty. -/
theorem duties_late (k : Ch) (r : ℕ) (hr : 2 ≤ r) : duties k r = ∅ := by
  cases k with
  | bar => exact if_neg (by omega)
  | cred δ => exact if_neg (by omega)
  | send ℓ s => exact if_neg fun h => by have := h.le; unfold shop at this; omega
  | recv ℓ s =>
    refine if_neg fun h => ?_
    have := h.le; unfold rhop at this; split at this <;> omega

/-! ## What a device owes: one event after another

Event `10 r + j` is hop `r` of lane `j` for `j < 8`; for `j = 8, 9` it is the signal of direction `j - 8` ending round `r` — a
credit for `2 ≤ r ≤ 6`, and at `r = 0` the barrier. -/

def dueCh (i : ℕ) : Ch :=
  if h : i % 10 < 8 then .recv ⟨i % 10, h⟩ (slotOf (i / 10))
  else if i / 10 = 0 then .bar else .cred ⟨(i % 10 - 8) % 2, Nat.mod_lt _ (by decide)⟩

/-- The direction of an event, -/
def dueDir (i : ℕ) : Fin 2 := if h : i % 10 < 8 then dir ⟨i % 10, h⟩ else ⟨(i % 10 - 8) % 2, Nat.mod_lt _ (by decide)⟩

/-- whom it goes to, -/
def dueDev (i : ℕ) (c : Dev nD) : Dev nD := if i % 10 < 8 then dn (dueDir i) c else up (dueDir i) c
def dueFrom (i : ℕ) (c : Dev nD) : Dev nD := if i % 10 < 8 then up (dueDir i) c else dn (dueDir i) c

theorem dueDev_dueFrom (i : ℕ) (c : Dev nD) : dueDev i (dueFrom i c) = c := by
  unfold dueDev dueFrom; split
  · exact dn_up _ _
  · exact up_dn _ _
theorem dueFrom_dueDev (i : ℕ) (c : Dev nD) : dueFrom i (dueDev i c) = c := by
  unfold dueDev dueFrom; split
  · exact up_dn _ _
  · exact dn_up _ _

/-- and how many units. -/
def dueAmt (i : ℕ) : ℕ :=
  if h : i % 10 < 8 then (if 1 ≤ i / 10 ∧ Active (i / 10) ⟨i % 10, h⟩ then N else 0)
  else if i / 10 = 0 ∨ (2 ≤ i / 10 ∧ i / 10 ≤ 6) then 1 else 0

/-- Event `i` of device `c`. -/
def due (i : ℕ) (c : Dev nD) : CellTallies nD τ sig ℕ := tallyAt (kcell (dueDev i c, dueCh i)) (i / 10 + 1) (dueAmt i)

/-- What is still owed before event `p`. -/
def owed (p : ℕ) (c : Dev nD) : CellTallies nD τ sig ℕ := ∑ i ∈ Finset.Ico p 90, due i c

theorem owed_step {p : ℕ} (hp : p < 90) (c : Dev nD) : owed p c = owed (p + 1) c + due p c := by
  unfold owed; rw [Finset.sum_eq_sum_Ico_succ_bot hp, add_comm]

theorem owed_end (c : Dev nD) : owed 90 c = 0 := by unfold owed; rw [Finset.Ico_self, Finset.sum_empty]

theorem due_zero {i : ℕ} (h : dueAmt i = 0) (c : Dev nD) : due i c = 0 := by unfold due; rw [h, tallyAt_zero]

theorem owed_skip {p : ℕ} (hp : p < 90) (h : dueAmt p = 0) (c : Dev nD) : owed p c = owed (p + 1) c := by
  rw [owed_step hp, due_zero h, add_zero]

/-- Indices of the tallies: 0 for staging and read-outs, `r + 1` for what happens in round `r`. They are their own levels. -/
def L (g : GSem nD τ sig) : Finset ℕ := if g.1.2 = .tc then Finset.range 20 else ∅
def lv (_ : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 20 := if_pos rfl

theorem owed_pos {p : ℕ} {c : Dev nD} {g : GSem nD τ sig} {ι : ℕ} (h : 0 < owed p c g ι) : ∃ i, p ≤ i ∧ i < 90 ∧ g.1.2 = .tc ∧ ι = i / 10 + 1 := by
  unfold owed at h
  rw [Finset.sum_apply, Finsupp.finsetSum_apply] at h
  obtain ⟨i, hi, hpos⟩ := Finset.exists_ne_zero_of_sum_ne_zero (Nat.pos_iff_ne_zero.mp h)
  obtain ⟨hg, hι⟩ := Pipeline.tallyAt_pos (Nat.pos_of_ne_zero hpos)
  rw [Finset.mem_Ico] at hi
  exact ⟨i, hi.1, hi.2, by rw [hg]; rfl, hι⟩

/-- A device may wait at index `ι` when every event it still owes is of round `ι` or later. -/
theorem mayWait (p ι : ℕ) (hι : ι < 20) (hp : 10 * ι ≤ p) (c : Dev nD) (sm : SemLoc sig) :
    (levAts L lv : sProp 𝕄) ⊢ MayWait (c : Thread nD τ) sm ι (owed p c) :=
  MayOwe.of_cut (L := L) (lev := lv) ι
    (fun q hq => by rw [Finset.mem_singleton.mp hq, L_tc]; exact Finset.mem_range.mpr hι)
    (fun g u hg => by
      obtain ⟨i, hi, hi', hc, rfl⟩ := owed_pos hg
      unfold L; rw [if_pos hc]; exact Finset.mem_range.mpr (by omega))
    (fun q hq => by rw [Finset.mem_singleton.mp hq]; exact le_refl _)
    (fun g u hg => by
      obtain ⟨i, hi, hi', hc, rfl⟩ := owed_pos hg
      unfold lv; omega)

end Cert.Proof

end
-- ==== Proof.Geometry.lean ====
/-
  The GEOMETRY of the buffers: a buffer is four slots of two halves each; a half slot's elements, read and written by copies;
  a lane and the lane of the other half make a slot.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)

/-- The elements of half `h` of slot `s`, -/
def halfSet (s : Fin 4) (h : Fin 2) : Finset S4x1024x128.Idx := (Rect.unit (s := S4x1024x128) ![s.val, 512 * h.val, 0] S1x512x128.size (inb_chunk s h)).set
/-- and of the slot. -/
def slotSet (s : Fin 4) : Finset S4x1024x128.Idx := (Rect.unit (s := S4x1024x128) ![s.val, 0, 0] S1x1024x128.size (inb_slot s)).set

theorem mem_halfSet (s : Fin 4) (h : Fin 2) (i : S4x1024x128.Idx) :
    i ∈ halfSet s h ↔ (i 0).val = s.val ∧ 512 * h.val ≤ (i 1).val ∧ (i 1).val < 512 * h.val + 512 := by
  unfold halfSet
  refine (Rect.mem_set_unit (s := S4x1024x128)).trans ⟨fun H => ?_, fun ⟨h0, h1, h1'⟩ a => ?_⟩
  · have H0 : s.val ≤ (i 0).val ∧ (i 0).val < s.val + 1 := H 0
    have H1 : 512 * h.val ≤ (i 1).val ∧ (i 1).val < 512 * h.val + 512 := H 1
    exact ⟨by omega, H1⟩
  · match a with
    | 0 => exact (show s.val ≤ (i 0).val ∧ (i 0).val < s.val + 1 by omega)
    | 1 => exact (show 512 * h.val ≤ (i 1).val ∧ (i 1).val < 512 * h.val + 512 from ⟨h1, h1'⟩)
    | 2 => exact (show 0 ≤ (i 2).val ∧ (i 2).val < 0 + 128 from ⟨Nat.zero_le _, by have := (i 2).isLt; change _ < 128 at this; omega⟩)

theorem mem_slotSet (s : Fin 4) (i : S4x1024x128.Idx) : i ∈ slotSet s ↔ (i 0).val = s.val := by
  unfold slotSet
  refine (Rect.mem_set_unit (s := S4x1024x128)).trans ⟨fun H => ?_, fun h0 a => ?_⟩
  · have H0 : s.val ≤ (i 0).val ∧ (i 0).val < s.val + 1 := H 0
    omega
  · match a with
    | 0 => exact (show s.val ≤ (i 0).val ∧ (i 0).val < s.val + 1 by omega)
    | 1 => exact (show 0 ≤ (i 1).val ∧ (i 1).val < 0 + 1024 from ⟨Nat.zero_le _, by have := (i 1).isLt; change _ < 1024 at this; omega⟩)
    | 2 => exact (show 0 ≤ (i 2).val ∧ (i 2).val < 0 + 128 from ⟨Nat.zero_le _, by have := (i 2).isLt; change _ < 128 at this; omega⟩)

theorem halves_union (s : Fin 4) : halfSet s 0 ∪ halfSet s 1 = slotSet s := by
  ext i
  rw [Finset.mem_union, mem_halfSet, mem_halfSet, mem_slotSet]
  have := (i 1).isLt; change _ < 1024 at this
  have e0 : ((0 : Fin 2) : ℕ) = 0 := rfl
  have e1 : ((1 : Fin 2) : ℕ) = 1 := rfl
  rw [e0, e1]; omega

theorem halves_disjoint (s : Fin 4) : Disjoint (halfSet s 0) (halfSet s 1) :=
  Finset.disjoint_left.mpr fun i h0 h1 => by
    rw [mem_halfSet] at h0 h1
    have e0 : ((0 : Fin 2) : ℕ) = 0 := rfl
    have e1 : ((1 : Fin 2) : ℕ) = 1 := rfl
    rw [e0] at h0; rw [e1] at h1; omega

/-- A lane's half slot, as elements of its buffer. -/
theorem chunk_set (ℓ : Fin 8) (s : Fin 4) : (chunk ℓ s).view.set = (Finset.map (laneM ℓ).view.emb (halfSet s (half ℓ))) :=
  ((View.set_reshape _ _).trans (View.set_slice _ _))

theorem chunk_nonempty (ℓ : Fin 8) (s : Fin 4) : (chunk ℓ s).view.set.Nonempty := by
  refine (Finset.Nonempty.map (f := (laneM ℓ).view.emb) ?_ : (Finset.map (laneM ℓ).view.emb (halfSet s (half ℓ))).Nonempty).mono (chunk_set ℓ s).ge
  refine ⟨fun a => match a with | 0 => s | 1 => ⟨512 * (half ℓ).val, by have := (half ℓ).isLt; show _ < 1024; omega⟩ | 2 => ⟨0, by decide⟩, ?_⟩
  rw [mem_halfSet]; exact ⟨rfl, le_refl _, Nat.lt_add_of_pos_right (by decide)⟩

theorem anyReg_excl (ℓ : Fin 8) (c : Dev nD) (s : Fin 4) : iprop(anyReg (F := F) ℓ c s ∗ anyReg ℓ c s) ⊢ False :=
  slot_slot_false (chunk_nonempty ℓ s)

/-! ## A copy lands the content -/

theorem spread_congr (B : Vec F S1x1024x128 .bf16) {i j : S4x1024x128.Idx} (h1 : i 1 = j 1) (h2 : i 2 = j 2) : spread B i = spread B j :=
  congrArg B (funext fun a => match a with | 0 => rfl | 1 => h1 | 2 => h2)

theorem spread_at (B : Vec F S1x1024x128 .bf16) (i : S4x1024x128.Idx) (x : S1x1024x128.Idx) (h1 : i 1 = x 1) (h2 : i 2 = x 2) : spread B i = B x :=
  congrArg B (funext fun a => match a with
    | 0 => Fin.ext (by have := (x 0).isLt; change _ < 1 at this; show 0 = (x 0).val; omega) | 1 => h1 | 2 => h2)

/-- What is read through a half slot of a buffer holding a block everywhere is written as that block to any other slot. -/
theorem landed (ℓ : Fin 8) (c c' : Dev nD) (s s' : Fin 4) (o : Dev nD) (fd : Buf (Elt F) ((laneM ℓ).view.loc (c' : Thread nD τ))) :
    ∀ i ∈ (chunk ℓ s').view.set,
      (chunk ℓ s').view.write (Elt F) fd ((chunk ℓ s).view.read (Elt F) (cont m ρ ℓ c o)) Finset.univ i = cont m ρ ℓ c' o i := by
  intro i hi
  obtain ⟨x, -, rfl⟩ := Finset.mem_map.mp hi
  refine ((View.write_emb (Val := Elt F) (v := (chunk ℓ s').view) fd _ Finset.univ x).trans (if_pos (Finset.mem_univ x))).trans ?_
  refine ((congrArg (cast _) (View.read_apply (v := (chunk ℓ s).view) (Val := Elt F) (cont m ρ ℓ c o) x)).trans (cast_cast _ _ _)).trans ?_
  exact match ℓ with
    | 0 => spread_congr (i := (chunk 0 s).view.emb x) (j := (chunk 0 s').view.emb x) (kblk m ρ o) (Fin.ext rfl) (Fin.ext rfl)
    | 1 => spread_congr (i := (chunk 1 s).view.emb x) (j := (chunk 1 s').view.emb x) (kblk m ρ o) (Fin.ext rfl) (Fin.ext rfl)
    | 2 => spread_congr (i := (chunk 2 s).view.emb x) (j := (chunk 2 s').view.emb x) (kblk m ρ o) (Fin.ext rfl) (Fin.ext rfl)
    | 3 => spread_congr (i := (chunk 3 s).view.emb x) (j := (chunk 3 s').view.emb x) (kblk m ρ o) (Fin.ext rfl) (Fin.ext rfl)
    | 4 => spread_congr (i := (chunk 4 s).view.emb x) (j := (chunk 4 s').view.emb x) (vblk m ρ o) (Fin.ext rfl) (Fin.ext rfl)
    | 5 => spread_congr (i := (chunk 5 s).view.emb x) (j := (chunk 5 s').view.emb x) (vblk m ρ o) (Fin.ext rfl) (Fin.ext rfl)
    | 6 => spread_congr (i := (chunk 6 s).view.emb x) (j := (chunk 6 s').view.emb x) (vblk m ρ o) (Fin.ext rfl) (Fin.ext rfl)
    | 7 => spread_congr (i := (chunk 7 s).view.emb x) (j := (chunk 7 s').view.emb x) (vblk m ρ o) (Fin.ext rfl) (Fin.ext rfl)

/-! ## A slot is two half slots -/

/-- A pair of lanes: those of the two halves of one buffer, named by the first. -/
def mate : Fin 4 → Fin 8 × Fin 8 | 0 => (0, 2) | 1 => (4, 6) | 2 => (1, 3) | 3 => (5, 7)

/-- Slot `s` of the buffer of pair `b` on device `c`, held at contents `f`. -/
def slotPts (b : Fin 4) (c : Dev nD) (s : Fin 4) (q : PosShare TreeShare) (f : Buf (Elt F) ((laneM (mate b).1).view.loc (c : Thread nD τ))) : sProp 𝕄 :=
  (laneM (mate b).1).view.loc (c : Thread nD τ) ↦[(laneM (mate b).1).view.setOn (slotSet s)]{q} f

theorem setOn_union_of {κ : Kind} {sp : Space} {sh : Shape} {e : EltTy} (v : View sig κ sp sh e) (A B C : Finset sh.Idx) (h : A ∪ B = C) :
    v.setOn A ∪ v.setOn B = v.setOn C := by subst h; exact (Finset.map_union _ _).symm

/-- The two half slots of a pair, as one slot. -/
theorem pair_eq (b : Fin 4) (c : Dev nD) (s : Fin 4) (q : PosShare TreeShare) (o : Dev nD) :
    iprop(reg (F := F) m ρ (mate b).1 c s q o ∗ reg m ρ (mate b).2 c s q o) = slotPts b c s q (cont m ρ (mate b).1 c o) := by
  have key : ∀ (M : Memref sig .tc .vmem S4x1024x128 .bf16) (f : Buf (Elt F) (M.view.loc (c : Thread nD τ))),
      iprop((M.view.loc (c : Thread nD τ) ↦[M.view.setOn (halfSet s 0)]{q} f) ∗ (M.view.loc (c : Thread nD τ) ↦[M.view.setOn (halfSet s 1)]{q} f))
        = (M.view.loc (c : Thread nD τ) ↦[M.view.setOn (slotSet s)]{q} f : sProp 𝕄) := fun M f => by
    rw [← setOn_union_of M.view _ _ _ (halves_union s)]
    have hu := pointsTo_union (Val := Elt F) (q := q) (f := f) (Ix := ℕ) (Name := ℕ) (U := UU) (Lvl := ℕ)
      ((Finset.disjoint_map M.view.emb).mpr (halves_disjoint s) : Disjoint (M.view.setOn (halfSet s 0)) (M.view.setOn (halfSet s 1)))
    exact BI.equiv_iff.mp ⟨hu.2, hu.1⟩
  have hreg : ∀ ℓ, reg (F := F) m ρ ℓ c s q o
      = ((laneM ℓ).view.loc (c : Thread nD τ) ↦[(laneM ℓ).view.setOn (halfSet s (half ℓ))]{q} cont m ρ ℓ c o : sProp 𝕄) := fun ℓ =>
    congrArg (fun I : Finset (Idx ((laneM ℓ).view.loc (c : Thread nD τ))) => ((laneM ℓ).view.loc (c : Thread nD τ) ↦[I]{q} cont m ρ ℓ c o : sProp 𝕄)) (chunk_set ℓ s)
  rw [hreg, hreg]
  fin_cases b
  · exact key (laneM 0) _
  · exact key (laneM 4) _
  · exact key (laneM 1) _
  · exact key (laneM 5) _

/-! ## The programs that load and store slots -/

abbrev 𝒱₀ : Variants := Variants.none

/-- The weakest precondition of a program of the body on device `c`. -/
abbrev WP (c : Dev nD) {α : Type} (p : P F α) (Q : α → sProp 𝕄) : sProp 𝕄 := wp frame (wpE (defs₀ (F := F)) 𝒱₀ (c : Thread nD τ) none) Set.univ p Q

/-- The block a pair's buffer carries. -/
def pblk (b : Fin 4) (o : Dev nD) : Vec F S1x1024x128 .bf16 := match b with | 0 => kblk m ρ o | 1 => vblk m ρ o | 2 => kblk m ρ o | 3 => vblk m ρ o

theorem slot_value (b : Fin 4) (c : Dev nD) (s : Fin 4) (o : Dev nD) :
    (laneM (mate b).1).view.readAt (Elt F) (Rect.unit (s := S4x1024x128) ![s.val, 0, 0] S1x1024x128.size (inb_slot s)).toLoadRect (cont m ρ (mate b).1 c o) = pblk m ρ b o := by
  funext x
  have h1 : ((Rect.unit (s := S4x1024x128) ![s.val, 0, 0] S1x1024x128.size (inb_slot s)).emb x) 1 = x 1 := Fin.ext (by show 0 + 1 * (x 1).val = (x 1).val; omega)
  have h2 : ((Rect.unit (s := S4x1024x128) ![s.val, 0, 0] S1x1024x128.size (inb_slot s)).emb x) 2 = x 2 := Fin.ext (by show 0 + 1 * (x 2).val = (x 2).val; omega)
  exact match b with
    | 0 => spread_at (kblk m ρ o) _ x h1 h2
    | 1 => spread_at (vblk m ρ o) _ x h1 h2
    | 2 => spread_at (kblk m ρ o) _ x h1 h2
    | 3 => spread_at (vblk m ρ o) _ x h1 h2

theorem wp_loadSlot (b : Fin 4) (c : Dev nD) (s : Fin 4) (q : PosShare TreeShare) (o : Dev nD) :
    slotPts (F := F) b c s q (cont m ρ (mate b).1 c o)
      ⊢ WP c (loadSlot (laneM (mate b).1) s) (fun x => iprop(⌜x = pblk m ρ b o⌝ ∗ slotPts b c s q (cont m ρ (mate b).1 c o))) := by
  unfold slotPts loadSlot
  simp only [Prog.lift]
  iintro H
  iapply (wp_load 𝒱₀ (c : Thread nD τ) none Set.univ (m := laneM (mate b).1)
    (r := (Rect.unit (s := S4x1024x128) ![s.val, 0, 0] S1x1024x128.size (inb_slot s)).toLoadRect) (S := (laneM (mate b).1).view.setOn (slotSet s))
    (Finset.Subset.refl _)) $$ H
  iintro H
  rw [wp_ret]; imodintro
  isplitr
  · ipureintro; exact slot_value m ρ b c s o
  · iexact H

end Cert.Proof

end
-- ==== Proof.Steps.lean ====
/-
  The STEPS of one lane: the rule of each copy started and each copy awaited, on the protocol's cells.
-/
module

public import proofs.«01_k».proof.Proof.Geometry

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-! ## The shared records -/

/-- The slots that are released. -/
def keys : Finset Key := Finset.univ ×ˢ Finset.univ ×ˢ Finset.range 5

/-- What every device knows: the invariants of all cells and of all released slots, and the levels. -/
def invs : sProp 𝕄 :=
  iprop((bigSep Finset.univ fun ck => cellInv ER (Rd m ρ) (K ck) (kcell ck))
    ∗ (bigSep Finset.univ fun ck => reached ER (kcell ck) 0)
    ∗ (bigSep keys fun k => slotInv ES (ιs k) k (anyReg k.2.1 k.1 (slotOf k.2.2)))
    ∗ levAts L lv)

instance invs_persistent : BI.Persistent (invs (F := F) m ρ K ιs) := by unfold invs; infer_instance

theorem invs_cell (ck : Dev nD × Ch) : invs (F := F) m ρ K ιs ⊢ cellInv ER (Rd m ρ) (K ck) (kcell ck) := by
  have h : (bigSep Finset.univ fun ck => cellInv (ER (F := F)) (Rd m ρ) (K ck) (kcell ck)) ⊢ cellInv ER (Rd m ρ) (K ck) (kcell ck) := bigSep_elim (Finset.mem_univ ck)
  unfold invs
  iintro ⟨H, -, -, -⟩
  iapply h; iexact H

theorem invs_reached (ck : Dev nD × Ch) : invs (F := F) m ρ K ιs ⊢ reached ER (kcell ck) 0 := by
  have h : (bigSep Finset.univ fun ck => reached (ER (F := F)) (kcell ck) 0) ⊢ reached ER (kcell ck) 0 := bigSep_elim (Finset.mem_univ ck)
  unfold invs
  iintro ⟨-, H, -, -⟩
  iapply h; iexact H

theorem invs_slot (c : Dev nD) (ℓ : Fin 8) (j : ℕ) (hj : j < 5) :
    invs (F := F) m ρ K ιs ⊢ slotInv ES (ιs (c, ℓ, j)) (c, ℓ, j) (anyReg ℓ c (slotOf j)) := by
  have h : (bigSep keys fun k => slotInv (ES (F := F)) (ιs k) k (anyReg k.2.1 k.1 (slotOf k.2.2))) ⊢ slotInv ES (ιs (c, ℓ, j)) (c, ℓ, j) (anyReg ℓ c (slotOf j)) :=
    bigSep_elim (i := ((c, ℓ, j) : Key)) (by unfold keys; simp only [Finset.mem_product, Finset.mem_univ, true_and, Finset.mem_range]; exact hj)
  unfold invs
  iintro ⟨-, -, H, -⟩
  iapply h; iexact H

theorem invs_lev : invs (F := F) m ρ K ιs ⊢ levAts L lv := by
  unfold invs
  iintro ⟨-, -, -, H⟩; iexact H

set_option maxRecDepth 100000 in
theorem invs_mayWait (p ι : ℕ) (hι : ι < 20) (hp : 10 * ι ≤ p) (c : Dev nD) (sm : SemLoc sig) :
    invs (F := F) m ρ K ιs ⊢ MayWait (c : Thread nD τ) sm ι (owed p c) := by
  have h1 := invs_lev (F := F) m ρ K ιs
  have h2 := mayWait (F := F) p ι hι hp c sm
  exact BI.Entails.trans h1 h2

/-- What device `c` owes before event `p`, whatever waits it recorded. -/
def Ow (c : Dev nD) (p : ℕ) : sProp 𝕄 := iprop(∃ W, owes (c : Thread nD τ) (owed p c) W)

theorem Ow_skip {p : ℕ} (hp : p < 90) (h : dueAmt p = 0) (c : Dev nD) : Ow (F := F) c p = Ow c (p + 1) := by
  unfold Ow; rw [owed_skip hp h]

/-! ## Waiting for a copy -/

theorem wait_cell (c : Dev nD) (k : Ch) (r ι p : ℕ) (hd : duties k r = {0}) (hN : amount k = N) (hι : ι < 20) (hp : 10 * ι ≤ p)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ (csem k) N Kt) :
    iprop(invs m ρ K ιs ∗ atPos ER (kcell (c, k)) r ∅ 0 ∗ cred (tallyAt (kcell (c, k)) ι N) ∗ Ow c p)
      ⊢ WP c (Prog.lift w) (fun _ => iprop(atPos ER (kcell (c, k)) (r + 1) ∅ 0 ∗ reached ER (kcell (c, k)) (r + 1) ∗ payAt m ρ c k r 0 ∗ Ow c p)) := by
  have hE : 0 + N = (Rd (F := F) m ρ).expect (kcell (c, k)) r := by
    rw [Rd_expect, hd, hN, Finset.card_singleton, one_mul, zero_add]
  unfold Ow
  simp only [Prog.lift]
  iintro ⟨#HI, Hat, Hc, ⟨%W, HO⟩⟩
  iapply (Rounds.wp_wait_rest_token 𝒱₀ ER (Rd m ρ) (c : Thread nD τ) none (sm := csem k) (κ := K (c, k)) hw (Set.mem_univ _) ι
      (O := owed p c) (W := W) (R := r) (m := 0) (T := ∅)
      hE) $$ [Hat Hc HO]
  · isplitr; · iapply (invs_cell m ρ K ιs (c, k)); iexact HI
    isplitl [Hc]; · iexact Hc
    isplitl [HO]; · iexact HO
    isplitr; · iapply (invs_mayWait m ρ K ιs p ι hι hp c (csem k)); iexact HI
    iexact Hat
  iintro ⟨HO, Hat, Hr, Hpay⟩
  rw [wp_ret]; imodintro
  isplitl [Hat]; · iexact Hat
  isplitl [Hr]; · iexact Hr
  isplitl [Hpay]
  · iapply (Entails.of_eq (show bigSep ((Rd (F := F) m ρ).duties (kcell (c, k)) r \ ∅) (fun d => (Rd (F := F) m ρ).payload (kcell (c, k)) r d) = payAt m ρ c k r 0 by
      rw [Rd_duties, hd, Finset.sdiff_empty, bigSep_singleton, Rd_payload]))
    iexact Hpay
  · iexists _; iexact HO

/-! ## Positions -/

/-- The receive cell of hop `h` awaits it, -/
def PosR (c : Dev nD) (ℓ : Fin 8) (h : ℕ) : sProp 𝕄 :=
  iprop(atPos ER (kcell (c, .recv ℓ (slotOf h))) ((h - 1) / 4) ∅ 0 ∗ reached ER (kcell (c, .recv ℓ (slotOf h))) ((h - 1) / 4))
/-- and so does its send cell. -/
def PosS (c : Dev nD) (ℓ : Fin 8) (h : ℕ) : sProp 𝕄 :=
  iprop(atPos ER (kcell (c, .send ℓ (slotOf (h - 1)))) ((h - 1) / 4) ∅ 0 ∗ reached ER (kcell (c, .send ℓ (slotOf (h - 1)))) ((h - 1) / 4))

theorem rhop_slotOf {h : ℕ} (hh : 1 ≤ h) : rhop (slotOf h) ((h - 1) / 4) = h := by
  unfold rhop slotOf; dsimp only; split <;> omega
theorem shop_slotOf {h : ℕ} (hh : 1 ≤ h) : shop (slotOf (h - 1)) ((h - 1) / 4) = h := by
  unfold shop slotOf; dsimp only; omega
theorem slotOf_add (h : ℕ) : slotOf (h + 4) = slotOf h := Fin.ext (by show (h + 4) % 4 = h % 4; omega)

theorem duties_recv {h : ℕ} {ℓ : Fin 8} (hh : 1 ≤ h) (ha : Active h ℓ) : duties (.recv ℓ (slotOf h)) ((h - 1) / 4) = {0} :=
  if_pos (show Active (rhop (slotOf h) ((h - 1) / 4)) ℓ by rw [rhop_slotOf hh]; exact ha)
theorem duties_send {h : ℕ} {ℓ : Fin 8} (hh : 1 ≤ h) (ha : Active h ℓ) : duties (.send ℓ (slotOf (h - 1))) ((h - 1) / 4) = {0} :=
  if_pos (show Active (shop (slotOf (h - 1)) ((h - 1) / 4)) ℓ by rw [shop_slotOf hh]; exact ha)

theorem credit_eq (ℓ : Fin 8) (s : Fin 4) : (chunk ℓ s).view.dmaCredit = N := by
  match ℓ with
  | 0 => rfl | 1 => rfl | 2 => rfl | 3 => rfl | 4 => rfl | 5 => rfl | 6 => rfl | 7 => rfl

/-- The landing of hop `h` is awaited: the half slot arrives holding content `h`. -/
theorem recv_step (c : Dev nD) (ℓ : Fin 8) (h p : ℕ) (hh : 1 ≤ h) (ha : Active h ℓ) (hp : 10 * (h + 1) ≤ p) :
    iprop(invs m ρ K ιs ∗ PosR c ℓ h ∗ cred (tallyAt (kcell (c, .recv ℓ (slotOf h))) (h + 1) N) ∗ Ow c p)
      ⊢ WP c (recvStep h ℓ) (fun _ => iprop(PosR c ℓ (h + 4) ∗ reg m ρ ℓ c (slotOf h) fullShare (org (dir ℓ) c h) ∗ Ow c p)) := by
  have hle := ha.le
  unfold PosR
  iintro ⟨#HI, ⟨Hat, -⟩, Hc, HO⟩
  iapply (wp_wand frame (wpE (defs₀ (F := F)) 𝒱₀ (c : Thread nD τ) none) Set.univ) $$ [Hat Hc HO]
  · iapply (wait_cell m ρ K ιs c (.recv ℓ (slotOf h)) ((h - 1) / 4) (h + 1) p (duties_recv hh ha) rfl (by omega) hp
      (fun Kt => (wpE_waitDma2_eq 𝒱₀ (c : Thread nD τ) none Set.univ Kt).trans (by rw [credit_eq]; rfl)))
    isplitr; · iexact HI
    isplitl [Hat]; · iexact Hat
    isplitl [Hc]; · iexact Hc
    iexact HO
  iintro %_ ⟨Hat, Hr, Hpay, HO⟩
  rw [slotOf_add, show (h + 4 - 1) / 4 = (h - 1) / 4 + 1 by omega]
  isplitl [Hat Hr]; · isplitl [Hat]; · iexact Hat
                      · iexact Hr
  isplitl [Hpay]
  · unfold payAt; dsimp only; rw [rhop_slotOf hh]; iexact Hpay
  · iexact HO

/-! ## Starting a copy -/

theorem due_send (h : ℕ) (ℓ : Fin 8) (hh : 1 ≤ h) (ha : Active h ℓ) (c : Dev nD) :
    due (10 * h + ℓ.val) c = tallyAt (kcell (dn (dir ℓ) c, .recv ℓ (slotOf h))) (h + 1) N := by
  have hlt := ℓ.isLt
  have e1 : (10 * h + ℓ.val) % 10 = ℓ.val := by omega
  have e2 : (10 * h + ℓ.val) / 10 = h := by omega
  have hm : (10 * h + ℓ.val) % 10 < 8 := by omega
  have ef : (⟨(10 * h + ℓ.val) % 10, hm⟩ : Fin 8) = ℓ := Fin.ext e1
  unfold due dueDev dueCh dueDir dueAmt
  rw [dif_pos hm, dif_pos hm, dif_pos hm, if_pos hm, e2, ef, if_pos ⟨hh, ha⟩]

theorem due_send_zero (h : ℕ) (ℓ : Fin 8) (ha : ¬ Active h ℓ) : dueAmt (10 * h + ℓ.val) = 0 := by
  have hlt := ℓ.isLt
  have e1 : (10 * h + ℓ.val) % 10 = ℓ.val := by omega
  have e2 : (10 * h + ℓ.val) / 10 = h := by omega
  have hm : (10 * h + ℓ.val) % 10 < 8 := by omega
  have ef : (⟨(10 * h + ℓ.val) % 10, hm⟩ : Fin 8) = ℓ := Fin.ext e1
  unfold dueAmt
  rw [dif_pos hm, ef, e2, if_neg fun H => ha H.2]

/-- `Rounds.wp_send_pointsTo` at a lane's cells, the copy addressed to `n`, the next device in the lane's direction. -/
theorem wp_send_lane (c n : Dev nD) (ℓ : Fin 8) (h : ℕ) (hn : n = dn (dir ℓ) c) (hh : 1 ≤ h) (ha : Active h ℓ)
    {hsc : (chunk ℓ (slotOf h) : Memref sig (Dev.tc n : Thread nD τ).2.kind .vmem S512x128 .bf16).view.ref.isScScratch = false}
    {hsrc : (chunk ℓ (slotOf (h - 1))).view.WordExact} {hdst : (chunk ℓ (slotOf h)).view.WordExact}
    {hsem : DmaTarget.Typed .vmem (.dma (recvSem ℓ (slotOf h)))
      (.remote (Dev.tc n : Thread nD τ) (chunk ℓ (slotOf h) : Memref sig .tc .vmem S512x128 .bf16) (.dma (sendSem ℓ (slotOf (h - 1)))) hsc)}
    {α : Type} {Q : α → sProp 𝕄} {k : PUnit → Prog (TpuEff nD τ sig (Elt F) Λ₀ .tc) α}
    (fn : Buf (Elt F) ((laneM ℓ).view.loc (dn (dir ℓ) c : Thread nD τ))) (W : Waits sig ℕ) :
    iprop(cellInv ER (Rd m ρ) (K (c, .send ℓ (slotOf (h - 1)))) (kcell (c, .send ℓ (slotOf (h - 1))))
        ∗ cellInv ER (Rd m ρ) (K (dn (dir ℓ) c, .recv ℓ (slotOf h))) (kcell (dn (dir ℓ) c, .recv ℓ (slotOf h)))
        ∗ reg m ρ ℓ c (slotOf (h - 1)) fullShare.right (org (dir ℓ) c (h - 1))
        ∗ ((laneM ℓ).view.loc (dn (dir ℓ) c : Thread nD τ) ↦[(chunk ℓ (slotOf h)).view.set]{fullShare} fn)
        ∗ owes (c : Thread nD τ) (owed (10 * h + ℓ.val) c) W
        ∗ dutyTok ER (kcell (c, .send ℓ (slotOf (h - 1)))) ((h - 1) / 4) 0 ∗ reached ER (kcell (c, .send ℓ (slotOf (h - 1)))) ((h - 1) / 4)
        ∗ dutyTok ER (kcell (dn (dir ℓ) c, .recv ℓ (slotOf h))) ((h - 1) / 4) 0 ∗ reached ER (kcell (dn (dir ℓ) c, .recv ℓ (slotOf h))) ((h - 1) / 4))
      ⊢ iprop(((cred (tallyAt (kcell (c, .send ℓ (slotOf (h - 1)))) 0 N) ∗ owes (c : Thread nD τ) (owed (10 * h + ℓ.val + 1) c) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (chunk ℓ (slotOf (h - 1))) (.remote (Dev.tc n : Thread nD τ) (chunk ℓ (slotOf h)) (.dma (sendSem ℓ (slotOf (h - 1)))) hsc)
                (.dma (recvSem ℓ (slotOf h))) hsrc hdst hsem) k) Q) := by
  subst hn
  have hle := ha.le
  have hpay₁ : reg (F := F) m ρ ℓ c (slotOf (h - 1)) fullShare.right (org (dir ℓ) c (h - 1))
      ⊢ (Rd m ρ).payload (kcell (c, .send ℓ (slotOf (h - 1)))) ((h - 1) / 4) 0 := by
    rw [Rd_payload]; unfold payAt; dsimp only; rw [shop_slotOf hh]
  have hpay₂ : ((laneM ℓ).view.loc (dn (dir ℓ) c : Thread nD τ) ↦[(chunk ℓ (slotOf h)).view.set]{fullShare}
        ((chunk ℓ (slotOf h)).view.write (Elt F) fn ((chunk ℓ (slotOf (h - 1))).view.read (Elt F) (cont m ρ ℓ c (org (dir ℓ) c (h - 1)))) Finset.univ) : sProp 𝕄)
      ⊢ (Rd m ρ).payload (kcell (dn (dir ℓ) c, .recv ℓ (slotOf h))) ((h - 1) / 4) 0 := by
    rw [Rd_payload]; unfold payAt; dsimp only; rw [rhop_slotOf hh]
    unfold reg
    refine Entails.of_eq (pointsTo_congr fun i hi => ?_)
    have ho : org (dir ℓ) (dn (dir ℓ) c) h = org (dir ℓ) c (h - 1) := by
      have := org_dn (dir ℓ) c (h - 1); rwa [Nat.sub_add_cancel hh] at this
    rw [ho]
    exact landed m ρ ℓ c (dn (dir ℓ) c) (slotOf (h - 1)) (slotOf h) (org (dir ℓ) c (h - 1)) fn i hi
  exact Rounds.wp_send_pointsTo 𝒱₀ ER (Rd m ρ) (c : Thread nD τ) none
    (c' := (dn (dir ℓ) c : Thread nD τ)) (src := chunk ℓ (slotOf (h - 1))) (dst := chunk ℓ (slotOf h)) (sS := .dma (sendSem ℓ (slotOf (h - 1)))) (sem := .dma (recvSem ℓ (slotOf h)))
    (q := fullShare.right) (fs := cont m ρ ℓ c (org (dir ℓ) c (h - 1)))
    (κ₁ := K (c, .send ℓ (slotOf (h - 1)))) (κ₂ := K (dn (dir ℓ) c, .recv ℓ (slotOf h)))
    (r₁ := (h - 1) / 4) (r₂ := (h - 1) / 4) (d₁ := 0) (d₂ := 0) (fd := fn)
    (by show 0 ∈ (Rd (F := F) m ρ).duties (kcell (c, .send ℓ (slotOf (h - 1)))) _
        rw [Rd_duties, duties_send hh ha]; exact Finset.mem_singleton_self _)
    (by show 0 ∈ (Rd (F := F) m ρ).duties (kcell (dn (dir ℓ) c, .recv ℓ (slotOf h))) _
        rw [Rd_duties, duties_recv hh ha]; exact Finset.mem_singleton_self _)
    (h + 1) 0 N (credit_eq ℓ (slotOf h)) (Rd_amount m ρ c (.send ℓ (slotOf (h - 1))) _ _) (Rd_amount m ρ (dn (dir ℓ) c) (.recv ℓ (slotOf h)) _ _)
    (owed (10 * h + ℓ.val + 1) c)
    (by rw [owed_step (by have := ℓ.isLt; omega), due_send h ℓ hh ha]; rfl) (W := W) hpay₁ hpay₂

/-- Hop `h` is started: half a share of the source stays here, the target's half slot goes to the copy. -/
theorem send_step (c : Dev nD) (ℓ : Fin 8) (h : ℕ) (hh : 1 ≤ h) (ha : Active h ℓ) :
    iprop(invs m ρ K ιs
        ∗ reg m ρ ℓ c (slotOf (h - 1)) fullShare (org (dir ℓ) c (h - 1))
        ∗ anyReg ℓ (dn (dir ℓ) c) (slotOf h)
        ∗ dutyTok ER (kcell (c, .send ℓ (slotOf (h - 1)))) ((h - 1) / 4) 0 ∗ reached ER (kcell (c, .send ℓ (slotOf (h - 1)))) ((h - 1) / 4)
        ∗ dutyTok ER (kcell (dn (dir ℓ) c, .recv ℓ (slotOf h))) ((h - 1) / 4) 0 ∗ reached ER (kcell (dn (dir ℓ) c, .recv ℓ (slotOf h))) ((h - 1) / 4)
        ∗ Ow c (10 * h + ℓ.val))
      ⊢ WP c (sendStep c h ℓ) (fun _ => iprop(reg m ρ ℓ c (slotOf (h - 1)) fullShare.left (org (dir ℓ) c (h - 1))
          ∗ cred (tallyAt (kcell (c, .send ℓ (slotOf (h - 1)))) 0 N) ∗ Ow c (10 * h + ℓ.val + 1))) := by
  unfold Ow sendStep
  simp only [Prog.lift]
  have hsplit : reg (F := F) m ρ ℓ c (slotOf (h - 1)) fullShare (org (dir ℓ) c (h - 1))
      ⊢ iprop(reg m ρ ℓ c (slotOf (h - 1)) fullShare.left (org (dir ℓ) c (h - 1)) ∗ reg m ρ ℓ c (slotOf (h - 1)) fullShare.right (org (dir ℓ) c (h - 1))) :=
    (pointsTo_share (PosShare.mem_left_op_right fullShare)).1
  unfold anyReg slot
  iintro ⟨#HI, Hreg, ⟨%fn, Hdst⟩, Ht1, Hr1, Ht2, Hr2, ⟨%W, HO⟩⟩
  ihave Hs := hsplit $$ Hreg
  icases Hs with ⟨HL, HR⟩
  iapply (wp_send_lane m ρ K c (downP c (dir ℓ)) ℓ h (downP_eq c (dir ℓ)) hh ha fn W) $$ [HR Hdst Ht1 Hr1 Ht2 Hr2 HO]
  · isplitr; · iapply (invs_cell m ρ K ιs (c, .send ℓ (slotOf (h - 1)))); iexact HI
    isplitr; · iapply (invs_cell m ρ K ιs (dn (dir ℓ) c, .recv ℓ (slotOf h))); iexact HI
    isplitl [HR]; · iexact HR
    isplitl [Hdst]; · iexact Hdst
    isplitl [HO]; · iexact HO
    isplitl [Ht1]; · iexact Ht1
    isplitl [Hr1]; · iexact Hr1
    isplitl [Ht2]; · iexact Ht2
    iexact Hr2
  iintro ⟨Hc, HO⟩
  rw [wp_ret]; imodintro
  isplitl [HL]; · iexact HL
  isplitl [Hc]; · iexact Hc
  iexists W; iexact HO

/-- The read-out of hop `h` is awaited: the share lent comes back. -/
theorem done_step (c : Dev nD) (ℓ : Fin 8) (h p : ℕ) (hh : 1 ≤ h) (ha : Active h ℓ) :
    iprop(invs m ρ K ιs ∗ PosS c ℓ h ∗ cred (tallyAt (kcell (c, .send ℓ (slotOf (h - 1)))) 0 N)
        ∗ reg m ρ ℓ c (slotOf (h - 1)) fullShare.left (org (dir ℓ) c (h - 1)) ∗ Ow c p)
      ⊢ WP c (doneStep h ℓ) (fun _ => iprop(PosS c ℓ (h + 4) ∗ reg m ρ ℓ c (slotOf (h - 1)) fullShare (org (dir ℓ) c (h - 1)) ∗ Ow c p)) := by
  have hle := ha.le
  have hjoin : iprop(reg (F := F) m ρ ℓ c (slotOf (h - 1)) fullShare.left (org (dir ℓ) c (h - 1)) ∗ reg m ρ ℓ c (slotOf (h - 1)) fullShare.right (org (dir ℓ) c (h - 1)))
      ⊢ reg m ρ ℓ c (slotOf (h - 1)) fullShare (org (dir ℓ) c (h - 1)) :=
    (pointsTo_share (PosShare.mem_left_op_right fullShare)).2
  unfold PosS
  iintro ⟨#HI, ⟨Hat, -⟩, Hc, HL, HO⟩
  iapply (wp_wand frame (wpE (defs₀ (F := F)) 𝒱₀ (c : Thread nD τ) none) Set.univ) $$ [Hat Hc HO]
  · iapply (wait_cell m ρ K ιs c (.send ℓ (slotOf (h - 1))) ((h - 1) / 4) 0 p (duties_send hh ha) rfl (by omega) (by omega)
      (fun Kt => (wpE_waitDma2_eq 𝒱₀ (c : Thread nD τ) none Set.univ Kt).trans (by rw [credit_eq]; rfl)))
    isplitr; · iexact HI
    isplitl [Hat]; · iexact Hat
    isplitl [Hc]; · iexact Hc
    iexact HO
  iintro %_ ⟨Hat, Hr, Hpay, HO⟩
  rw [show h + 4 - 1 = (h - 1) + 4 by omega, slotOf_add, show (h - 1 + 4) / 4 = (h - 1) / 4 + 1 by omega]
  isplitl [Hat Hr]; · isplitl [Hat]; · iexact Hat
                      · iexact Hr
  isplitl [Hpay HL]
  · iapply hjoin
    isplitl [HL]; · iexact HL
    unfold payAt; dsimp only; rw [shop_slotOf hh]; iexact Hpay
  · iexact HO

end Cert.Proof

end
-- ==== Proof.Lane.lean ====
/-
  One LANE through the rounds. Round `j + 2` of a lane receives hop `j + 1`, sends hop `j + 2`, and sees its own hop `j + 1` done,
  which frees the slot of content `j`. The lane's state before that round is `LS j`, between the sends and the read-outs `LM j`.
-/
module

public import proofs.«01_k».proof.Proof.Steps
public import Idealize.SL.BI.BigOpNat

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

theorem WP_bind (c : Dev nD) {α β : Type} (p : P F α) (k : α → P F β) (Q : β → sProp 𝕄) :
    WP c (p >>= k) Q = WP c p (fun a => WP c (k a) Q) := wp_bind _ _ _ p k Q

theorem WP_wand (c : Dev nD) {α : Type} (p : P F α) (Q Q' : α → sProp 𝕄) : WP c p Q ⊢ iprop((∀ a, Q a -∗ Q' a) -∗ WP c p Q') :=
  wp_wand frame (wpE (defs₀ (F := F)) 𝒱₀ (c : Thread nD τ) none) Set.univ

theorem WP_pure (c : Dev nD) {α : Type} (a : α) (Q : α → sProp 𝕄) : Q a ⊢ WP c (pure a) Q :=
  le_wp_ret frame (wpE (defs₀ (F := F)) 𝒱₀ (c : Thread nD τ) none) (E := Set.univ) a Q

theorem WP_fupd (c : Dev nD) {α : Type} {p : P F α} {Q : α → sProp 𝕄} : WP c p (fun a => iprop(|={Set.univ}=> Q a)) ⊢ WP c p Q :=
  wp_fupd frame (wpE (defs₀ (F := F)) 𝒱₀ (c : Thread nD τ) none) Set.univ p Q

/-- One program after another. -/
theorem WP_seq (c : Dev nD) {α β : Type} {p : P F α} {k : α → P F β} {A : sProp 𝕄} {B : α → sProp 𝕄} {Q : β → sProp 𝕄}
    (hp : A ⊢ WP c p B) (hk : ∀ a, B a ⊢ WP c (k a) Q) : A ⊢ WP c (p >>= k) Q := by
  rw [WP_bind]
  exact BI.Entails.trans hp (wp_mono _ _ _ hk)

/-! ## All lanes -/

/-- The lanes of a list, one after the other. -/
def seqL (f : Fin 8 → P F PUnit) : List (Fin 8) → P F PUnit
  | [] => pure ⟨⟩
  | ℓ :: t => f ℓ >>= fun _ => seqL f t

theorem lanes_eq (f : Fin 8 → P F PUnit) : lanes f = seqL f [0, 1, 2, 3, 4, 5, 6, 7] := by
  unfold lanes; simp only [seqL]
  have e : f 7 = (f 7 >>= fun _ => pure ⟨⟩) := (bind_pure (f 7)).symm
  rw [← e]

theorem univ8 (Φ : Fin 8 → sProp 𝕄) : bigSep Finset.univ Φ = bigSepL [0, 1, 2, 3, 4, 5, 6, 7] Φ :=
  bigSep_univ_eq_bigSepL ([0, 1, 2, 3, 4, 5, 6, 7] : List (Fin 8)) (by decide) (by decide) Φ

/-- The lanes one after the other, each turning its own resources `A ℓ` into `B ℓ` and passing on the thread `C`. -/
theorem wp_lanes (c : Dev nD) (R : sProp 𝕄) [BI.Persistent R] (A B : Fin 8 → sProp 𝕄) (C : ℕ → sProp 𝕄) (f : Fin 8 → P F PUnit)
    (h : ∀ ℓ : Fin 8, iprop(R ∗ A ℓ ∗ C ℓ.val) ⊢ WP c (f ℓ) (fun _ => iprop(B ℓ ∗ C (ℓ.val + 1)))) :
    iprop(R ∗ bigSep Finset.univ A ∗ C 0) ⊢ WP c (lanes f) (fun _ => iprop(bigSep Finset.univ B ∗ C 8)) := by
  have key : ∀ (l : List (Fin 8)) (n : ℕ), l.map Fin.val = List.range' n l.length →
      iprop(R ∗ bigSepL l A ∗ C n) ⊢ WP c (seqL f l) (fun _ => iprop(bigSepL l B ∗ C (n + l.length))) := by
    intro l
    induction l with
    | nil =>
      intro n _
      iintro ⟨-, -, HC⟩
      iapply (WP_pure c PUnit.unit (fun _ => iprop(bigSepL [] B ∗ C (n + ([] : List (Fin 8)).length))))
      isplitr; · iempintro
      iexact HC
    | cons ℓ t ih =>
      intro n hl
      have h1 : ℓ.val = n := by simpa [List.range'_succ] using (List.cons.inj hl).1
      have h2 : t.map Fin.val = List.range' (n + 1) t.length := (List.cons.inj hl).2
      have e : n + (ℓ :: t).length = n + 1 + t.length := by rw [List.length_cons]; omega
      rw [e]
      unfold seqL
      rw [WP_bind]
      have eA : bigSepL (ℓ :: t) A = iprop(A ℓ ∗ bigSepL t A) := bigSepL_cons ℓ t A
      have eB : bigSepL (ℓ :: t) B = iprop(B ℓ ∗ bigSepL t B) := bigSepL_cons ℓ t B
      rw [eA, eB]
      show iprop(R ∗ (A ℓ ∗ bigSepL t A) ∗ C n) ⊢ WP c (f ℓ) (fun _ => WP c (seqL f t) (fun _ => iprop((B ℓ ∗ bigSepL t B) ∗ C (n + 1 + t.length))))
      iintro ⟨#HR, ⟨HA, HX⟩, HC⟩
      iapply (WP_wand c (f ℓ) (fun _ => iprop(B ℓ ∗ C (ℓ.val + 1)))) $$ [HA HC]
      · iapply (h ℓ)
        isplitr; · iexact HR
        isplitl [HA]; · iexact HA
        rw [h1]; iexact HC
      iintro %_ ⟨HB, HC⟩
      iapply (WP_wand c (seqL f t) (fun _ => iprop(bigSepL t B ∗ C (n + 1 + t.length)))) $$ [HX HC]
      · iapply (ih (n + 1) h2)
        isplitr; · iexact HR
        isplitl [HX]; · iexact HX
        rw [h1]; iexact HC
      iintro %_ ⟨HBs, HC⟩
      isplitr [HC]
      · isplitl [HB]; · iexact HB
        iexact HBs
      iexact HC
  rw [univ8, univ8, lanes_eq]
  exact key _ 0 (by decide)

/-! ## What a lane holds -/

/-- For hop `h`: the duties of its two cells, and the target's half slot — at once for the first three hops, later by the token
    of the one write a released slot gets. -/
def sendItem (c : Dev nD) (ℓ : Fin 8) (h : ℕ) : sProp 𝕄 :=
  if Active h ℓ then
    iprop(dutyTok ER (kcell (c, .send ℓ (slotOf (h - 1)))) ((h - 1) / 4) 0 ∗ dutyTok ER (kcell (dn (dir ℓ) c, .recv ℓ (slotOf h))) ((h - 1) / 4) 0
      ∗ (if h ≤ 3 then anyReg ℓ (dn (dir ℓ) c) (slotOf h) else writeTok ES (dn (dir ℓ) c, ℓ, h - 4) 1))
  else iprop(emp)

/-- The credit for the landing of hop `h`. -/
def recvCr (c : Dev nD) (ℓ : Fin 8) (h : ℕ) : sProp 𝕄 :=
  if Active h ℓ then cred (tallyAt (kcell (c, .recv ℓ (slotOf h))) (h + 1) N) else iprop(emp)

/-- Content `j` while hop `j + 1` reads it: half a share, and the credit for the other half; all of it where no hop does. -/
def curr (c : Dev nD) (ℓ : Fin 8) (j : ℕ) : sProp 𝕄 :=
  if Active (j + 1) ℓ then
    iprop(reg m ρ ℓ c (slotOf j) fullShare.left (org (dir ℓ) c j) ∗ cred (tallyAt (kcell (c, .send ℓ (slotOf j))) 0 N))
  else reg m ρ ℓ c (slotOf j) fullShare (org (dir ℓ) c j)

/-- Content `j` after that: released for hop `j + 4`, or kept where there is no such hop. -/
def past (c : Dev nD) (ℓ : Fin 8) (j : ℕ) : sProp 𝕄 :=
  if Active (j + 4) ℓ then iprop(released ES (c, ℓ, j) 1 ∗ reached ER (kcell (c, .recv ℓ (slotOf (j + 4)))) ((j + 3) / 4))
  else reg m ρ ℓ c (slotOf j) fullShare (org (dir ℓ) c j)

/-- The pools: sends from hop `h` on, landings from hop `h` on, -/
def Snd (c : Dev nD) (ℓ : Fin 8) (h : ℕ) : sProp 𝕄 := bigSep (Finset.Ico h 9) (sendItem c ℓ)
def Rcv (c : Dev nD) (ℓ : Fin 8) (h : ℕ) : sProp 𝕄 := bigSep (Finset.Ico h 9) (recvCr c ℓ)
/-- the receive and send cells, awaiting hops `h` to `h + 3`, -/
def PR (c : Dev nD) (ℓ : Fin 8) (h : ℕ) : sProp 𝕄 := bigSep (Finset.Ico h (h + 4)) (PosR c ℓ)
def PS (c : Dev nD) (ℓ : Fin 8) (h : ℕ) : sProp 𝕄 := bigSep (Finset.Ico h (h + 4)) (PosS c ℓ)
/-- the right to release contents from `j` on, and the contents before `j`. -/
def Rel (c : Dev nD) (ℓ : Fin 8) (j : ℕ) : sProp 𝕄 := bigSep (Finset.Ico j 5) fun i => readerAt ES (c, ℓ, i) 0
def Past (c : Dev nD) (ℓ : Fin 8) (j : ℕ) : sProp 𝕄 := bigSep (Finset.range j) (past m ρ c ℓ)

/-- What a lane needs to know to start hop `h`. -/
def CF (c : Dev nD) (h : ℕ) : sProp 𝕄 := bigSep Finset.univ fun ℓ : Fin 8 => if 4 ≤ h then freed (dn (dir ℓ) c) ℓ (h - 4) else iprop(emp)

instance CF_persistent (c : Dev nD) (h : ℕ) : BI.Persistent (CF (F := F) c h) := by
  unfold CF
  have : ∀ ℓ : Fin 8, BI.Persistent (if 4 ≤ h then freed (F := F) (dn (dir ℓ) c) ℓ (h - 4) else iprop(emp)) := fun ℓ => by split <;> infer_instance
  infer_instance

theorem CF_at (c : Dev nD) (h : ℕ) (ℓ : Fin 8) (hh : 4 ≤ h) : CF (F := F) c h ⊢ freed (dn (dir ℓ) c) ℓ (h - 4) := by
  have e : CF (F := F) c h ⊢ (if 4 ≤ h then freed (dn (dir ℓ) c) ℓ (h - 4) else iprop(emp)) := bigSep_elim (Finset.mem_univ ℓ)
  rw [if_pos hh] at e; exact e

/-! ## The parts of a round -/

/-- The target of hop `j + 1`: its half slot, and that its receive cell awaits the hop. -/
theorem send_dest (c : Dev nD) (ℓ : Fin 8) (j : ℕ) (ha : Active (j + 1) ℓ) :
    iprop(invs m ρ K ιs ∗ CF c (j + 1) ∗ (if j + 1 ≤ 3 then anyReg ℓ (dn (dir ℓ) c) (slotOf (j + 1)) else writeTok ES (dn (dir ℓ) c, ℓ, j + 1 - 4) 1))
      ⊢ (|={Set.univ}=> (anyReg ℓ (dn (dir ℓ) c) (slotOf (j + 1)) ∗ reached ER (kcell (dn (dir ℓ) c, .recv ℓ (slotOf (j + 1)))) (j / 4)) : sProp 𝕄) := by
  have hle := ha.le
  by_cases h3 : j + 1 ≤ 3
  · rw [if_pos h3, show j / 4 = 0 by omega]
    iintro ⟨#HI, -, Hd⟩
    imodintro
    isplitl [Hd]; · iexact Hd
    iapply (invs_reached m ρ K ιs (dn (dir ℓ) c, .recv ℓ (slotOf (j + 1)))); iexact HI
  · rw [if_neg h3]
    have h4 : 4 ≤ j + 1 := by omega
    have hslot : slotOf (j + 1 - 4) = slotOf (j + 1) := by rw [← slotOf_add (j + 1 - 4), Nat.sub_add_cancel h4]
    have hf := CF_at (F := F) c (j + 1) ℓ h4
    unfold freed at hf
    rw [Nat.sub_add_cancel h4, if_pos ha, show (j + 1 - 4 + 3) / 4 = j / 4 by omega] at hf
    have hs := invs_slot m ρ K ιs (dn (dir ℓ) c) ℓ (j + 1 - 4) (by omega)
    rw [hslot] at hs
    have tk := slot_take (S := anyReg (F := F) ℓ (dn (dir ℓ) c) (slotOf (j + 1))) ES (ι := ιs (dn (dir ℓ) c, ℓ, j + 1 - 4)) (k := (dn (dir ℓ) c, ℓ, j + 1 - 4)) (Es := Set.univ)
      (Set.mem_univ _) 1
    iintro ⟨#HI, #HF, Hd⟩
    ihave Hf := hf $$ HF
    icases Hf with ⟨#Hrel, #Hrr⟩
    imod tk $$ [Hd] with Hd
    · isplitr; · iapply hs; iexact HI
      isplitr; · iexact Hrel
      iexact Hd
    imodintro
    isplitl [Hd]; · iexact Hd
    iexact Hrr

/-- That hop `j + 1` is under way: its content is being read. -/
theorem send_part (c : Dev nD) (ℓ : Fin 8) (j a : ℕ) (ha : Active (j + 1) ℓ) (hl : a ≤ j + 1) (hu : j + 1 < a + 4) :
    iprop((invs m ρ K ιs ∗ CF c (j + 1)) ∗ (Snd c ℓ (j + 1) ∗ PS c ℓ a ∗ reg m ρ ℓ c (slotOf j) fullShare (org (dir ℓ) c j)) ∗ Ow c (10 * (j + 1) + ℓ.val))
      ⊢ WP c (sendStep c (j + 1) ℓ) (fun _ => iprop((Snd c ℓ (j + 2) ∗ PS c ℓ a ∗ curr m ρ c ℓ j) ∗ Ow c (10 * (j + 1) + ℓ.val + 1))) := by
  have hle := ha.le
  have hsnd : Snd (F := F) c ℓ (j + 1) = iprop(sendItem c ℓ (j + 1) ∗ Snd c ℓ (j + 2)) := by
    unfold Snd; exact bigSep_Ico_succ_bot (by omega) _
  have hps : PS (F := F) c ℓ a ⊢ iprop(PosS c ℓ (j + 1) ∗ bigSep ((Finset.Ico a (a + 4)).erase (j + 1)) (PosS c ℓ)) := by
    unfold PS; exact Entails.of_eq (bigSep_erase (Finset.mem_Ico.mpr ⟨hl, hu⟩))
  have hps' : iprop(PosS (F := F) c ℓ (j + 1) ∗ bigSep ((Finset.Ico a (a + 4)).erase (j + 1)) (PosS c ℓ)) ⊢ PS c ℓ a := by
    unfold PS; exact Entails.of_eq (bigSep_erase (Finset.mem_Ico.mpr ⟨hl, hu⟩)).symm
  have step := send_step m ρ K ιs c ℓ (j + 1) (by omega) ha
  simp only [Nat.add_sub_cancel] at step
  rw [hsnd]; unfold sendItem curr; rw [if_pos ha, if_pos ha]
  simp only [Nat.add_sub_cancel]
  iintro ⟨⟨#HI, #HF⟩, ⟨⟨⟨Ht1, Ht2, Hd⟩, HSnd⟩, HPS, Hreg⟩, HO⟩
  ihave HP := hps $$ HPS
  icases HP with ⟨HP, HPr⟩
  unfold PosS
  icases HP with ⟨Hat, #Hrs⟩
  simp only [Nat.add_sub_cancel]
  iapply (WP_wand c (sendStep c (j + 1) ℓ) (fun _ => iprop(reg m ρ ℓ c (slotOf j) fullShare.left (org (dir ℓ) c j)
          ∗ cred (tallyAt (kcell (c, .send ℓ (slotOf j))) 0 N) ∗ Ow c (10 * (j + 1) + ℓ.val + 1)))) $$ [Ht1 Ht2 Hd Hreg HO]
  · iapply (fupd_wp frame (wpE (defs₀ (F := F)) 𝒱₀ (c : Thread nD τ) none))
    imod (send_dest m ρ K ιs c ℓ j ha) $$ [Hd] with ⟨Hd, Hrr⟩
    · isplitr; · iexact HI
      isplitr; · iexact HF
      iexact Hd
    imodintro
    iapply step
    isplitr; · iexact HI
    isplitl [Hreg]; · iexact Hreg
    isplitl [Hd]; · iexact Hd
    isplitl [Ht1]; · iexact Ht1
    isplitr; · iexact Hrs
    isplitl [Ht2]; · iexact Ht2
    isplitl [Hrr]; · iexact Hrr
    iexact HO
  iintro %_ ⟨HL, Hc, HO⟩
  isplitr [HO]
  · isplitl [HSnd]; · iexact HSnd
    isplitl [Hat HPr]
    · iapply hps'
      unfold PosS
      isplitl [Hat]
      · isplitl [Hat]; · iexact Hat
        iexact Hrs
      iexact HPr
    isplitl [HL]; · iexact HL
    iexact Hc
  iexact HO

/-- Hop `h` lands. -/
theorem recv_part (c : Dev nD) (ℓ : Fin 8) (h p : ℕ) (hh : 1 ≤ h) (ha : Active h ℓ) (hp : 10 * (h + 1) ≤ p) :
    iprop(invs m ρ K ιs ∗ (Rcv c ℓ h ∗ PR c ℓ h) ∗ Ow c p)
      ⊢ WP c (recvStep h ℓ) (fun _ => iprop((Rcv c ℓ (h + 1) ∗ PR c ℓ (h + 1) ∗ reg m ρ ℓ c (slotOf h) fullShare (org (dir ℓ) c h)) ∗ Ow c p)) := by
  have hle := ha.le
  have hrcv : Rcv (F := F) c ℓ h = iprop(recvCr c ℓ h ∗ Rcv c ℓ (h + 1)) := by
    unfold Rcv; exact bigSep_Ico_succ_bot (by omega) _
  have hpr : PR (F := F) c ℓ h = iprop(PosR c ℓ h ∗ bigSep (Finset.Ico (h + 1) (h + 4)) (PosR c ℓ)) := by
    unfold PR; exact bigSep_Ico_succ_bot (by omega) _
  have hpr' : iprop(PosR (F := F) c ℓ (h + 4) ∗ bigSep (Finset.Ico (h + 1) (h + 4)) (PosR c ℓ)) ⊢ PR c ℓ (h + 1) := by
    unfold PR; exact Entails.of_eq (bigSep_Ico_succ_top (by omega) _).symm
  rw [hrcv, hpr]; unfold recvCr; rw [if_pos ha]
  iintro ⟨#HI, ⟨⟨Hc, HR⟩, Hat, HPR⟩, HO⟩
  iapply (WP_wand c (recvStep h ℓ) (fun _ => iprop(PosR c ℓ (h + 4) ∗ reg m ρ ℓ c (slotOf h) fullShare (org (dir ℓ) c h) ∗ Ow c p))) $$ [Hc Hat HO]
  · iapply (recv_step m ρ K ιs c ℓ h p hh ha hp)
    isplitr; · iexact HI
    isplitl [Hat]; · iexact Hat
    isplitl [Hc]; · iexact Hc
    iexact HO
  iintro %_ ⟨Hat, Hreg, HO⟩
  isplitr [HO]
  · isplitl [HR]; · iexact HR
    isplitl [Hat HPR]
    · iapply hpr'
      isplitl [Hat]; · iexact Hat
      iexact HPR
    iexact Hreg
  iexact HO

/-- A content read by nobody any more becomes past: its slot is released, or kept. -/
theorem past_intro (c : Dev nD) (ℓ : Fin 8) (j a : ℕ) (hl : a ≤ j + 4) (hu : j + 4 < a + 4) :
    iprop(invs m ρ K ιs ∗ PR c ℓ a ∗ Rel c ℓ j ∗ reg m ρ ℓ c (slotOf j) fullShare (org (dir ℓ) c j))
      ⊢ (|={Set.univ}=> (PR c ℓ a ∗ Rel c ℓ (j + 1) ∗ past m ρ c ℓ j) : sProp 𝕄) := by
  have hpr : PR (F := F) c ℓ a ⊢ iprop(PosR c ℓ (j + 4) ∗ bigSep ((Finset.Ico a (a + 4)).erase (j + 4)) (PosR c ℓ)) := by
    unfold PR; exact Entails.of_eq (bigSep_erase (Finset.mem_Ico.mpr ⟨hl, hu⟩))
  have hpr' : iprop(PosR (F := F) c ℓ (j + 4) ∗ bigSep ((Finset.Ico a (a + 4)).erase (j + 4)) (PosR c ℓ)) ⊢ PR c ℓ a := by
    unfold PR; exact Entails.of_eq (bigSep_erase (Finset.mem_Ico.mpr ⟨hl, hu⟩)).symm
  unfold past
  by_cases ha : Active (j + 4) ℓ
  · have hle := ha.le
    have hrel : Rel (F := F) c ℓ j = iprop(readerAt ES (c, ℓ, j) 0 ∗ Rel c ℓ (j + 1)) := by
      unfold Rel; exact bigSep_Ico_succ_bot (by omega) _
    have rl := slot_release (S := anyReg (F := F) ℓ c (slotOf j)) ES (ι := ιs (c, ℓ, j)) (k := (c, ℓ, j)) (Es := Set.univ) (Set.mem_univ _) (anyReg_excl ℓ c (slotOf j)) 0
    rw [if_pos ha, hrel]
    unfold PosR at hpr hpr'
    rw [show j + 4 - 1 = j + 3 by omega] at hpr hpr'
    iintro ⟨#HI, HPR, ⟨Hrd, HRel⟩, Hreg⟩
    ihave HP := hpr $$ HPR
    icases HP with ⟨⟨Hat, #Hr⟩, HPr⟩
    imod rl $$ [Hrd Hreg] with ⟨-, Hd⟩
    · isplitr; · iapply (invs_slot m ρ K ιs c ℓ j (by omega)); iexact HI
      isplitl [Hrd]; · iexact Hrd
      iapply (reg_any m ρ ℓ c (slotOf j) (org (dir ℓ) c j)); iexact Hreg
    imodintro
    isplitl [Hat HPr]
    · iapply hpr'
      isplitl [Hat]
      · isplitl [Hat]; · iexact Hat
        iexact Hr
      iexact HPr
    isplitl [HRel]; · iexact HRel
    isplitl [Hd]; · iexact Hd
    iexact Hr
  · have hrel : Rel (F := F) c ℓ j ⊢ Rel c ℓ (j + 1) := by
      unfold Rel; exact bigSep_subset (Finset.Ico_subset_Ico_left (by omega))
    rw [if_neg ha]
    iintro ⟨-, HPR, HRel, Hreg⟩
    imodintro
    isplitl [HPR]; · iexact HPR
    isplitl [HRel]; · iapply hrel; iexact HRel
    iexact Hreg

/-- Hop `j + 1` has been read out: its content's slot is released, or kept. -/
theorem done_part (c : Dev nD) (ℓ : Fin 8) (j a p : ℕ) (ha : Active (j + 1) ℓ) (hl : a ≤ j + 4) (hu : j + 4 < a + 4) :
    iprop(invs m ρ K ιs ∗ (PR c ℓ a ∗ PS c ℓ (j + 1) ∗ Rel c ℓ j ∗ curr m ρ c ℓ j ∗ Past m ρ c ℓ j) ∗ Ow c p)
      ⊢ WP c (doneStep (j + 1) ℓ) (fun _ => iprop((PR c ℓ a ∗ PS c ℓ (j + 2) ∗ Rel c ℓ (j + 1) ∗ Past m ρ c ℓ (j + 1)) ∗ Ow c p)) := by
  have hle := ha.le
  have hps : PS (F := F) c ℓ (j + 1) = iprop(PosS c ℓ (j + 1) ∗ bigSep (Finset.Ico (j + 2) (j + 5)) (PosS c ℓ)) := by
    unfold PS; exact bigSep_Ico_succ_bot (by omega) _
  have hps' : iprop(PosS (F := F) c ℓ (j + 5) ∗ bigSep (Finset.Ico (j + 2) (j + 5)) (PosS c ℓ)) ⊢ PS c ℓ (j + 2) := by
    unfold PS; exact Entails.of_eq (bigSep_Ico_succ_top (by omega) _).symm
  have hpast : iprop(past (F := F) m ρ c ℓ j ∗ Past m ρ c ℓ j) ⊢ Past m ρ c ℓ (j + 1) := by
    unfold Past; exact Entails.of_eq (bigSep_range_succ j _).symm
  have step := done_step m ρ K ιs c ℓ (j + 1) p (by omega) ha
  simp only [Nat.add_sub_cancel] at step
  rw [hps]; unfold curr; rw [if_pos ha]
  iintro ⟨#HI, ⟨HPR, ⟨Hat, HPS⟩, HRel, ⟨HL, Hc⟩, HPast⟩, HO⟩
  iapply (WP_fupd c)
  iapply (WP_wand c (doneStep (j + 1) ℓ) (fun _ => iprop(PosS c ℓ (j + 1 + 4) ∗ reg m ρ ℓ c (slotOf j) fullShare (org (dir ℓ) c j) ∗ Ow c p))) $$ [Hat Hc HL HO]
  · iapply step
    isplitr; · iexact HI
    isplitl [Hat]; · iexact Hat
    isplitl [Hc]; · iexact Hc
    isplitl [HL]; · iexact HL
    iexact HO
  iintro %_ ⟨Hat, Hreg, HO⟩
  imod (past_intro m ρ K ιs c ℓ j a hl hu) $$ [HPR HRel Hreg] with ⟨HPR, HRel, Hp⟩
  · isplitr; · iexact HI
    isplitl [HPR]; · iexact HPR
    isplitl [HRel]; · iexact HRel
    iexact Hreg
  imodintro
  isplitr [HO]
  · isplitl [HPR]; · iexact HPR
    isplitl [HPS Hat]
    · iapply hps'
      isplitl [Hat]; · iexact Hat
      iexact HPS
    isplitl [HRel]; · iexact HRel
    iapply hpast
    isplitl [Hp]; · iexact Hp
    iexact HPast
  iexact HO

end Cert.Proof

end
-- ==== Proof.Rounds.lean ====
/-
  The ROUNDS: all lanes of a round together, the block that arrived folded into the running pair, and the credits between the rounds.
-/
module

public import proofs.«01_k».proof.Proof.Lane

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-! ## A lane's state around a round -/

/-- Before round `j + 2`, -/
def LS (c : Dev nD) (j : ℕ) (ℓ : Fin 8) : sProp 𝕄 :=
  iprop(Snd c ℓ (j + 2) ∗ Rcv c ℓ (j + 1) ∗ PR c ℓ (j + 1) ∗ PS c ℓ (j + 1) ∗ Rel c ℓ j ∗ Past m ρ c ℓ j ∗ curr m ρ c ℓ j)

/-- and between its sends and its read-outs, apart from the content that arrived. -/
def LM (c : Dev nD) (j : ℕ) (ℓ : Fin 8) : sProp 𝕄 :=
  iprop(Snd c ℓ (j + 3) ∗ Rcv c ℓ (j + 2) ∗ PR c ℓ (j + 2) ∗ PS c ℓ (j + 1) ∗ Rel c ℓ j ∗ Past m ρ c ℓ j ∗ curr m ρ c ℓ j)

/-- The copies of one lane in round `j + 2`. -/
def hopProg (d0 : Dev nD) (j : ℕ) (ℓ : Fin 8) : P F PUnit := do recvStep (j + 1) ℓ; sendStep d0 (j + 2) ℓ

theorem hop_send (c : Dev nD) (j : ℕ) (ℓ : Fin 8) (ha : Active (j + 2) ℓ) :
    iprop((invs m ρ K ιs ∗ CF c (j + 2)) ∗ LS m ρ c j ℓ ∗ Ow c (10 * (j + 2) + ℓ.val))
      ⊢ WP c (hopProg c j ℓ) (fun _ => iprop((LM m ρ c j ℓ ∗ curr m ρ c ℓ (j + 1)) ∗ Ow c (10 * (j + 2) + ℓ.val + 1))) := by
  unfold LS LM hopProg
  rw [WP_bind]
  iintro ⟨⟨#HI, #HF⟩, ⟨HS, HR, HPR, HPS, HRel, HPast, Hc⟩, HO⟩
  iapply (WP_wand c (recvStep (j + 1) ℓ) (fun _ => iprop((Rcv c ℓ (j + 2) ∗ PR c ℓ (j + 2) ∗ reg m ρ ℓ c (slotOf (j + 1)) fullShare (org (dir ℓ) c (j + 1))) ∗ Ow c (10 * (j + 2) + ℓ.val)))) $$ [HR HPR HO]
  · iapply (recv_part m ρ K ιs c ℓ (j + 1) (10 * (j + 2) + ℓ.val) (by omega) (active_mono ha (by omega)) (by omega))
    isplitr; · iexact HI
    isplitl [HR HPR]
    · isplitl [HR]; · iexact HR
      iexact HPR
    iexact HO
  iintro %_ ⟨⟨HR, HPR, Hreg⟩, HO⟩
  iapply (WP_wand c (sendStep c (j + 2) ℓ) (fun _ => iprop((Snd c ℓ (j + 3) ∗ PS c ℓ (j + 1) ∗ curr m ρ c ℓ (j + 1)) ∗ Ow c (10 * (j + 2) + ℓ.val + 1)))) $$ [HS HPS Hreg HO]
  · iapply (send_part m ρ K ιs c ℓ (j + 1) (j + 1) ha (by omega) (by omega))
    isplitr
    · isplitr; · iexact HI
      iexact HF
    isplitl [HS HPS Hreg]
    · isplitl [HS]; · iexact HS
      isplitl [HPS]; · iexact HPS
      iexact Hreg
    iexact HO
  iintro %_ ⟨⟨HS, HPS, Hc'⟩, HO⟩
  isplitr [HO]
  · isplitr [Hc']
    · isplitl [HS]; · iexact HS
      isplitl [HR]; · iexact HR
      isplitl [HPR]; · iexact HPR
      isplitl [HPS]; · iexact HPS
      isplitl [HRel]; · iexact HRel
      isplitl [HPast]; · iexact HPast
      iexact Hc
    iexact Hc'
  iexact HO

theorem hop_last (c : Dev nD) (j : ℕ) (ℓ : Fin 8) (hj : j + 2 < 9) (ha : ¬ Active (j + 2) ℓ) (ha' : Active (j + 1) ℓ) :
    iprop((invs m ρ K ιs ∗ CF c (j + 2)) ∗ LS m ρ c j ℓ ∗ Ow c (10 * (j + 2) + ℓ.val))
      ⊢ WP c (recvStep (j + 1) ℓ) (fun _ => iprop((LM m ρ c j ℓ ∗ curr m ρ c ℓ (j + 1)) ∗ Ow c (10 * (j + 2) + ℓ.val + 1))) := by
  have hs : Snd (F := F) c ℓ (j + 2) ⊢ Snd c ℓ (j + 3) := by
    unfold Snd; exact bigSep_subset (Finset.Ico_subset_Ico_left (by omega))
  have hO : Ow (F := F) c (10 * (j + 2) + ℓ.val) = Ow c (10 * (j + 2) + ℓ.val + 1) :=
    Ow_skip (by have := ℓ.isLt; omega) (due_send_zero (j + 2) ℓ ha) c
  have hc : curr (F := F) m ρ c ℓ (j + 1) = reg m ρ ℓ c (slotOf (j + 1)) fullShare (org (dir ℓ) c (j + 1)) := if_neg ha
  rw [← hO, hc]
  unfold LS LM
  iintro ⟨⟨#HI, #HF⟩, ⟨HS, HR, HPR, HPS, HRel, HPast, Hc⟩, HO⟩
  iapply (WP_wand c (recvStep (j + 1) ℓ) (fun _ => iprop((Rcv c ℓ (j + 2) ∗ PR c ℓ (j + 2) ∗ reg m ρ ℓ c (slotOf (j + 1)) fullShare (org (dir ℓ) c (j + 1))) ∗ Ow c (10 * (j + 2) + ℓ.val)))) $$ [HR HPR HO]
  · iapply (recv_part m ρ K ιs c ℓ (j + 1) (10 * (j + 2) + ℓ.val) (by omega) ha' (by omega))
    isplitr; · iexact HI
    isplitl [HR HPR]
    · isplitl [HR]; · iexact HR
      iexact HPR
    iexact HO
  iintro %_ ⟨⟨HR, HPR, Hreg⟩, HO⟩
  isplitr [HO]
  · isplitr [Hreg]
    · isplitl [HS]; · iapply hs; iexact HS
      isplitl [HR]; · iexact HR
      isplitl [HPR]; · iexact HPR
      isplitl [HPS]; · iexact HPS
      isplitl [HRel]; · iexact HRel
      isplitl [HPast]; · iexact HPast
      iexact Hc
    iexact Hreg
  iexact HO

theorem hop_done (c : Dev nD) (j p : ℕ) (ℓ : Fin 8) (ha : Active (j + 1) ℓ) :
    iprop(invs m ρ K ιs ∗ (LM m ρ c j ℓ ∗ curr m ρ c ℓ (j + 1)) ∗ Ow c p)
      ⊢ WP c (doneStep (j + 1) ℓ) (fun _ => iprop(LS m ρ c (j + 1) ℓ ∗ Ow c p)) := by
  unfold LS LM
  iintro ⟨#HI, ⟨⟨HS, HR, HPR, HPS, HRel, HPast, Hc⟩, Hc'⟩, HO⟩
  iapply (WP_wand c (doneStep (j + 1) ℓ) (fun _ => iprop((PR c ℓ (j + 2) ∗ PS c ℓ (j + 2) ∗ Rel c ℓ (j + 1) ∗ Past m ρ c ℓ (j + 1)) ∗ Ow c p))) $$ [HPR HPS HRel HPast Hc HO]
  · iapply (done_part m ρ K ιs c ℓ j (j + 2) p ha (by omega) (by omega))
    isplitr; · iexact HI
    isplitr [HO]
    · isplitl [HPR]; · iexact HPR
      isplitl [HPS]; · iexact HPS
      isplitl [HRel]; · iexact HRel
      isplitl [Hc]; · iexact Hc
      iexact HPast
    iexact HO
  iintro %_ ⟨⟨HPR, HPS, HRel, HPast⟩, HO⟩
  isplitr [HO]
  · isplitl [HS]; · iexact HS
    isplitl [HR]; · iexact HR
    isplitl [HPR]; · iexact HPR
    isplitl [HPS]; · iexact HPS
    isplitl [HRel]; · iexact HRel
    isplitl [HPast]; · iexact HPast
    iexact Hc'
  iexact HO

/-! ## Folding the block that arrived -/

/-- The half slots of all lanes are the slots of the four buffers. -/
theorem lanes_slots (c : Dev nD) (s : Fin 4) (q : PosShare TreeShare) (o : Fin 2 → Dev nD) :
    (bigSep Finset.univ fun ℓ : Fin 8 => reg (F := F) m ρ ℓ c s q (o (dir ℓ)))
      = iprop(slotPts 0 c s q (cont m ρ (mate 0).1 c (o 0)) ∗ slotPts 1 c s q (cont m ρ (mate 1).1 c (o 0))
        ∗ slotPts 2 c s q (cont m ρ (mate 2).1 c (o 1)) ∗ slotPts 3 c s q (cont m ρ (mate 3).1 c (o 1))) := by
  rw [← pair_eq, ← pair_eq, ← pair_eq, ← pair_eq]
  have h := bigSep_univ_eq_bigSepL ([0, 2, 4, 6, 1, 3, 5, 7] : List (Fin 8)) (by decide) (by decide) (fun ℓ : Fin 8 => reg (F := F) m ρ ℓ c s q (o (dir ℓ)))
  refine h.trans ?_
  have assoc : ∀ A B C : sProp 𝕄, iprop((A ∗ B) ∗ C) = iprop(A ∗ B ∗ C) := fun A B C => by
    have h := Laws.sep_assoc (PROP := sProp 𝕄) (P := A) (Q := B) (R := C)
    exact BI.equiv_iff.mp ⟨h.1, h.2⟩
  rw [assoc, assoc, assoc]
  rfl

/-- The running pair after the blocks of two devices. -/
def fold22 (q : FVec F S1024x128 .bf16) (x : Acc F) (o : Fin 2 → Dev nD) : Acc F :=
  fold q (fold q x (kblk m ρ (o 0)) (vblk m ρ (o 0))) (kblk m ρ (o 1)) (vblk m ρ (o 1))

theorem wp_fold2 (c : Dev nD) (s : Fin 4) (qs : PosShare TreeShare) (o : Fin 2 → Dev nD) (q : FVec F S1024x128 .bf16) (x : Acc F) :
    (bigSep Finset.univ fun ℓ : Fin 8 => reg (F := F) m ρ ℓ c s qs (o (dir ℓ)))
      ⊢ WP c (fold2 q x s) (fun y => iprop(⌜y = fold22 m ρ q x o⌝ ∗ bigSep Finset.univ fun ℓ : Fin 8 => reg (F := F) m ρ ℓ c s qs (o (dir ℓ)))) := by
  rw [lanes_slots]
  unfold fold2
  rw [WP_bind]
  iintro ⟨H0, H1, H2, H3⟩
  iapply (WP_wand c _ (fun x => iprop(⌜x = pblk m ρ 0 (o 0)⌝ ∗ slotPts 0 c s qs (cont m ρ (mate 0).1 c (o 0))))) $$ [H0]
  · iapply (wp_loadSlot m ρ 0 c s qs (o 0)); iexact H0
  iintro %k ⟨%hk, H0⟩
  rw [WP_bind]
  iapply (WP_wand c _ (fun x => iprop(⌜x = pblk m ρ 1 (o 0)⌝ ∗ slotPts 1 c s qs (cont m ρ (mate 1).1 c (o 0))))) $$ [H1]
  · iapply (wp_loadSlot m ρ 1 c s qs (o 0)); iexact H1
  iintro %v ⟨%hv, H1⟩
  rw [WP_bind]
  iapply (WP_wand c _ (fun x => iprop(⌜x = pblk m ρ 2 (o 1)⌝ ∗ slotPts 2 c s qs (cont m ρ (mate 2).1 c (o 1))))) $$ [H2]
  · iapply (wp_loadSlot m ρ 2 c s qs (o 1)); iexact H2
  iintro %k' ⟨%hk', H2⟩
  rw [WP_bind]
  iapply (WP_wand c _ (fun x => iprop(⌜x = pblk m ρ 3 (o 1)⌝ ∗ slotPts 3 c s qs (cont m ρ (mate 3).1 c (o 1))))) $$ [H3]
  · iapply (wp_loadSlot m ρ 3 c s qs (o 1)); iexact H3
  iintro %v' ⟨%hv', H3⟩
  subst hk hv hk' hv'
  iapply (WP_pure c (fold q (fold q x (pblk m ρ 0 (o 0)) (pblk m ρ 1 (o 0))) (pblk m ρ 2 (o 1)) (pblk m ρ 3 (o 1))))
  isplitr; · ipureintro; rfl
  isplitl [H0]; · iexact H0
  isplitl [H1]; · iexact H1
  isplitl [H2]; · iexact H2
  iexact H3

theorem wand_elim_left' (A B : sProp 𝕄) : iprop(A ∗ (A -∗ B)) ⊢ B := by
  iintro ⟨H, Hw⟩; iapply Hw; iexact H

/-- A content under way can be read. -/
theorem curr_left (c : Dev nD) (ℓ : Fin 8) (j : ℕ) :
    curr (F := F) m ρ c ℓ j ⊢ iprop(reg m ρ ℓ c (slotOf j) fullShare.left (org (dir ℓ) c j) ∗ (reg m ρ ℓ c (slotOf j) fullShare.left (org (dir ℓ) c j) -∗ curr m ρ c ℓ j)) := by
  have hs : reg (F := F) m ρ ℓ c (slotOf j) fullShare (org (dir ℓ) c j)
      ⊣⊢ iprop(reg m ρ ℓ c (slotOf j) fullShare.left (org (dir ℓ) c j) ∗ reg m ρ ℓ c (slotOf j) fullShare.right (org (dir ℓ) c j)) :=
    pointsTo_share (PosShare.mem_left_op_right fullShare)
  unfold curr
  split
  · iintro ⟨HL, Hc⟩
    isplitl [HL]; · iexact HL
    iintro HL
    isplitl [HL]; · iexact HL
    iexact Hc
  · iintro H
    ihave H := hs.1 $$ H
    icases H with ⟨HL, HR⟩
    isplitl [HL]; · iexact HL
    iintro HL
    iapply hs.2
    isplitl [HL]; · iexact HL
    iexact HR

theorem wp_fold_curr (c : Dev nD) (j : ℕ) (q : FVec F S1024x128 .bf16) (x : Acc F) :
    (bigSep Finset.univ fun ℓ : Fin 8 => curr (F := F) m ρ c ℓ j)
      ⊢ WP c (fold2 q x (slotOf j)) (fun y => iprop(⌜y = fold22 m ρ q x (fun δ => org δ c j)⌝ ∗ bigSep Finset.univ fun ℓ : Fin 8 => curr (F := F) m ρ c ℓ j)) := by
  have h1 : (bigSep Finset.univ fun ℓ : Fin 8 => curr (F := F) m ρ c ℓ j)
      ⊢ iprop((bigSep Finset.univ fun ℓ : Fin 8 => reg m ρ ℓ c (slotOf j) fullShare.left (org (dir ℓ) c j))
        ∗ bigSep Finset.univ fun ℓ : Fin 8 => iprop(reg m ρ ℓ c (slotOf j) fullShare.left (org (dir ℓ) c j) -∗ curr m ρ c ℓ j)) :=
    (bigSep_mono fun ℓ _ => curr_left m ρ c ℓ j).trans (Entails.of_eq (bigSep_sep' _ _ _))
  have h2 : iprop((bigSep Finset.univ fun ℓ : Fin 8 => reg m ρ ℓ c (slotOf j) fullShare.left (org (dir ℓ) c j))
        ∗ bigSep Finset.univ fun ℓ : Fin 8 => iprop(reg m ρ ℓ c (slotOf j) fullShare.left (org (dir ℓ) c j) -∗ curr m ρ c ℓ j))
      ⊢ (bigSep Finset.univ fun ℓ : Fin 8 => curr (F := F) m ρ c ℓ j) :=
    (Entails.of_eq (bigSep_sep' _ _ _).symm).trans (bigSep_mono fun ℓ _ => wand_elim_left' _ _)
  iintro H
  ihave H := h1 $$ H
  icases H with ⟨HL, Hw⟩
  iapply (WP_wand c _ (fun y => iprop(⌜y = fold22 m ρ q x (fun δ => org δ c j)⌝ ∗ bigSep Finset.univ fun ℓ : Fin 8 => reg (F := F) m ρ ℓ c (slotOf j) fullShare.left (org (dir ℓ) c j)))) $$ [HL]
  · iapply (wp_fold2 m ρ c (slotOf j) fullShare.left (fun δ => org δ c j) q x); iexact HL
  iintro %y ⟨%hy, HL⟩
  isplitr; · ipureintro; exact hy
  iapply h2
  isplitl [HL]; · iexact HL
  iexact Hw

/-! ## A round -/

/-- A round whose lanes run `f`. -/
def roundOf (f : Fin 8 → P F PUnit) (q : FVec F S1024x128 .bf16) (j : ℕ) (x : Acc F) : P F (Acc F) := do
  lanes f
  let x' ← fold2 q x (slotOf (j + 1))
  lanes fun ℓ => doneStep (j + 1) ℓ
  pure x'

theorem wp_roundOf (c : Dev nD) (f : Fin 8 → P F PUnit) (q : FVec F S1024x128 .bf16) (j : ℕ) (x : Acc F) (hj : j + 1 ≤ 7)
    (hf : ∀ ℓ : Fin 8, iprop((invs m ρ K ιs ∗ CF c (j + 2)) ∗ LS m ρ c j ℓ ∗ Ow c (10 * (j + 2) + ℓ.val))
      ⊢ WP c (f ℓ) (fun _ => iprop((LM m ρ c j ℓ ∗ curr m ρ c ℓ (j + 1)) ∗ Ow c (10 * (j + 2) + ℓ.val + 1)))) :
    iprop((invs m ρ K ιs ∗ CF c (j + 2)) ∗ bigSep Finset.univ (LS m ρ c j) ∗ Ow c (10 * (j + 2)))
      ⊢ WP c (roundOf f q j x) (fun y => iprop(⌜y = fold22 m ρ q x (fun δ => org δ c (j + 1))⌝ ∗ bigSep Finset.univ (LS m ρ c (j + 1)) ∗ Ow c (10 * (j + 2) + 8))) := by
  unfold roundOf
  rw [WP_bind]
  have hA := wp_lanes c iprop(invs m ρ K ιs ∗ CF c (j + 2)) (LS m ρ c j) (fun ℓ => iprop(LM m ρ c j ℓ ∗ curr m ρ c ℓ (j + 1))) (fun n => Ow c (10 * (j + 2) + n)) f hf
  have hD := wp_lanes c (invs m ρ K ιs) (fun ℓ => iprop(LM m ρ c j ℓ ∗ curr m ρ c ℓ (j + 1))) (LS m ρ c (j + 1)) (fun _ => Ow c (10 * (j + 2) + 8)) (fun ℓ => doneStep (j + 1) ℓ)
    (fun ℓ => hop_done m ρ K ιs c j (10 * (j + 2) + 8) ℓ (active_of_le hj ℓ))
  have hsep : (bigSep Finset.univ fun ℓ => iprop(LM (F := F) m ρ c j ℓ ∗ curr m ρ c ℓ (j + 1)))
      = iprop(bigSep Finset.univ (LM m ρ c j) ∗ bigSep Finset.univ fun ℓ => curr m ρ c ℓ (j + 1)) := bigSep_sep' _ _ _
  rw [hsep] at hA hD
  iintro ⟨⟨#HI, #HF⟩, HL, HO⟩
  iapply (WP_wand c _ (fun _ => iprop((bigSep Finset.univ (LM m ρ c j) ∗ bigSep Finset.univ fun ℓ => curr m ρ c ℓ (j + 1)) ∗ Ow c (10 * (j + 2) + 8)))) $$ [HL HO]
  · iapply hA
    isplitr
    · isplitr; · iexact HI
      iexact HF
    isplitl [HL]; · iexact HL
    iexact HO
  iintro %_ ⟨⟨HLM, Hc⟩, HO⟩
  rw [WP_bind]
  iapply (WP_wand c _ (fun y => iprop(⌜y = fold22 m ρ q x (fun δ => org δ c (j + 1))⌝ ∗ bigSep Finset.univ fun ℓ : Fin 8 => curr (F := F) m ρ c ℓ (j + 1)))) $$ [Hc]
  · iapply (wp_fold_curr m ρ c (j + 1) q x); iexact Hc
  iintro %y ⟨%hy, Hc⟩
  rw [WP_bind]
  iapply (WP_wand c _ (fun _ => iprop(bigSep Finset.univ (LS m ρ c (j + 1)) ∗ Ow c (10 * (j + 2) + 8)))) $$ [HLM Hc HO]
  · iapply hD
    isplitr; · iexact HI
    isplitr [HO]
    · isplitl [HLM]; · iexact HLM
      iexact Hc
    iexact HO
  iintro %_ ⟨HL, HO⟩
  iapply (WP_pure c y)
  isplitr; · ipureintro; exact hy
  isplitl [HL]; · iexact HL
  iexact HO

/-- Rounds 2 to 7. -/
theorem wp_round (c : Dev nD) (q : FVec F S1024x128 .bf16) (j : ℕ) (x : Acc F) (hj : j + 2 ≤ 7) :
    iprop((invs m ρ K ιs ∗ CF c (j + 2)) ∗ bigSep Finset.univ (LS m ρ c j) ∗ Ow c (10 * (j + 2)))
      ⊢ WP c (round c q (j + 2) x) (fun y => iprop(⌜y = fold22 m ρ q x (fun δ => org δ c (j + 1))⌝ ∗ bigSep Finset.univ (LS m ρ c (j + 1)) ∗ Ow c (10 * (j + 2) + 8))) :=
  wp_roundOf m ρ K ιs c (hopProg c j) q j x (by omega) fun ℓ => hop_send m ρ K ιs c j ℓ (active_of_le hj ℓ)

/-- The copies of one lane in round 8. -/
def hop8 (d0 : Dev nD) (ℓ : Fin 8) : P F PUnit := if half ℓ = dir ℓ then hopProg d0 6 ℓ else recvStep 7 ℓ

theorem round8_eq (d0 : Dev nD) (q : FVec F S1024x128 .bf16) (x : Acc F) : round8 d0 q x = roundOf (hop8 d0) q 6 x := by
  chain_rfl

theorem active8 (ℓ : Fin 8) : Active 8 ℓ ↔ half ℓ = dir ℓ := ⟨fun h => by unfold Active at h; rcases h with h | h; · omega
                                                                          · exact h.2, fun h => .inr ⟨rfl, h⟩⟩

theorem wp_round8 (c : Dev nD) (q : FVec F S1024x128 .bf16) (x : Acc F) :
    iprop((invs m ρ K ιs ∗ CF c 8) ∗ bigSep Finset.univ (LS m ρ c 6) ∗ Ow c 80)
      ⊢ WP c (round8 c q x) (fun y => iprop(⌜y = fold22 m ρ q x (fun δ => org δ c 7)⌝ ∗ bigSep Finset.univ (LS m ρ c 7) ∗ Ow c 88)) := by
  rw [round8_eq]
  refine wp_roundOf m ρ K ιs c (hop8 c) q 6 x (by omega) fun ℓ => ?_
  unfold hop8
  by_cases ha : half ℓ = dir ℓ
  · rw [if_pos ha]; exact hop_send m ρ K ιs c 6 ℓ ((active8 ℓ).2 ha)
  · rw [if_neg ha]; exact hop_last m ρ K ιs c 6 ℓ (by omega) (fun h => ha ((active8 ℓ).1 h)) (active_of_le (by omega) ℓ)

/-! ## Round 1 -/

/-- A lane before round 1. -/
def LS0 (c : Dev nD) (ℓ : Fin 8) : sProp 𝕄 :=
  iprop(Snd c ℓ 1 ∗ Rcv c ℓ 1 ∗ PR c ℓ 1 ∗ PS c ℓ 1 ∗ Rel c ℓ 0 ∗ reg m ρ ℓ c (slotOf 0) fullShare (org (dir ℓ) c 0))

theorem hop_first (c : Dev nD) (ℓ : Fin 8) :
    iprop((invs m ρ K ιs ∗ CF c 1) ∗ LS0 m ρ c ℓ ∗ Ow c (10 + ℓ.val)) ⊢ WP c (sendStep c 1 ℓ) (fun _ => iprop(LS m ρ c 0 ℓ ∗ Ow c (10 + ℓ.val + 1))) := by
  unfold LS LS0
  iintro ⟨⟨#HI, #HF⟩, ⟨HS, HR, HPR, HPS, HRel, Hreg⟩, HO⟩
  iapply (WP_wand c (sendStep c 1 ℓ) (fun _ => iprop((Snd c ℓ 2 ∗ PS c ℓ 1 ∗ curr m ρ c ℓ 0) ∗ Ow c (10 + ℓ.val + 1)))) $$ [HS HPS Hreg HO]
  · iapply (send_part m ρ K ιs c ℓ 0 1 (active_of_le (by omega) ℓ) (by omega) (by omega))
    isplitr
    · isplitr; · iexact HI
      iexact HF
    isplitl [HS HPS Hreg]
    · isplitl [HS]; · iexact HS
      isplitl [HPS]; · iexact HPS
      iexact Hreg
    iexact HO
  iintro %_ ⟨⟨HS, HPS, Hc'⟩, HO⟩
  isplitr [HO]
  · isplitl [HS]; · iexact HS
    isplitl [HR]; · iexact HR
    isplitl [HPR]; · iexact HPR
    isplitl [HPS]; · iexact HPS
    isplitl [HRel]; · iexact HRel
    isplitr
    · unfold Past; rw [Finset.range_zero, bigSep_empty]; iempintro
    iexact Hc'
  iexact HO

theorem CF_small (c : Dev nD) (h : ℕ) (hh : h < 4) : (emp : sProp 𝕄) ⊢ CF c h := by
  have e : (CF (F := F) c h) = bigSep Finset.univ fun _ : Fin 8 => iprop(emp) := bigSep_congr fun ℓ _ => if_neg (by omega)
  exact Entails.of_eq (e.trans (bigSep_emp_const _)).symm

theorem bigSep_borrow (A B : Fin 8 → sProp 𝕄) (h : ∀ ℓ, A ℓ ⊢ iprop(B ℓ ∗ (B ℓ -∗ A ℓ))) :
    bigSep Finset.univ A ⊢ iprop(bigSep Finset.univ B ∗ (bigSep Finset.univ B -∗ bigSep Finset.univ A)) := by
  have h1 : bigSep Finset.univ A ⊢ iprop(bigSep Finset.univ B ∗ bigSep Finset.univ fun ℓ => iprop(B ℓ -∗ A ℓ)) :=
    (bigSep_mono fun ℓ _ => h ℓ).trans (Entails.of_eq (bigSep_sep' _ _ _))
  have h2 : iprop(bigSep Finset.univ B ∗ bigSep Finset.univ fun ℓ => iprop(B ℓ -∗ A ℓ)) ⊢ bigSep Finset.univ A :=
    (Entails.of_eq (bigSep_sep' _ _ _).symm).trans (bigSep_mono fun ℓ _ => wand_elim_left' _ _)
  iintro H
  ihave H := h1 $$ H
  icases H with ⟨HB, Hw⟩
  isplitl [HB]; · iexact HB
  iintro HB
  iapply h2
  isplitl [HB]; · iexact HB
  iexact Hw

theorem LS_left (c : Dev nD) (j : ℕ) (ℓ : Fin 8) :
    LS (F := F) m ρ c j ℓ ⊢ iprop(reg m ρ ℓ c (slotOf j) fullShare.left (org (dir ℓ) c j) ∗ (reg m ρ ℓ c (slotOf j) fullShare.left (org (dir ℓ) c j) -∗ LS m ρ c j ℓ)) := by
  unfold LS
  iintro ⟨HS, HR, HPR, HPS, HRel, HPast, Hc⟩
  ihave Hc := (curr_left m ρ c ℓ j) $$ Hc
  icases Hc with ⟨HL, Hw⟩
  isplitl [HL]; · iexact HL
  iintro HL
  isplitl [HS]; · iexact HS
  isplitl [HR]; · iexact HR
  isplitl [HPR]; · iexact HPR
  isplitl [HPS]; · iexact HPS
  isplitl [HRel]; · iexact HRel
  isplitl [HPast]; · iexact HPast
  iapply Hw; iexact HL

theorem wp_round1 (c : Dev nD) (q : FVec F S1024x128 .bf16) :
    iprop(invs m ρ K ιs ∗ bigSep Finset.univ (LS0 m ρ c) ∗ Ow c 10)
      ⊢ WP c (round1 c q) (fun y => iprop(⌜y = fold q acc0 (kblk m ρ c) (vblk m ρ c)⌝ ∗ bigSep Finset.univ (LS m ρ c 0) ∗ Ow c 18)) := by
  have hA := wp_lanes c iprop(invs m ρ K ιs ∗ CF c 1) (LS0 m ρ c) (LS m ρ c 0) (fun n => Ow c (10 + n)) (fun ℓ => sendStep c 1 ℓ) (hop_first m ρ K ιs c)
  have hL := bigSep_borrow (LS m ρ c 0) (fun ℓ => reg m ρ ℓ c 0 fullShare.left (org (dir ℓ) c 0)) (LS_left m ρ c 0)
  have e := lanes_slots m ρ c 0 fullShare.left (fun δ => org δ c 0)
  rw [e, org_zero, org_zero] at hL
  unfold round1
  rw [WP_bind]
  iintro ⟨#HI, HL, HO⟩
  iapply (WP_wand c _ (fun _ => iprop(bigSep Finset.univ (LS m ρ c 0) ∗ Ow c 18))) $$ [HL HO]
  · iapply hA
    isplitr
    · isplitr; · iexact HI
      iapply (CF_small c 1 (by omega)); iempintro
    isplitl [HL]; · iexact HL
    iexact HO
  iintro %_ ⟨HL, HO⟩
  ihave HL := hL $$ HL
  icases HL with ⟨⟨H0, H1, H2, H3⟩, Hw⟩
  rw [WP_bind]
  iapply (WP_wand c _ (fun x => iprop(⌜x = pblk m ρ 0 c⌝ ∗ slotPts 0 c 0 fullShare.left (cont m ρ (mate 0).1 c c)))) $$ [H0]
  · iapply (wp_loadSlot m ρ 0 c 0 fullShare.left c); iexact H0
  iintro %k ⟨%hk, H0⟩
  rw [WP_bind]
  iapply (WP_wand c _ (fun x => iprop(⌜x = pblk m ρ 1 c⌝ ∗ slotPts 1 c 0 fullShare.left (cont m ρ (mate 1).1 c c)))) $$ [H1]
  · iapply (wp_loadSlot m ρ 1 c 0 fullShare.left c); iexact H1
  iintro %v ⟨%hv, H1⟩
  subst hk hv
  iapply (WP_pure c (fold q acc0 (pblk m ρ 0 c) (pblk m ρ 1 c)))
  isplitr; · ipureintro; rfl
  isplitr [HO]
  · iapply Hw
    isplitl [H0]; · iexact H0
    isplitl [H1]; · iexact H1
    isplitl [H2]; · iexact H2
    iexact H3
  iexact HO

end Cert.Proof

end
-- ==== Proof.Credits.lean ====
/-
  The CREDITS between the rounds: at the end of round `k + 2` a device tells both devices copying to it that the slot of content `k`
  is free; before round `k + 4` it waits for one such message of each direction.
-/
module

public import proofs.«01_k».proof.Proof.Rounds

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

instance freedTo_persistent (δ : Fin 2) (c : Dev nD) (k : ℕ) : BI.Persistent (freedTo (F := F) δ c k) := by unfold freedTo; infer_instance

/-- More freed includes less. -/
theorem freedTo_mono (δ : Fin 2) (c : Dev nD) {k d : ℕ} (h : k ≤ d) : freedTo (F := F) δ c d ⊢ freedTo δ c k := by
  unfold freedTo
  exact bigSep_mono fun ℓ _ => bigSep_subset (Finset.range_subset_range.mpr (by omega))

theorem freedTo_at (δ : Fin 2) (c : Dev nD) (k : ℕ) (ℓ : Fin 8) (hℓ : dir ℓ = δ) : freedTo (F := F) δ c k ⊢ freed c ℓ k := by
  have h1 : freedTo (F := F) δ c k ⊢ bigSep (Finset.range (k + 1)) fun j => freed c ℓ j :=
    bigSep_elim (i := ℓ) (Finset.mem_filter.mpr ⟨Finset.mem_univ _, hℓ⟩)
  have h2 : (bigSep (Finset.range (k + 1)) fun j => freed (F := F) c ℓ j) ⊢ freed c ℓ k := bigSep_elim (i := k) (Finset.self_mem_range_succ k)
  exact BI.Entails.trans h1 h2

/-- Both directions' messages are what hop `k + 4` needs to know. -/
theorem CF_of_freed (c : Dev nD) (k : ℕ) : iprop(freedTo (F := F) 0 (dn 0 c) k ∗ freedTo 1 (dn 1 c) k) ⊢ CF c (k + 4) := by
  have hp := bigSep_of_persistent (Finset.univ : Finset (Fin 8)) iprop(freedTo (F := F) 0 (dn 0 c) k ∗ freedTo 1 (dn 1 c) k)
  refine BI.Entails.trans hp ?_
  unfold CF
  refine bigSep_mono fun ℓ _ => ?_
  rw [if_pos (by omega), Nat.add_sub_cancel]
  have key : ∀ δ : Fin 2, dir ℓ = δ → freedTo (F := F) δ (dn δ c) k ⊢ freed (dn (dir ℓ) c) ℓ k := fun δ h => by
    subst h; exact freedTo_at (dir ℓ) (dn (dir ℓ) c) k ℓ rfl
  have hd : ∀ ℓ : Fin 8, dir ℓ = 0 ∨ dir ℓ = 1 := by decide
  show iprop(freedTo (F := F) 0 (dn 0 c) k ∗ freedTo 1 (dn 1 c) k) ⊢ freed (dn (dir ℓ) c) ℓ k
  rcases hd ℓ with h | h
  · iintro ⟨H, -⟩; iapply (key 0 h); iexact H
  · iintro ⟨-, H⟩; iapply (key 1 h); iexact H

/-! ## Waiting -/

/-- A credit cell after `k` waits: `k` units consumed, of some set of duties; after all five its round is over. -/
def CrPos (c : Dev nD) (δ : Fin 2) (k : ℕ) : sProp 𝕄 :=
  if k < 5 then iprop(∃ T : Finset ℕ, ⌜T ⊆ Finset.range 5⌝ ∗ atPos ER (kcell (c, .cred δ)) 0 T k ∗ bigSep T fun d => freedTo δ (dn δ c) d)
  else atPos ER (kcell (c, .cred δ)) 1 ∅ 0

/-- The credits for the waits from the `k`-th on. -/
def CrCr (c : Dev nD) (δ : Fin 2) (k : ℕ) : sProp 𝕄 := bigSep (Finset.Ico k 5) fun i => cred (tallyAt (kcell (c, .cred δ)) (i + 3) 1)

theorem pay_range (c : Dev nD) (δ : Fin 2) (S : Finset ℕ) :
    (bigSep S fun d => (Rd (F := F) m ρ).payload (kcell (c, .cred δ)) 0 d) = bigSep S fun d => freedTo δ (dn δ c) d :=
  bigSep_congr fun d _ => Rd_payload m ρ c (.cred δ) 0 d

theorem wait_credit (c : Dev nD) (δ : Fin 2) (k : ℕ) (hk : k < 5) :
    iprop(invs m ρ K ιs ∗ (CrPos c δ k ∗ CrCr c δ k) ∗ Ow c (10 * (k + 4)))
      ⊢ WP c (semWaitWord (credS δ).sem 1#32) (fun _ => iprop((CrPos c δ (k + 1) ∗ CrCr c δ (k + 1)) ∗ freedTo δ (dn δ c) k ∗ Ow c (10 * (k + 4)))) := by
  have hcr : CrCr (F := F) c δ k = iprop(cred (tallyAt (kcell (c, .cred δ)) (k + 3) 1) ∗ CrCr c δ (k + 1)) := by
    unfold CrCr; exact bigSep_Ico_succ_bot hk _
  have hE : (Rd (F := F) m ρ).expect (kcell (c, .cred δ)) 0 = 5 := by rw [Rd_expect]; rfl
  have hD : (Rd (F := F) m ρ).duties (kcell (c, .cred δ)) 0 = Finset.range 5 := Rd_duties m ρ c (.cred δ) 0
  have hpick : ∀ S : Finset ℕ, S ⊆ Finset.range 5 → k + 1 ≤ S.card → (bigSep S fun d => freedTo (F := F) δ (dn δ c) d) ⊢ freedTo δ (dn δ c) k := by
    intro S hS hc
    have hex : ∃ d ∈ S, k ≤ d := by
      by_contra hno
      have : S ⊆ Finset.range k := fun d hd => Finset.mem_range.mpr (Nat.lt_of_not_le fun h => hno ⟨d, hd, h⟩)
      have := Finset.card_le_card this
      rw [Finset.card_range] at this; omega
    obtain ⟨d, hd, hkd⟩ := hex
    have h1 : (bigSep S fun d => freedTo (F := F) δ (dn δ c) d) ⊢ freedTo δ (dn δ c) d := bigSep_elim hd
    exact BI.Entails.trans h1 (freedTo_mono δ (dn δ c) hkd)
  rw [hcr]
  unfold CrPos semWaitWord
  rw [if_pos hk]
  show _ ⊢ WP c (Prog.op (.semWait (credS δ).sem ((1 : ℕ) : ℤ)) .ret) _
  unfold Ow
  by_cases h4 : k + 1 < 5
  · rw [if_pos h4]
    iintro ⟨#HI, ⟨⟨%T, %hT, Hat, #HT⟩, Hc, HCr⟩, ⟨%W, HO⟩⟩
    iapply (Rounds.wp_wait 𝒱₀ ER (Rd m ρ) (c : Thread nD τ) none (sm := csem (.cred δ)) (κ := K (c, .cred δ)) (wpE_semWait_eq 𝒱₀ (c : Thread nD τ) none Set.univ) (Set.mem_univ _)
        (cr := Finsupp.single (k + 3) 1) (O := owed (10 * (k + 4)) c) (W := W) {(csem (.cred δ), k + 3)} (R := 0) (m := k) (T := T) (by rw [Util.total_single])
        (image_single_subset (csem (.cred δ)) (k + 3) 1)) $$ [Hat Hc HO]
    · isplitr; · iapply (invs_cell m ρ K ιs (c, .cred δ)); iexact HI
      isplitl [Hc]; · iexact Hc
      isplitl [HO]; · iexact HO
      isplitr; · iapply (invs_mayWait m ρ K ιs (10 * (k + 4)) (k + 3) (by omega) (by omega) c (csem (.cred δ))); iexact HI
      iexact Hat
    iintro %S ⟨%hS, HO, Hat, Hpay⟩
    have hS' : T ⊆ S ∧ S ⊆ Finset.range 5 ∧ k + 1 ≤ S.card := by
      obtain ⟨h1, h2, h3⟩ := hS
      change S ⊆ (Rd (F := F) m ρ).duties (kcell (c, .cred δ)) 0 at h2
      change k + 1 + ((Rd (F := F) m ρ).duties (kcell (c, .cred δ)) 0 \ S).card ≤ (Rd (F := F) m ρ).expect (kcell (c, .cred δ)) 0 at h3
      rw [hD] at h2
      rw [hE, hD, Finset.card_sdiff_of_subset h2, Finset.card_range] at h3
      have := Finset.card_le_card h2; rw [Finset.card_range] at this
      exact ⟨h1, h2, by omega⟩
    obtain ⟨hTS, hS5, hcard⟩ := hS'
    have hjoin : iprop((bigSep T fun d => freedTo (F := F) δ (dn δ c) d) ∗ bigSep (S \ T) fun d => freedTo δ (dn δ c) d) ⊢ bigSep S fun d => freedTo (F := F) δ (dn δ c) d := by
      have h := bigSep_union (s := T) (t := S \ T) Finset.disjoint_sdiff (Φ := fun d => freedTo (F := F) δ (dn δ c) d)
      rw [Finset.union_sdiff_of_subset hTS] at h
      exact Entails.of_eq h.symm
    ihave Hpay := (Entails.of_eq (pay_range m ρ c δ (S \ T))) $$ [Hpay]
    · iexact Hpay
    ihave #HS := hjoin $$ [Hpay]
    · isplitr; · iexact HT
      iexact Hpay
    rw [wp_ret]; imodintro
    isplitl [Hat HCr]
    · isplitl [Hat]
      · iexists S
        isplitr; · ipureintro; exact hS5
        isplitl [Hat]; · iexact Hat
        iexact HS
      iexact HCr
    isplitr
    · iapply (hpick S hS5 hcard); iexact HS
    · iexists _; iexact HO
  · have hk4 : k = 4 := by omega
    subst hk4
    rw [if_neg h4]
    iintro ⟨#HI, ⟨⟨%T, %hT, Hat, #HT⟩, Hc, HCr⟩, ⟨%W, HO⟩⟩
    iapply (Rounds.wp_wait_rest_token 𝒱₀ ER (Rd m ρ) (c : Thread nD τ) none (sm := csem (.cred δ)) (κ := K (c, .cred δ)) (wpE_semWait_eq 𝒱₀ (c : Thread nD τ) none Set.univ) (Set.mem_univ _)
        (4 + 3) (O := owed (10 * (4 + 4)) c) (W := W) (R := 0) (m := 4) (T := T) hE.symm) $$ [Hat Hc HO]
    · isplitr; · iapply (invs_cell m ρ K ιs (c, .cred δ)); iexact HI
      isplitl [Hc]; · iexact Hc
      isplitl [HO]; · iexact HO
      isplitr; · iapply (invs_mayWait m ρ K ιs (10 * (4 + 4)) (4 + 3) (by omega) (by omega) c (csem (.cred δ))); iexact HI
      iexact Hat
    iintro ⟨HO, Hat, -, Hpay⟩
    have hjoin : iprop((bigSep T fun d => freedTo (F := F) δ (dn δ c) d) ∗ bigSep (Finset.range 5 \ T) fun d => freedTo δ (dn δ c) d)
        ⊢ bigSep (Finset.range 5) fun d => freedTo (F := F) δ (dn δ c) d := by
      have h := bigSep_union (s := T) (t := Finset.range 5 \ T) Finset.disjoint_sdiff (Φ := fun d => freedTo (F := F) δ (dn δ c) d)
      rw [Finset.union_sdiff_of_subset hT] at h
      exact Entails.of_eq h.symm
    have hpe : (bigSep ((Rd (F := F) m ρ).duties (kcell (c, .cred δ)) 0 \ T) fun d => (Rd (F := F) m ρ).payload (kcell (c, .cred δ)) 0 d)
        = bigSep (Finset.range 5 \ T) fun d => freedTo δ (dn δ c) d := by rw [hD]; exact pay_range m ρ c δ _
    ihave Hpay := (Entails.of_eq hpe) $$ [Hpay]
    · iexact Hpay
    ihave #HS := hjoin $$ [Hpay]
    · isplitr; · iexact HT
      iexact Hpay
    rw [wp_ret]; imodintro
    isplitl [Hat HCr]
    · isplitl [Hat]; · iexact Hat
      iexact HCr
    isplitr
    · iapply (hpick (Finset.range 5) (Finset.Subset.refl _) (by decide)); iexact HS
    · iexists _; iexact HO

/-- Both credit cells. -/
def CrW (c : Dev nD) (k : ℕ) : sProp 𝕄 := iprop((CrPos c 0 k ∗ CrCr c 0 k) ∗ (CrPos c 1 k ∗ CrCr c 1 k))

theorem wp_credWait (c : Dev nD) (k : ℕ) (hk : k < 5) :
    iprop(invs m ρ K ιs ∗ CrW c k ∗ Ow c (10 * (k + 4)))
      ⊢ WP c credWait (fun _ => iprop(CrW c (k + 1) ∗ CF c (k + 4) ∗ Ow c (10 * (k + 4)))) := by
  unfold CrW credWait
  rw [WP_bind]
  iintro ⟨#HI, ⟨H0, H1⟩, HO⟩
  iapply (WP_wand c _ (fun _ => iprop((CrPos c 0 (k + 1) ∗ CrCr c 0 (k + 1)) ∗ freedTo 0 (dn 0 c) k ∗ Ow c (10 * (k + 4))))) $$ [H0 HO]
  · iapply (wait_credit m ρ K ιs c 0 k hk)
    isplitr; · iexact HI
    isplitl [H0]; · iexact H0
    iexact HO
  iintro %_ ⟨H0, Hf0, HO⟩
  iapply (WP_wand c _ (fun _ => iprop((CrPos c 1 (k + 1) ∗ CrCr c 1 (k + 1)) ∗ freedTo 1 (dn 1 c) k ∗ Ow c (10 * (k + 4))))) $$ [H1 HO]
  · iapply (wait_credit m ρ K ιs c 1 k hk)
    isplitr; · iexact HI
    isplitl [H1]; · iexact H1
    iexact HO
  iintro %_ ⟨H1, Hf1, HO⟩
  isplitl [H0 H1]
  · isplitl [H0]; · iexact H0
    iexact H1
  isplitr [HO]
  · iapply (CF_of_freed c k)
    isplitl [Hf0]; · iexact Hf0
    iexact Hf1
  iexact HO

/-! ## Signalling -/

/-- The duties of the messages from the `k`-th on. -/
def CrTok (c : Dev nD) (δ : Fin 2) (k : ℕ) : sProp 𝕄 := bigSep (Finset.Ico k 5) fun i => dutyTok ER (kcell (up δ c, .cred δ)) 0 i

theorem due_credit (k : ℕ) (δ : Fin 2) (hk : k < 5) (c : Dev nD) :
    due (10 * (k + 2) + 8 + δ.val) c = tallyAt (kcell (up δ c, .cred δ)) (k + 3) 1 := by
  have hlt := δ.isLt
  have e1 : (10 * (k + 2) + 8 + δ.val) % 10 = 8 + δ.val := by omega
  have e2 : (10 * (k + 2) + 8 + δ.val) / 10 = k + 2 := by omega
  have hm : ¬ (10 * (k + 2) + 8 + δ.val) % 10 < 8 := by omega
  have ef : (⟨((10 * (k + 2) + 8 + δ.val) % 10 - 8) % 2, Nat.mod_lt _ (by decide)⟩ : Fin 2) = δ := Fin.ext (by show _ % 2 = _; omega)
  unfold due dueDev dueCh dueDir dueAmt
  rw [dif_neg hm, dif_neg hm, dif_neg hm, if_neg hm, e2, ef, if_neg (by omega), if_pos (Or.inr ⟨by omega, by omega⟩)]

theorem signal_credit (c n : Dev nD) (δ : Fin 2) (k : ℕ) (hn : n = up δ c) (hk : k < 5) :
    iprop(invs m ρ K ιs ∗ (CrTok c δ k ∗ freedTo δ c k) ∗ Ow c (10 * (k + 2) + 8 + δ.val))
      ⊢ WP c (semSignalWord n (credS δ).sem 1#32) (fun _ => iprop(CrTok c δ (k + 1) ∗ Ow c (10 * (k + 2) + 8 + δ.val + 1))) := by
  subst hn
  have htk : CrTok (F := F) c δ k = iprop(dutyTok ER (kcell (up δ c, .cred δ)) 0 k ∗ CrTok c δ (k + 1)) := by
    unfold CrTok; exact bigSep_Ico_succ_bot hk _
  have hD : k ∈ (Rd (F := F) m ρ).duties (kcell (up δ c, .cred δ)) 0 := by rw [Rd_duties]; exact Finset.mem_range.mpr hk
  have hP : freedTo (F := F) δ c k ⊢ (Rd m ρ).payload (kcell (up δ c, .cred δ)) 0 k := by
    rw [Rd_payload]; unfold payAt; dsimp only; rw [dn_up]
  have hO : owed (10 * (k + 2) + 8 + δ.val) c = owed (10 * (k + 2) + 8 + δ.val + 1) c + tallyAt (kcell (up δ c, .cred δ)) (k + 3) 1 := by
    rw [owed_step (by have := δ.isLt; omega), due_credit k δ hk]
  rw [htk]
  unfold semSignalWord Ow
  show _ ⊢ WP c (Prog.op (.semSignal (up δ c : Thread nD τ) (credS δ).sem ((1 : ℕ) : ℤ)) .ret) _
  iintro ⟨#HI, ⟨⟨Ht, HTk⟩, Hf⟩, ⟨%W, HO⟩⟩
  iapply (Rounds.wp_signal 𝒱₀ ER (Rd m ρ) (c : Thread nD τ) none (dst := (up δ c : Thread nD τ)) (κ := K (up δ c, .cred δ)) (r := 0) (d := k) hD
      (Rd_amount m ρ (up δ c) (.cred δ) 0 k) (k + 3) (owed (10 * (k + 2) + 8 + δ.val + 1) c) hO (W := W)) $$ [Ht Hf HO]
  · isplitr; · iapply (invs_cell m ρ K ιs (up δ c, .cred δ)); iexact HI
    isplitl [HO]; · iexact HO
    isplitl [Ht]; · iexact Ht
    isplitl [Hf]; · iapply (show freedTo (F := F) δ c k ⊢ (Rd m ρ).payload ((up δ c : Thread nD τ), .reg (credS δ).sem) 0 k from hP); iexact Hf
    iapply (invs_reached m ρ K ιs (up δ c, .cred δ)); iexact HI
  iintro HO
  rw [wp_ret]; imodintro
  isplitl [HTk]; · iexact HTk
  iexists W; iexact HO

/-- What is past is freed. -/
theorem past_freed (c : Dev nD) (ℓ : Fin 8) (j : ℕ) : past (F := F) m ρ c ℓ j ⊢ iprop(past m ρ c ℓ j ∗ freed c ℓ j) := by
  unfold past freed
  by_cases h : Active (j + 4) ℓ
  · rw [if_pos h, if_pos h]
    iintro ⟨#H1, #H2⟩
    isplitr
    · isplitr; · iexact H1
      iexact H2
    · isplitr; · iexact H1
      iexact H2
  · rw [if_neg h, if_neg h]
    iintro H
    isplitl [H]; · iexact H
    iempintro

theorem LS_freed (c : Dev nD) (k : ℕ) :
    bigSep Finset.univ (LS (F := F) m ρ c (k + 1)) ⊢ iprop(bigSep Finset.univ (LS m ρ c (k + 1)) ∗ freedTo 0 c k ∗ freedTo 1 c k) := by
  have h1 : ∀ ℓ : Fin 8, LS (F := F) m ρ c (k + 1) ℓ ⊢ iprop(LS m ρ c (k + 1) ℓ ∗ bigSep (Finset.range (k + 1)) fun j => freed c ℓ j) := by
    intro ℓ
    have hp : Past (F := F) m ρ c ℓ (k + 1) ⊢ iprop(Past m ρ c ℓ (k + 1) ∗ bigSep (Finset.range (k + 1)) fun j => freed c ℓ j) := by
      unfold Past
      exact (bigSep_mono fun j _ => past_freed m ρ c ℓ j).trans (Entails.of_eq (bigSep_sep' _ _ _))
    unfold LS
    iintro ⟨HS, HR, HPR, HPS, HRel, HPast, Hc⟩
    ihave HP := hp $$ HPast
    icases HP with ⟨HPast, Hf⟩
    isplitr [Hf]
    · isplitl [HS]; · iexact HS
      isplitl [HR]; · iexact HR
      isplitl [HPR]; · iexact HPR
      isplitl [HPS]; · iexact HPS
      isplitl [HRel]; · iexact HRel
      isplitl [HPast]; · iexact HPast
      iexact Hc
    iexact Hf
  have h2 : bigSep Finset.univ (LS (F := F) m ρ c (k + 1))
      ⊢ iprop(bigSep Finset.univ (LS m ρ c (k + 1)) ∗ bigSep Finset.univ fun ℓ : Fin 8 => bigSep (Finset.range (k + 1)) fun j => freed c ℓ j) :=
    (bigSep_mono fun ℓ _ => h1 ℓ).trans (Entails.of_eq (bigSep_sep' _ _ _))
  have h3 : ∀ δ : Fin 2, (bigSep Finset.univ fun ℓ : Fin 8 => bigSep (Finset.range (k + 1)) fun j => freed (F := F) c ℓ j) ⊢ freedTo δ c k := fun δ => by
    unfold freedTo; exact bigSep_subset (Finset.subset_univ _)
  iintro H
  ihave H := h2 $$ H
  icases H with ⟨HL, #Hf⟩
  isplitl [HL]; · iexact HL
  isplitr
  · iapply (h3 0); iexact Hf
  · iapply (h3 1); iexact Hf

theorem wp_credSignal (c : Dev nD) (k : ℕ) (hk : k < 5) :
    iprop(invs m ρ K ιs ∗ (bigSep Finset.univ (LS m ρ c (k + 1)) ∗ CrTok c 0 k ∗ CrTok c 1 k) ∗ Ow c (10 * (k + 2) + 8))
      ⊢ WP c (credSignal c) (fun _ => iprop((bigSep Finset.univ (LS m ρ c (k + 1)) ∗ CrTok c 0 (k + 1) ∗ CrTok c 1 (k + 1)) ∗ Ow c (10 * (k + 3)))) := by
  unfold credSignal
  rw [WP_bind]
  iintro ⟨#HI, ⟨HL, Ht0, Ht1⟩, HO⟩
  ihave HL := (LS_freed m ρ c k) $$ HL
  icases HL with ⟨HL, #Hf0, #Hf1⟩
  iapply (WP_wand c _ (fun _ => iprop(CrTok c 0 (k + 1) ∗ Ow c (10 * (k + 2) + 8 + 1)))) $$ [Ht0 HO]
  · iapply (signal_credit m ρ K ιs c (upP c 0) 0 k (upP_eq c 0) hk)
    isplitr; · iexact HI
    isplitl [Ht0]
    · isplitl [Ht0]; · iexact Ht0
      iexact Hf0
    iexact HO
  iintro %_ ⟨Ht0, HO⟩
  iapply (WP_wand c _ (fun _ => iprop(CrTok c 1 (k + 1) ∗ Ow c (10 * (k + 3))))) $$ [Ht1 HO]
  · iapply (signal_credit m ρ K ιs c (upP c 1) 1 k (upP_eq c 1) hk)
    isplitr; · iexact HI
    isplitl [Ht1]
    · isplitl [Ht1]; · iexact Ht1
      iexact Hf1
    iexact HO
  iintro %_ ⟨Ht1, HO⟩
  isplitr [HO]
  · isplitl [HL]; · iexact HL
    isplitl [Ht0]; · iexact Ht0
    iexact Ht1
  iexact HO

/-! ## A round, its credits sent and the next ones awaited -/

/-- Rounds 3 to 6 with what follows each. -/
def cycle (d0 : Dev nD) (q : FVec F S1024x128 .bf16) (r : ℕ) (x : Acc F) : P F (Acc F) := do
  let y ← round d0 q r x
  credSignal d0
  credWait
  pure y

/-- A device between rounds: before round `k + 3`. -/
def St (c : Dev nD) (k : ℕ) : sProp 𝕄 :=
  iprop((bigSep Finset.univ (LS m ρ c (k + 1)) ∗ CrTok c 0 (k + 1) ∗ CrTok c 1 (k + 1)) ∗ CrW c k ∗ CF c (k + 3) ∗ Ow c (10 * (k + 3)))

theorem wp_cycle (c : Dev nD) (q : FVec F S1024x128 .bf16) (k : ℕ) (x : Acc F) (hk : k < 4) :
    iprop(invs m ρ K ιs ∗ St m ρ c k)
      ⊢ WP c (cycle c q (k + 3) x) (fun y => iprop(⌜y = fold22 m ρ q x (fun δ => org δ c (k + 2))⌝ ∗ St m ρ c (k + 1))) := by
  unfold St cycle
  rw [WP_bind]
  iintro ⟨#HI, ⟨HL, Ht0, Ht1⟩, HW, #HF, HO⟩
  iapply (WP_wand c _ (fun y => iprop(⌜y = fold22 m ρ q x (fun δ => org δ c (k + 1 + 1))⌝ ∗ bigSep Finset.univ (LS m ρ c (k + 1 + 1)) ∗ Ow c (10 * (k + 1 + 2) + 8)))) $$ [HL HO]
  · iapply (wp_round m ρ K ιs c q (k + 1) x (by omega))
    isplitr
    · isplitr; · iexact HI
      iexact HF
    isplitl [HL]; · iexact HL
    iexact HO
  iintro %y ⟨%hy, HL, HO⟩
  rw [WP_bind]
  iapply (WP_wand c _ (fun _ => iprop((bigSep Finset.univ (LS m ρ c (k + 1 + 1)) ∗ CrTok c 0 (k + 1 + 1) ∗ CrTok c 1 (k + 1 + 1)) ∗ Ow c (10 * (k + 1 + 3))))) $$ [HL Ht0 Ht1 HO]
  · iapply (wp_credSignal m ρ K ιs c (k + 1) (by omega))
    isplitr; · iexact HI
    isplitr [HO]
    · isplitl [HL]; · iexact HL
      isplitl [Ht0]; · iexact Ht0
      iexact Ht1
    iexact HO
  iintro %_ ⟨HL, HO⟩
  rw [WP_bind]
  iapply (WP_wand c _ (fun _ => iprop(CrW c (k + 1) ∗ CF c (k + 4) ∗ Ow c (10 * (k + 4))))) $$ [HW HO]
  · iapply (wp_credWait m ρ K ιs c k (by omega))
    isplitr; · iexact HI
    isplitl [HW]; · iexact HW
    iexact HO
  iintro %_ ⟨HW, HF', HO⟩
  iapply (WP_pure c y)
  isplitr; · ipureintro; exact hy
  isplitl [HL]; · iexact HL
  isplitl [HW]; · iexact HW
  isplitl [HF']; · iexact HF'
  iexact HO

end Cert.Proof

end
-- ==== Proof.Buffers.lean ====
/-
  The four BUFFERS whole: cut into slots and half slots at the start, filled with this device's block, read by halves in the last
  round, and put together again at the end.
-/
module

public import proofs.«01_k».proof.Proof.Rounds

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)

/-- The buffer of a pair, as the lane's memory, on device `c`. -/
abbrev bloc (b : Fin 4) (c : Dev nD) : Loc nD τ sig := (laneM (mate b).1).view.loc (c : Thread nD τ)

/-- A slot of a buffer, holding anything. -/
def slotAny (b : Fin 4) (c : Dev nD) (s : Fin 4) : sProp 𝕄 := iprop(∃ f, slotPts b c s fullShare f)

/-- The slots make the buffer. -/
theorem slots_cover (b : Fin 4) : (Finset.univ.biUnion fun s : Fin 4 => (laneM (mate b).1).view.setOn (slotSet s)) = Finset.univ := by
  have key : ∀ (M : Memref sig .tc .vmem S4x1024x128 .bf16), M.view.set = Finset.univ → (Finset.univ.biUnion fun s : Fin 4 => M.view.setOn (slotSet s)) = Finset.univ := by
    intro M hM
    refine Finset.eq_univ_of_forall fun i => ?_
    have hi : i ∈ M.view.set := hM ▸ Finset.mem_univ i
    obtain ⟨x, -, rfl⟩ := Finset.mem_map.mp hi
    refine Finset.mem_biUnion.mpr ⟨x 0, Finset.mem_univ _, Finset.mem_map_of_mem _ ?_⟩
    exact (mem_slotSet (x 0) x).mpr rfl
  match b with
  | 0 => exact key (Memref.whole cc0_scratch0) (View.set_whole _)
  | 1 => exact key (Memref.whole cc0_scratch1) (View.set_whole _)
  | 2 => exact key (Memref.whole cc0_scratch2) (View.set_whole _)
  | 3 => exact key (Memref.whole cc0_scratch3) (View.set_whole _)

theorem slots_disjoint (b : Fin 4) (s s' : Fin 4) (h : s ≠ s') : Disjoint ((laneM (mate b).1).view.setOn (slotSet s)) ((laneM (mate b).1).view.setOn (slotSet s')) := by
  refine (Finset.disjoint_map (laneM (mate b).1).view.emb).mpr (Finset.disjoint_left.mpr fun i h0 h1 => h (Fin.ext ?_))
  rw [mem_slotSet] at h0 h1; omega

theorem bloc_split (b : Fin 4) (c : Dev nD) (f : Buf (Elt F) (bloc b c)) :
    (bloc b c ↦{fullShare} f : sProp 𝕄) = iprop(slotPts b c 0 fullShare f ∗ slotPts b c 1 fullShare f ∗ slotPts b c 2 fullShare f ∗ slotPts b c 3 fullShare f) := by
  have h := pointsTo_biUnion (Val := Elt F) (q := fullShare) (f := f) (Ix := ℕ) (Name := ℕ) (U := UU) (Lvl := ℕ) (Finset.univ : Finset (Fin 4))
    (fun s => (laneM (mate b).1).view.setOn (slotSet s)) (fun s _ s' _ hne => slots_disjoint b s s' hne)
  rw [slots_cover] at h
  refine h.trans ?_
  rw [bigSep_univ_eq_bigSepL ([0, 1, 2, 3] : List (Fin 4)) (by decide) (by decide)]
  rfl

theorem bloc_join (b : Fin 4) (c : Dev nD) :
    iprop(slotAny b c 0 ∗ slotAny b c 1 ∗ slotAny b c 2 ∗ slotAny b c 3) ⊢ (iprop(∃ f, bloc b c ↦{fullShare} f) : sProp 𝕄) := by
  unfold slotAny
  iintro ⟨⟨%f0, H0⟩, ⟨%f1, H1⟩, ⟨%f2, H2⟩, ⟨%f3, H3⟩⟩
  let fs : Fin 4 → Buf (Elt F) (bloc b c) := fun s => match s with | 0 => f0 | 1 => f1 | 2 => f2 | 3 => f3
  have h := pointsTo_biUnion_join (Val := Elt F) (q := fullShare) (Ix := ℕ) (Name := ℕ) (U := UU) (Lvl := ℕ) (Finset.univ : Finset (Fin 4))
    (fun s => (laneM (mate b).1).view.setOn (slotSet s)) fs f0 (fun s _ s' _ hne => slots_disjoint b s s' hne)
  rw [slots_cover] at h
  have h' : iprop(slotPts b c 0 fullShare f0 ∗ slotPts b c 1 fullShare f1 ∗ slotPts b c 2 fullShare f2 ∗ slotPts b c 3 fullShare f3)
      ⊢ (bigSep Finset.univ fun s : Fin 4 => (bloc b c ↦[(laneM (mate b).1).view.setOn (slotSet s)]{fullShare} fs s : sProp 𝕄)) := by
    rw [bigSep_univ_eq_bigSepL ([0, 1, 2, 3] : List (Fin 4)) (by decide) (by decide)]
    exact BI.Entails.refl _
  ihave H := h' $$ [H0 H1 H2 H3]
  · isplitl [H0]; · iexact H0
    isplitl [H1]; · iexact H1
    isplitl [H2]; · iexact H2
    iexact H3
  ihave H := h $$ H
  icases H with ⟨%g, -, H⟩
  iexists g; iexact H

/-- A half slot, as elements of its pair's buffer. -/
theorem anyReg_eq (ℓ : Fin 8) (c : Dev nD) (s : Fin 4) :
    anyReg (F := F) ℓ c s = slot ((laneM ℓ).view.loc (c : Thread nD τ)) ((laneM ℓ).view.setOn (halfSet s (half ℓ))) :=
  congrArg (slot ((laneM ℓ).view.loc (c : Thread nD τ))) (chunk_set ℓ s)

theorem slot_halves (M : Memref sig .tc .vmem S4x1024x128 .bf16) (c : Dev nD) (s : Fin 4) :
    (slot (M.view.loc (c : Thread nD τ)) (M.view.setOn (slotSet s)) : sProp 𝕄)
      ⊣⊢ iprop(slot (M.view.loc (c : Thread nD τ)) (M.view.setOn (halfSet s 0)) ∗ slot (M.view.loc (c : Thread nD τ)) (M.view.setOn (halfSet s 1))) := by
  have hd : Disjoint (M.view.setOn (halfSet s 0)) (M.view.setOn (halfSet s 1)) := (Finset.disjoint_map M.view.emb).mpr (halves_disjoint s)
  rw [← setOn_union_of M.view _ _ _ (halves_union s)]
  unfold slot
  constructor
  · iintro ⟨%f, H⟩
    ihave H := (pointsTo_union hd).1 $$ H
    icases H with ⟨H0, H1⟩
    isplitl [H0]
    · iexists f; iexact H0
    · iexists f; iexact H1
  · iintro ⟨⟨%f, H0⟩, ⟨%g, H1⟩⟩
    iexists _
    iapply (pointsTo_join hd)
    isplitl [H0]; · iexact H0
    iexact H1

/-- The two half slots of a pair, whatever they hold, as one slot. -/
theorem pair_any (b : Fin 4) (c : Dev nD) (s : Fin 4) :
    slotAny (F := F) b c s ⊣⊢ iprop(anyReg (mate b).1 c s ∗ anyReg (mate b).2 c s) := by
  rw [anyReg_eq, anyReg_eq]
  match b with
  | 0 => exact slot_halves (laneM 0) c s
  | 1 => exact slot_halves (laneM 4) c s
  | 2 => exact slot_halves (laneM 1) c s
  | 3 => exact slot_halves (laneM 5) c s

/-! ## Filling slot 0 -/

set_option maxRecDepth 100000 in
theorem fill_value (b : Fin 4) (c : Dev nD) (x : FVec F S1024x128 .f32) (hx : pblk m ρ b c = k0_pay4 x) (f : Buf (Elt F) (bloc b c)) :
    ∀ i ∈ (laneM (mate b).1).view.setOn (slotSet 0),
      ((laneM (mate b).1).access (Rect.unit (s := S4x1024x128) ![0, 0, 0] S1x1024x128.size (inb_slot 0))).write (Elt F) f (k0_pay4 x) Finset.univ i
        = cont m ρ (mate b).1 c c i := by
  intro i hi
  have hset : (laneM (mate b).1).view.setOn (slotSet 0)
      = ((laneM (mate b).1).access (Rect.unit (s := S4x1024x128) ![0, 0, 0] S1x1024x128.size (inb_slot 0))).set := (View.set_slice _ _).symm
  rw [hset] at hi
  obtain ⟨y, -, rfl⟩ := Finset.mem_map.mp hi
  refine ((View.write_emb (Val := Elt F) (v := ((laneM (mate b).1).access (Rect.unit (s := S4x1024x128) ![0, 0, 0] S1x1024x128.size (inb_slot 0)))) f (k0_pay4 x)
    Finset.univ y).trans (if_pos (Finset.mem_univ y))).trans ?_
  rw [← hx]
  have h1 : ((Rect.unit (s := S4x1024x128) ![0, 0, 0] S1x1024x128.size (inb_slot 0)).emb y) 1 = y 1 := Fin.ext (by show 0 + 1 * (y 1).val = (y 1).val; omega)
  have h2 : ((Rect.unit (s := S4x1024x128) ![0, 0, 0] S1x1024x128.size (inb_slot 0)).emb y) 2 = y 2 := Fin.ext (by show 0 + 1 * (y 2).val = (y 2).val; omega)
  have e : ∀ B : Vec F S1x1024x128 .bf16, B y = spread B ((Rect.unit (s := S4x1024x128) ![0, 0, 0] S1x1024x128.size (inb_slot 0)).emb y) := fun B => (spread_at B _ y h1 h2).symm
  exact match b with
    | 0 => e (kblk m ρ c)
    | 1 => e (vblk m ρ c)
    | 2 => e (kblk m ρ c)
    | 3 => e (vblk m ρ c)

theorem wp_fill (b : Fin 4) (c : Dev nD) (hM : (laneM (mate b).1).IsWhole) (x : FVec F S1024x128 .f32) (hx : pblk m ρ b c = k0_pay4 x) :
    slotAny (F := F) b c 0 ⊢ WP c (fill (laneM (mate b).1) hM x) (fun _ => slotPts b c 0 fullShare (cont m ρ (mate b).1 c c)) := by
  unfold slotAny slotPts fill loadSlot
  simp only [Prog.lift, Prog.bind_op, Prog.bind_ret]
  iintro ⟨%f, H⟩
  iapply (wp_load 𝒱₀ (c : Thread nD τ) none Set.univ (m := laneM (mate b).1)
    (r := (Rect.unit (s := S4x1024x128) ![(0 : Fin 4).val, 0, 0] S1x1024x128.size (inb_slot 0)).toLoadRect) (S := (laneM (mate b).1).view.setOn (slotSet 0))
    (Finset.Subset.refl _)) $$ H
  iintro H
  iapply (wp_store 𝒱₀ (c : Thread nD τ) none Set.univ (m := laneM (mate b).1) (Mk := Finset.univ) (w := k0_pay4 x)
    (r := Rect.unit (s := S4x1024x128) ![0, 0, 0] S1x1024x128.size (inb_slot 0)) (S := (laneM (mate b).1).view.setOn (slotSet 0))
    (by rw [View.setOn_univ]; exact (View.set_slice _ _).le)) $$ H
  iintro H
  rw [wp_ret]; imodintro
  iapply (Entails.of_eq (pointsTo_congr (fill_value m ρ b c x hx f)))
  iexact H

/-! ## Loading a half slot -/

/-- Half of a block. -/
def halfOf (B : Vec F S1x1024x128 .bf16) (h : Fin 2) : Vec F S1x512x128 .bf16 := fun i => B fun a => match a with
  | 0 => ⟨0, by decide⟩ | 1 => ⟨512 * h.val + (i 1).val, by have := (i 1).isLt; change _ < 512 at this; have := h.isLt; show _ < 1024; omega⟩ | 2 => i 2

/-- The block a lane carries. -/
def lblk (ℓ : Fin 8) (o : Dev nD) : Vec F S1x1024x128 .bf16 := match ℓ with
  | 0 => kblk m ρ o | 1 => kblk m ρ o | 2 => kblk m ρ o | 3 => kblk m ρ o | 4 => vblk m ρ o | 5 => vblk m ρ o | 6 => vblk m ρ o | 7 => vblk m ρ o

theorem spread_half (B : Vec F S1x1024x128 .bf16) (h : Fin 2) (i : S4x1024x128.Idx) (x : S1x512x128.Idx) (h1 : (i 1).val = 512 * h.val + (x 1).val) (h2 : (i 2).val = (x 2).val) :
    spread B i = halfOf B h x :=
  congrArg B (funext fun a => match a with | 0 => rfl | 1 => Fin.ext h1 | 2 => Fin.ext h2)

theorem half_value (ℓ : Fin 8) (c : Dev nD) (s : Fin 4) (o : Dev nD) :
    (laneM ℓ).view.readAt (Elt F) (Rect.unit (s := S4x1024x128) ![s.val, 512 * (half ℓ).val, 0] S1x512x128.size (inb_chunk s (half ℓ))).toLoadRect (cont m ρ ℓ c o)
      = halfOf (lblk m ρ ℓ o) (half ℓ) := by
  funext x
  have h1 : (((Rect.unit (s := S4x1024x128) ![s.val, 512 * (half ℓ).val, 0] S1x512x128.size (inb_chunk s (half ℓ))).emb x) 1).val = 512 * (half ℓ).val + (x 1).val := by
    show 512 * (half ℓ).val + 1 * (x 1).val = _; omega
  have h2 : (((Rect.unit (s := S4x1024x128) ![s.val, 512 * (half ℓ).val, 0] S1x512x128.size (inb_chunk s (half ℓ))).emb x) 2).val = (x 2).val := by
    show 0 + 1 * (x 2).val = _; omega
  exact match ℓ with
    | 0 => spread_half (kblk m ρ o) (half 0) _ x h1 h2
    | 1 => spread_half (kblk m ρ o) (half 1) _ x h1 h2
    | 2 => spread_half (kblk m ρ o) (half 2) _ x h1 h2
    | 3 => spread_half (kblk m ρ o) (half 3) _ x h1 h2
    | 4 => spread_half (vblk m ρ o) (half 4) _ x h1 h2
    | 5 => spread_half (vblk m ρ o) (half 5) _ x h1 h2
    | 6 => spread_half (vblk m ρ o) (half 6) _ x h1 h2
    | 7 => spread_half (vblk m ρ o) (half 7) _ x h1 h2

theorem wp_loadHalf (ℓ : Fin 8) (c : Dev nD) (s : Fin 4) (q : PosShare TreeShare) (o : Dev nD) :
    reg (F := F) m ρ ℓ c s q o ⊢ WP c (loadHalf (laneM ℓ) s (half ℓ)) (fun x => iprop(⌜x = halfOf (lblk m ρ ℓ o) (half ℓ)⌝ ∗ reg m ρ ℓ c s q o)) := by
  unfold reg loadHalf
  simp only [Prog.lift]
  iintro H
  iapply (wp_load 𝒱₀ (c : Thread nD τ) none Set.univ (m := laneM ℓ)
    (r := (Rect.unit (s := S4x1024x128) ![s.val, 512 * (half ℓ).val, 0] S1x512x128.size (inb_chunk s (half ℓ))).toLoadRect) (S := (chunk ℓ s).view.set)
    (chunk_set ℓ s).ge) $$ H
  iintro H
  rw [wp_ret]; imodintro
  isplitr
  · ipureintro; exact half_value m ρ ℓ c s o
  · iexact H

end Cert.Proof

end
-- ==== Proof.Tail.lean ====
/-
  The LAST round: two halves of the opposite device's block arrive, one from each direction. After it every cell is closed at zero
  and the buffers are whole again.
-/
module

public import proofs.«01_k».proof.Proof.Buffers

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-- A program of the lanes taking part in hop 8 only. -/
def only (f : Fin 8 → P F PUnit) (ℓ : Fin 8) : P F PUnit := if half ℓ = dir ℓ then f ℓ else pure ⟨⟩

theorem lanes4_eq (f : Fin 8 → P F PUnit) : lanes4 f = lanes (only f) := rfl

/-- The hop a lane's cells await after its last one. -/
def top (ℓ : Fin 8) : ℕ := if half ℓ = dir ℓ then 9 else 8

/-- Content 8 of the lanes that receive it. -/
def last (c : Dev nD) (ℓ : Fin 8) : sProp 𝕄 := if half ℓ = dir ℓ then reg m ρ ℓ c (slotOf 8) fullShare (org (dir ℓ) c 8) else iprop(emp)

/-- A lane between its landing and its read-out of hop 8, apart from that content, -/
def LE (c : Dev nD) (ℓ : Fin 8) : sProp 𝕄 :=
  if half ℓ = dir ℓ then iprop(PR c ℓ 9 ∗ PS c ℓ 8 ∗ Rel c ℓ 7 ∗ curr m ρ c ℓ 7 ∗ Past m ρ c ℓ 7) else iprop(PR c ℓ 8 ∗ PS c ℓ 8 ∗ Past m ρ c ℓ 8)

/-- and after it. -/
def LF (c : Dev nD) (ℓ : Fin 8) : sProp 𝕄 := iprop(PR c ℓ (top ℓ) ∗ PS c ℓ (top ℓ) ∗ Past m ρ c ℓ 8)

theorem hop9_recv (c : Dev nD) (ℓ : Fin 8) :
    iprop(invs m ρ K ιs ∗ LS m ρ c 7 ℓ ∗ Ow c 90) ⊢ WP c (only (fun ℓ => recvStep 8 ℓ) ℓ) (fun _ => iprop((LE m ρ c ℓ ∗ last m ρ c ℓ) ∗ Ow c 90)) := by
  unfold LE last only LS
  by_cases ha : half ℓ = dir ℓ
  · rw [if_pos ha, if_pos ha, if_pos ha]
    iintro ⟨#HI, ⟨-, HR, HPR, HPS, HRel, HPast, Hc⟩, HO⟩
    iapply (WP_wand c (recvStep 8 ℓ) (fun _ => iprop((Rcv c ℓ 9 ∗ PR c ℓ 9 ∗ reg m ρ ℓ c (slotOf 8) fullShare (org (dir ℓ) c 8)) ∗ Ow c 90))) $$ [HR HPR HO]
    · iapply (recv_part m ρ K ιs c ℓ 8 90 (by omega) ((active8 ℓ).2 ha) (by omega))
      isplitr; · iexact HI
      isplitl [HR HPR]
      · isplitl [HR]; · iexact HR
        iexact HPR
      iexact HO
    iintro %_ ⟨⟨-, HPR, Hreg⟩, HO⟩
    isplitr [HO]
    · isplitr [Hreg]
      · isplitl [HPR]; · iexact HPR
        isplitl [HPS]; · iexact HPS
        isplitl [HRel]; · iexact HRel
        isplitl [Hc]; · iexact Hc
        iexact HPast
      iexact Hreg
    iexact HO
  · have hn : ¬ Active 8 ℓ := fun h => ha ((active8 ℓ).1 h)
    have hcur : curr (F := F) m ρ c ℓ 7 = past m ρ c ℓ 7 := by
      unfold curr past
      rw [if_neg hn, if_neg fun h : Active (7 + 4) ℓ => by have := h.le; omega]
    have hpast : iprop(past (F := F) m ρ c ℓ 7 ∗ Past m ρ c ℓ 7) ⊢ Past m ρ c ℓ 8 := by
      unfold Past; exact Entails.of_eq (bigSep_range_succ 7 _).symm
    rw [if_neg ha, if_neg ha, if_neg ha, hcur]
    iintro ⟨-, ⟨-, -, HPR, HPS, -, HPast, Hc⟩, HO⟩
    iapply (WP_pure c PUnit.unit)
    isplitr [HO]
    · isplitr []
      · isplitl [HPR]; · iexact HPR
        isplitl [HPS]; · iexact HPS
        iapply hpast
        isplitl [Hc]; · iexact Hc
        iexact HPast
      iempintro
    iexact HO

theorem hop9_done (c : Dev nD) (ℓ : Fin 8) :
    iprop(invs m ρ K ιs ∗ LE m ρ c ℓ ∗ Ow c 90) ⊢ WP c (only (fun ℓ => doneStep 8 ℓ) ℓ) (fun _ => iprop(LF m ρ c ℓ ∗ Ow c 90)) := by
  unfold LE LF only top
  by_cases ha : half ℓ = dir ℓ
  · rw [if_pos ha, if_pos ha, if_pos ha]
    iintro ⟨#HI, ⟨HPR, HPS, HRel, Hc, HPast⟩, HO⟩
    iapply (WP_wand c (doneStep 8 ℓ) (fun _ => iprop((PR c ℓ 9 ∗ PS c ℓ 9 ∗ Rel c ℓ 8 ∗ Past m ρ c ℓ 8) ∗ Ow c 90))) $$ [HPR HPS HRel Hc HPast HO]
    · iapply (done_part m ρ K ιs c ℓ 7 9 90 ((active8 ℓ).2 ha) (by omega) (by omega))
      isplitr; · iexact HI
      isplitr [HO]
      · isplitl [HPR]; · iexact HPR
        isplitl [HPS]; · iexact HPS
        isplitl [HRel]; · iexact HRel
        isplitl [Hc]; · iexact Hc
        iexact HPast
      iexact HO
    iintro %_ ⟨⟨HPR, HPS, -, HPast⟩, HO⟩
    isplitr [HO]
    · isplitl [HPR]; · iexact HPR
      isplitl [HPS]; · iexact HPS
      iexact HPast
    iexact HO
  · rw [if_neg ha, if_neg ha, if_neg ha]
    iintro ⟨-, ⟨HPR, HPS, HPast⟩, HO⟩
    iapply (WP_pure c PUnit.unit)
    isplitr [HO]
    · isplitl [HPR]; · iexact HPR
      isplitl [HPS]; · iexact HPS
      iexact HPast
    iexact HO

/-- The four half slots of hop 8. -/
theorem last_eq (c : Dev nD) : bigSep Finset.univ (last (F := F) m ρ c)
    = iprop(reg m ρ 0 c 0 fullShare (org 0 c 8) ∗ emp ∗ emp ∗ reg m ρ 3 c 0 fullShare (org 1 c 8) ∗ reg m ρ 4 c 0 fullShare (org 0 c 8) ∗ emp ∗ emp
      ∗ reg m ρ 7 c 0 fullShare (org 1 c 8)) := by
  rw [univ8]; rfl

/-- The running pair after the two halves. -/
def foldHH (q : FVec F S1024x128 .bf16) (x : Acc F) (o : Fin 2 → Dev nD) : Acc F :=
  foldH q (foldH q x (halfOf (kblk m ρ (o 0)) 0) (halfOf (vblk m ρ (o 0)) 0)) (halfOf (kblk m ρ (o 1)) 1) (halfOf (vblk m ρ (o 1)) 1)

theorem wp_round9 (c : Dev nD) (q : FVec F S1024x128 .bf16) (x : Acc F) :
    iprop(invs m ρ K ιs ∗ bigSep Finset.univ (LS m ρ c 7) ∗ Ow c 88)
      ⊢ WP c (round9 q x) (fun y => iprop(⌜y = foldHH m ρ q x (fun δ => org δ c 8)⌝
          ∗ (bigSep Finset.univ (LF m ρ c) ∗ bigSep Finset.univ (last m ρ c)) ∗ Ow c 90)) := by
  have hO : Ow (F := F) c 88 = Ow c 90 := (Ow_skip (by omega) (by decide) c).trans (Ow_skip (by omega) (by decide) c)
  have hA := wp_lanes c (invs m ρ K ιs) (LS m ρ c 7) (fun ℓ => iprop(LE m ρ c ℓ ∗ last m ρ c ℓ)) (fun _ => Ow c 90) (only fun ℓ => recvStep 8 ℓ) (hop9_recv m ρ K ιs c)
  have hD := wp_lanes c (invs m ρ K ιs) (LE m ρ c) (LF m ρ c) (fun _ => Ow c 90) (only fun ℓ => doneStep 8 ℓ) (hop9_done m ρ K ιs c)
  have hsep : (bigSep Finset.univ fun ℓ => iprop(LE (F := F) m ρ c ℓ ∗ last m ρ c ℓ)) = iprop(bigSep Finset.univ (LE m ρ c) ∗ bigSep Finset.univ (last m ρ c)) := bigSep_sep' _ _ _
  rw [hsep, last_eq] at hA
  rw [hO, last_eq]
  unfold round9
  rw [lanes4_eq, lanes4_eq, WP_bind]
  iintro ⟨#HI, HL, HO⟩
  iapply (WP_wand c _ (fun _ => iprop((bigSep Finset.univ (LE m ρ c) ∗ (reg m ρ 0 c 0 fullShare (org 0 c 8) ∗ emp ∗ emp ∗ reg m ρ 3 c 0 fullShare (org 1 c 8)
      ∗ reg m ρ 4 c 0 fullShare (org 0 c 8) ∗ emp ∗ emp ∗ reg m ρ 7 c 0 fullShare (org 1 c 8))) ∗ Ow c 90))) $$ [HL HO]
  · iapply hA
    isplitr; · iexact HI
    isplitl [HL]; · iexact HL
    iexact HO
  iintro %_ ⟨⟨HE, H0, -, -, H3, H4, -, -, H7⟩, HO⟩
  rw [WP_bind]
  iapply (WP_wand c _ (fun x => iprop(⌜x = halfOf (lblk m ρ 0 (org 0 c 8)) (half 0)⌝ ∗ reg m ρ 0 c 0 fullShare (org 0 c 8)))) $$ [H0]
  · iapply (wp_loadHalf m ρ 0 c 0 fullShare (org 0 c 8)); iexact H0
  iintro %k ⟨%hk, H0⟩
  rw [WP_bind]
  iapply (WP_wand c _ (fun x => iprop(⌜x = halfOf (lblk m ρ 4 (org 0 c 8)) (half 4)⌝ ∗ reg m ρ 4 c 0 fullShare (org 0 c 8)))) $$ [H4]
  · iapply (wp_loadHalf m ρ 4 c 0 fullShare (org 0 c 8)); iexact H4
  iintro %v ⟨%hv, H4⟩
  rw [WP_bind]
  iapply (WP_wand c _ (fun x => iprop(⌜x = halfOf (lblk m ρ 3 (org 1 c 8)) (half 3)⌝ ∗ reg m ρ 3 c 0 fullShare (org 1 c 8)))) $$ [H3]
  · iapply (wp_loadHalf m ρ 3 c 0 fullShare (org 1 c 8)); iexact H3
  iintro %k' ⟨%hk', H3⟩
  rw [WP_bind]
  iapply (WP_wand c _ (fun x => iprop(⌜x = halfOf (lblk m ρ 7 (org 1 c 8)) (half 7)⌝ ∗ reg m ρ 7 c 0 fullShare (org 1 c 8)))) $$ [H7]
  · iapply (wp_loadHalf m ρ 7 c 0 fullShare (org 1 c 8)); iexact H7
  iintro %v' ⟨%hv', H7⟩
  subst hk hv hk' hv'
  rw [WP_bind]
  iapply (WP_wand c _ (fun _ => iprop(bigSep Finset.univ (LF m ρ c) ∗ Ow c 90))) $$ [HE HO]
  · iapply hD
    isplitr; · iexact HI
    isplitl [HE]; · iexact HE
    iexact HO
  iintro %_ ⟨HF, HO⟩
  iapply (WP_pure c (foldHH m ρ q x (fun δ => org δ c 8)))
  isplitr; · ipureintro; rfl
  isplitr [HO]
  · isplitl [HF]; · iexact HF
    isplitl [H0]; · iexact H0
    isplitr; · iempintro
    isplitr; · iempintro
    isplitl [H3]; · iexact H3
    isplitl [H4]; · iexact H4
    isplitr; · iempintro
    isplitr; · iempintro
    iexact H7
  iexact HO

/-! ## Closing the cells -/

theorem close_cell (ck : Dev nD × Ch) (R : ℕ) (hR : ∀ r, R ≤ r → duties ck.2 r = ∅) :
    iprop(invs m ρ K ιs ∗ atPos ER (kcell ck) R ∅ 0) ⊢ (|={Set.univ}=> semVal (kcell ck) 0 : sProp 𝕄) := by
  iintro ⟨#HI, Hat⟩
  iapply (Rounds.cell_close ER (Rd m ρ) (Set.mem_univ (K ck)) (fun h => h) (R := R) (fun r hr => by obtain ⟨c, k⟩ := ck; rw [Rd_duties]; exact hR r hr))
  isplitr; · iapply (invs_cell m ρ K ιs ck); iexact HI
  iexact Hat

theorem close_recv (c : Dev nD) (ℓ : Fin 8) (h : ℕ) (hh : top ℓ ≤ h) :
    iprop(invs m ρ K ιs ∗ PosR c ℓ h) ⊢ (|={Set.univ}=> semVal (kcell (c, .recv ℓ (slotOf h))) 0 : sProp 𝕄) := by
  unfold PosR
  iintro ⟨#HI, Hat, -⟩
  iapply (close_cell m ρ K ιs (c, .recv ℓ (slotOf h)) ((h - 1) / 4) (fun r hr => if_neg fun ha => by
    have hle := ha.le
    have hr' : h ≤ rhop (slotOf h) r := by unfold rhop slotOf; dsimp only; split <;> omega
    unfold top at hh
    by_cases hd : half ℓ = dir ℓ
    · rw [if_pos hd] at hh; omega
    · rw [if_neg hd] at hh
      exact hd ((active8 ℓ).1 (active_mono ha (by omega)))))
  isplitr; · iexact HI
  iexact Hat

theorem close_send (c : Dev nD) (ℓ : Fin 8) (h : ℕ) (hh : top ℓ ≤ h) :
    iprop(invs m ρ K ιs ∗ PosS c ℓ h) ⊢ (|={Set.univ}=> semVal (kcell (c, .send ℓ (slotOf (h - 1)))) 0 : sProp 𝕄) := by
  unfold PosS
  iintro ⟨#HI, Hat, -⟩
  iapply (close_cell m ρ K ιs (c, .send ℓ (slotOf (h - 1))) ((h - 1) / 4) (fun r hr => if_neg fun ha => by
    have hle := ha.le
    have h8 : 8 ≤ h := by unfold top at hh; split at hh <;> omega
    have hr' : h ≤ shop (slotOf (h - 1)) r := by unfold shop slotOf; dsimp only; omega
    unfold top at hh
    by_cases hd : half ℓ = dir ℓ
    · rw [if_pos hd] at hh; omega
    · rw [if_neg hd] at hh
      exact hd ((active8 ℓ).1 (active_mono ha (by omega)))))
  isplitr; · iexact HI
  iexact Hat

theorem univ4 (Φ : Fin 4 → sProp 𝕄) : bigSep Finset.univ Φ = bigSepL [0, 1, 2, 3] Φ :=
  bigSep_univ_eq_bigSepL ([0, 1, 2, 3] : List (Fin 4)) (by decide) (by decide) Φ

/-- Four consecutive hops are the four slots. -/
theorem window (n : ℕ) (hn : n = 8 ∨ n = 9) (Φ : Fin 4 → sProp 𝕄) : (bigSep (Finset.Ico n (n + 4)) fun h => Φ (slotOf h)) = bigSep Finset.univ Φ := by
  rw [univ4]
  rcases hn with rfl | rfl
  · exact (bigSep_eq_bigSepL_of_eq [8, 9, 10, 11] (by decide) (by decide) _).trans rfl
  · exact (bigSep_eq_bigSepL_of_eq [12, 9, 10, 11] (by decide) (by decide) _).trans rfl

theorem window' (n : ℕ) (hn : n = 8 ∨ n = 9) (Φ : Fin 4 → sProp 𝕄) : (bigSep (Finset.Ico n (n + 4)) fun h => Φ (slotOf (h - 1))) = bigSep Finset.univ Φ := by
  rw [univ4]
  rcases hn with rfl | rfl
  · exact (bigSep_eq_bigSepL_of_eq [9, 10, 11, 8] (by decide) (by decide) _).trans rfl
  · exact (bigSep_eq_bigSepL_of_eq [9, 10, 11, 12] (by decide) (by decide) _).trans rfl

theorem top_or (ℓ : Fin 8) : top ℓ = 8 ∨ top ℓ = 9 := by unfold top; split <;> simp

/-- A persistent fact is at hand for every member of a product. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem close_PR (c : Dev nD) (ℓ : Fin 8) :
    iprop(invs m ρ K ιs ∗ PR c ℓ (top ℓ)) ⊢ (|={Set.univ}=> bigSep Finset.univ fun s => semVal (kcell (c, .recv ℓ s)) 0 : sProp 𝕄) := by
  have e := window (top ℓ) (top_or ℓ) (fun s => (semVal (kcell (c, .recv ℓ s)) 0 : sProp 𝕄))
  rw [← e]
  unfold PR
  exact BI.Entails.trans (bigSep_with_persistent fun h hh => close_recv m ρ K ιs c ℓ h (Finset.mem_Ico.mp hh).1) (bigSep_fupd _ _)

theorem close_PS (c : Dev nD) (ℓ : Fin 8) :
    iprop(invs m ρ K ιs ∗ PS c ℓ (top ℓ)) ⊢ (|={Set.univ}=> bigSep Finset.univ fun s => semVal (kcell (c, .send ℓ s)) 0 : sProp 𝕄) := by
  have e := window' (top ℓ) (top_or ℓ) (fun s => (semVal (kcell (c, .send ℓ s)) 0 : sProp 𝕄))
  rw [← e]
  unfold PS
  exact BI.Entails.trans (bigSep_with_persistent fun h hh => close_send m ρ K ιs c ℓ h (Finset.mem_Ico.mp hh).1) (bigSep_fupd _ _)

/-- The slots of a lane, whatever they hold. -/
theorem lane_slots (c : Dev nD) (ℓ : Fin 8) : iprop(Past m ρ c ℓ 8 ∗ last m ρ c ℓ) ⊢ (bigSep Finset.univ fun s => anyReg (F := F) ℓ c s) := by
  have keep : ∀ j : ℕ, ¬ Active (j + 4) ℓ → past (F := F) m ρ c ℓ j ⊢ anyReg ℓ c (slotOf j) := fun j hj => by
    unfold past; rw [if_neg hj]; exact reg_any m ρ ℓ c (slotOf j) _
  have h5 := keep 5 (fun h => by have := h.le; omega)
  have h6 := keep 6 (fun h => by have := h.le; omega)
  have h7 := keep 7 (fun h => by have := h.le; omega)
  have hP : Past (F := F) m ρ c ℓ 8 = iprop(past m ρ c ℓ 0 ∗ past m ρ c ℓ 1 ∗ past m ρ c ℓ 2 ∗ past m ρ c ℓ 3 ∗ past m ρ c ℓ 4 ∗ past m ρ c ℓ 5 ∗ past m ρ c ℓ 6 ∗ past m ρ c ℓ 7) := by
    unfold Past; exact (bigSep_eq_bigSepL_of_eq [0, 1, 2, 3, 4, 5, 6, 7] (by decide) (by decide) _).trans rfl
  have hU : (bigSep Finset.univ fun s => anyReg (F := F) ℓ c s) = iprop(anyReg ℓ c (slotOf 8) ∗ anyReg ℓ c (slotOf 5) ∗ anyReg ℓ c (slotOf 6) ∗ anyReg ℓ c (slotOf 7)) := by
    rw [univ4]; rfl
  rw [hP, hU]
  by_cases ha : half ℓ = dir ℓ
  · have h8 : last (F := F) m ρ c ℓ ⊢ anyReg ℓ c (slotOf 8) := by unfold last; rw [if_pos ha]; exact reg_any m ρ ℓ c (slotOf 8) _
    iintro ⟨⟨-, -, -, -, -, H5, H6, H7⟩, H8⟩
    isplitl [H8]; · iapply h8; iexact H8
    isplitl [H5]; · iapply h5; iexact H5
    isplitl [H6]; · iapply h6; iexact H6
    iapply h7; iexact H7
  · have h4 : past (F := F) m ρ c ℓ 4 ⊢ anyReg ℓ c (slotOf 8) := keep 4 (fun h => ha ((active8 ℓ).1 h))
    iintro ⟨⟨-, -, -, -, H4, H5, H6, H7⟩, -⟩
    isplitl [H4]; · iapply h4; iexact H4
    isplitl [H5]; · iapply h5; iexact H5
    isplitl [H6]; · iapply h6; iexact H6
    iapply h7; iexact H7

/-- All lanes done: their cells at zero, their slots back. -/
theorem close_lanes (c : Dev nD) :
    iprop(invs m ρ K ιs ∗ bigSep Finset.univ (LF m ρ c) ∗ bigSep Finset.univ (last m ρ c))
      ⊢ (|={Set.univ}=> ((bigSep Finset.univ fun ℓ : Fin 8 => bigSep Finset.univ fun s : Fin 4 => semVal (kcell (c, .send ℓ s)) 0)
        ∗ (bigSep Finset.univ fun ℓ : Fin 8 => bigSep Finset.univ fun s : Fin 4 => semVal (kcell (c, .recv ℓ s)) 0)
        ∗ bigSep Finset.univ fun ℓ : Fin 8 => bigSep Finset.univ fun s : Fin 4 => anyReg ℓ c s) : sProp 𝕄) := by
  have h1 : ∀ ℓ : Fin 8, iprop(invs (F := F) m ρ K ιs ∗ LF m ρ c ℓ ∗ last m ρ c ℓ)
      ⊢ (|={Set.univ}=> ((bigSep Finset.univ fun s : Fin 4 => semVal (kcell (c, .send ℓ s)) 0) ∗ (bigSep Finset.univ fun s : Fin 4 => semVal (kcell (c, .recv ℓ s)) 0)
        ∗ bigSep Finset.univ fun s : Fin 4 => anyReg ℓ c s) : sProp 𝕄) := fun ℓ => by
    unfold LF
    iintro ⟨#HI, ⟨HPR, HPS, HPast⟩, HL⟩
    imod (close_PR m ρ K ιs c ℓ) $$ [HPR] with HR
    · isplitr; · iexact HI
      iexact HPR
    imod (close_PS m ρ K ιs c ℓ) $$ [HPS] with HS
    · isplitr; · iexact HI
      iexact HPS
    imodintro
    isplitl [HS]; · iexact HS
    isplitl [HR]; · iexact HR
    iapply (lane_slots m ρ c ℓ)
    isplitl [HPast]; · iexact HPast
    iexact HL
  have h2 := BI.Entails.trans (bigSep_with_persistent (S := Finset.univ) fun ℓ _ => h1 ℓ) (bigSep_fupd _ _)
  simp only [bigSep_sep'] at h2
  exact h2

end Cert.Proof

end
-- ==== Proof.Entry.lean ====
/-
  The START and the END of the body: the barrier with both neighbours, the copy of the own block into the buffers, and the store of
  the result.
-/
module

public import proofs.«01_k».proof.Proof.Tail

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-! ## Buffers and lanes -/

/-- The lanes, direction by direction. -/
theorem by_dir (Φ : Fin 8 → sProp 𝕄) : bigSep Finset.univ Φ = iprop(bigSep (lanesOf 0) Φ ∗ bigSep (lanesOf 1) Φ) := by
  have hd : Disjoint (lanesOf 0) (lanesOf 1) := by decide
  have hu : lanesOf 0 ∪ lanesOf 1 = Finset.univ := by decide
  rw [← hu]; exact bigSep_union hd

theorem assocs (A B C : sProp 𝕄) : iprop((A ∗ B) ∗ C) = iprop(A ∗ B ∗ C) := by
  have h := Laws.sep_assoc (PROP := sProp 𝕄) (P := A) (Q := B) (R := C)
  exact BI.equiv_iff.mp ⟨h.1, h.2⟩

/-- One slot of all buffers, as half slots of the lanes. -/
theorem any_lanes (c : Dev nD) (s : Fin 4) :
    (bigSep Finset.univ fun ℓ : Fin 8 => anyReg (F := F) ℓ c s) = iprop(slotAny 0 c s ∗ slotAny 1 c s ∗ slotAny 2 c s ∗ slotAny 3 c s) := by
  have e : ∀ b : Fin 4, slotAny (F := F) b c s = iprop(anyReg (mate b).1 c s ∗ anyReg (mate b).2 c s) := fun b => by
    have h := pair_any (F := F) b c s
    exact BI.equiv_iff.mp ⟨h.1, h.2⟩
  rw [e, e, e, e, assocs, assocs, assocs]
  exact (bigSep_univ_eq_bigSepL ([0, 2, 4, 6, 1, 3, 5, 7] : List (Fin 8)) (by decide) (by decide) (fun ℓ : Fin 8 => anyReg (F := F) ℓ c s)).trans rfl

/-- The four buffers of a device, holding anything. -/
def bufs (c : Dev nD) : sProp 𝕄 :=
  iprop((∃ f, bloc 0 c ↦{fullShare} f) ∗ (∃ f, bloc 1 c ↦{fullShare} f) ∗ (∃ f, bloc 2 c ↦{fullShare} f) ∗ (∃ f, bloc 3 c ↦{fullShare} f))

theorem buf_slots (b : Fin 4) (c : Dev nD) :
    (iprop(∃ f, bloc b c ↦{fullShare} f) : sProp 𝕄) ⊢ iprop(slotAny b c 0 ∗ slotAny b c 1 ∗ slotAny b c 2 ∗ slotAny b c 3) := by
  unfold slotAny
  iintro ⟨%f, H⟩
  ihave H := (Entails.of_eq (bloc_split b c f)) $$ H
  icases H with ⟨H0, H1, H2, H3⟩
  isplitl [H0]; · iexists f; iexact H0
  isplitl [H1]; · iexists f; iexact H1
  isplitl [H2]; · iexists f; iexact H2
  iexists f; iexact H3

/-- The three slots a neighbour may write, over all lanes. -/
theorem barPays (c : Dev nD) : iprop(barPay (F := F) 0 c ∗ barPay 1 c)
    = iprop((bigSep Finset.univ fun ℓ : Fin 8 => anyReg ℓ c 1) ∗ (bigSep Finset.univ fun ℓ : Fin 8 => anyReg ℓ c 2) ∗ bigSep Finset.univ fun ℓ : Fin 8 => anyReg ℓ c 3) := by
  have e : (bigSep Finset.univ fun ℓ : Fin 8 => bigSep (Finset.Ico 1 4) fun h => anyReg (F := F) ℓ c (slotOf h)) = iprop(barPay 0 c ∗ barPay 1 c) := by
    unfold barPay; exact by_dir _
  have e1 : (fun ℓ : Fin 8 => bigSep (Finset.Ico 1 4) fun h => anyReg (F := F) ℓ c (slotOf h)) = fun ℓ => iprop(anyReg ℓ c 1 ∗ anyReg ℓ c 2 ∗ anyReg ℓ c 3) :=
    funext fun ℓ => (bigSep_eq_bigSepL_of_eq [1, 2, 3] (by decide) (by decide) _).trans rfl
  rw [← e, e1, bigSep_sep', bigSep_sep']

theorem bufs_split (c : Dev nD) :
    bufs (F := F) c ⊢ iprop((slotAny 0 c 0 ∗ slotAny 1 c 0 ∗ slotAny 2 c 0 ∗ slotAny 3 c 0) ∗ barPay 0 c ∗ barPay 1 c) := by
  rw [barPays, any_lanes, any_lanes, any_lanes]
  unfold bufs
  iintro ⟨H0, H1, H2, H3⟩
  ihave H0 := (buf_slots 0 c) $$ H0
  icases H0 with ⟨A0, A1, A2, A3⟩
  ihave H1 := (buf_slots 1 c) $$ H1
  icases H1 with ⟨B0, B1, B2, B3⟩
  ihave H2 := (buf_slots 2 c) $$ H2
  icases H2 with ⟨C0, C1, C2, C3⟩
  ihave H3 := (buf_slots 3 c) $$ H3
  icases H3 with ⟨D0, D1, D2, D3⟩
  isplitl [A0 B0 C0 D0]
  · isplitl [A0]; · iexact A0
    isplitl [B0]; · iexact B0
    isplitl [C0]; · iexact C0
    iexact D0
  isplitl [A1 B1 C1 D1]
  · isplitl [A1]; · iexact A1
    isplitl [B1]; · iexact B1
    isplitl [C1]; · iexact C1
    iexact D1
  isplitl [A2 B2 C2 D2]
  · isplitl [A2]; · iexact A2
    isplitl [B2]; · iexact B2
    isplitl [C2]; · iexact C2
    iexact D2
  isplitl [A3]; · iexact A3
  isplitl [B3]; · iexact B3
  isplitl [C3]; · iexact C3
  iexact D3

theorem bufs_join (c : Dev nD) : (bigSep Finset.univ fun ℓ : Fin 8 => bigSep Finset.univ fun s : Fin 4 => anyReg (F := F) ℓ c s) ⊢ bufs c := by
  have e1 : (fun ℓ : Fin 8 => bigSep Finset.univ fun s : Fin 4 => anyReg (F := F) ℓ c s) = fun ℓ => iprop(anyReg ℓ c 0 ∗ anyReg ℓ c 1 ∗ anyReg ℓ c 2 ∗ anyReg ℓ c 3) :=
    funext fun ℓ => (univ4 _).trans rfl
  rw [e1, bigSep_sep', bigSep_sep', bigSep_sep', any_lanes, any_lanes, any_lanes, any_lanes]
  unfold bufs
  iintro ⟨⟨A0, B0, C0, D0⟩, ⟨A1, B1, C1, D1⟩, ⟨A2, B2, C2, D2⟩, ⟨A3, B3, C3, D3⟩⟩
  isplitl [A0 A1 A2 A3]
  · iapply (bloc_join 0 c)
    isplitl [A0]; · iexact A0
    isplitl [A1]; · iexact A1
    isplitl [A2]; · iexact A2
    iexact A3
  isplitl [B0 B1 B2 B3]
  · iapply (bloc_join 1 c)
    isplitl [B0]; · iexact B0
    isplitl [B1]; · iexact B1
    isplitl [B2]; · iexact B2
    iexact B3
  isplitl [C0 C1 C2 C3]
  · iapply (bloc_join 2 c)
    isplitl [C0]; · iexact C0
    isplitl [C1]; · iexact C1
    isplitl [C2]; · iexact C2
    iexact C3
  iapply (bloc_join 3 c)
  isplitl [D0]; · iexact D0
  isplitl [D1]; · iexact D1
  isplitl [D2]; · iexact D2
  iexact D3

/-! ## The barrier -/

/-- The right to signal one neighbour's barrier. -/
def BarTok (c : Dev nD) (δ : Fin 2) : sProp 𝕄 := dutyTok ER (kcell (up δ c, .bar)) 0 δ.val
/-- The barrier's cell and the credit for both signals. -/
def BarW (c : Dev nD) : sProp 𝕄 := iprop(atPos ER (kcell (c, .bar)) 0 ∅ 0 ∗ cred (tallyAt (kcell (c, .bar)) 1 2))
/-- The barrier's cell after the wait. -/
def BarDone (c : Dev nD) : sProp 𝕄 := atPos ER (kcell (c, .bar)) 1 ∅ 0

theorem due_bar (δ : Fin 2) (c : Dev nD) : due (8 + δ.val) c = tallyAt (kcell (up δ c, .bar)) 1 1 := by
  have hlt := δ.isLt
  have e1 : (8 + δ.val) % 10 = 8 + δ.val := by omega
  have e2 : (8 + δ.val) / 10 = 0 := by omega
  have hm : ¬ (8 + δ.val) % 10 < 8 := by omega
  have ef : (⟨((8 + δ.val) % 10 - 8) % 2, Nat.mod_lt _ (by decide)⟩ : Fin 2) = δ := Fin.ext (by show _ % 2 = _; omega)
  unfold due dueDev dueCh dueDir dueAmt
  rw [dif_neg hm, dif_neg hm, dif_neg hm, if_neg hm, e2, ef, if_pos rfl, if_pos (Or.inl rfl)]

theorem bar_payload (c : Dev nD) (δ : Fin 2) : barPay (F := F) δ c ⊢ (Rd m ρ).payload (kcell (up δ c, .bar)) 0 δ.val := by
  rw [Rd_payload]; unfold payAt; dsimp only
  match δ with
  | 0 => rw [if_pos (show ((0 : Fin 2) : ℕ) = 0 from rfl), dn_up]
  | 1 => rw [if_neg (show ¬ ((1 : Fin 2) : ℕ) = 0 by decide), dn_up]

theorem signal_bar (c n : Dev nD) (δ : Fin 2) (hn : n = up δ c) :
    iprop(invs m ρ K ιs ∗ (BarTok c δ ∗ barPay δ c) ∗ Ow c (8 + δ.val)) ⊢ WP c (semSignalWord n barS.sem 1#32) (fun _ => Ow c (8 + δ.val + 1)) := by
  subst hn
  have hlt := δ.isLt
  have hD : δ.val ∈ (Rd (F := F) m ρ).duties (kcell (up δ c, .bar)) 0 := by
    rw [Rd_duties]; show δ.val ∈ ({0, 1} : Finset ℕ)
    rw [Finset.mem_insert, Finset.mem_singleton]; omega
  have hO : owed (8 + δ.val) c = owed (8 + δ.val + 1) c + tallyAt (kcell (up δ c, .bar)) 1 1 := by
    rw [owed_step (by omega), due_bar]
  unfold semSignalWord Ow BarTok
  show _ ⊢ WP c (Prog.op (.semSignal (up δ c : Thread nD τ) barS.sem ((1 : ℕ) : ℤ)) .ret) _
  iintro ⟨#HI, ⟨Ht, Hf⟩, ⟨%W, HO⟩⟩
  iapply (Rounds.wp_signal 𝒱₀ ER (Rd m ρ) (c : Thread nD τ) none (dst := (up δ c : Thread nD τ)) (κ := K (up δ c, .bar)) (r := 0) (d := δ.val) hD
      (Rd_amount m ρ (up δ c) .bar 0 δ.val) 1 (owed (8 + δ.val + 1) c) hO (W := W)) $$ [Ht Hf HO]
  · isplitr; · iapply (invs_cell m ρ K ιs (up δ c, .bar)); iexact HI
    isplitl [HO]; · iexact HO
    isplitl [Ht]; · iexact Ht
    isplitl [Hf]; · iapply (show barPay (F := F) δ c ⊢ (Rd m ρ).payload ((up δ c : Thread nD τ), .reg barS.sem) 0 δ.val from bar_payload m ρ c δ); iexact Hf
    iapply (invs_reached m ρ K ιs (up δ c, .bar)); iexact HI
  iintro HO
  rw [wp_ret]; imodintro
  iexists W; iexact HO

theorem wait_bar (c : Dev nD) :
    iprop(invs m ρ K ιs ∗ BarW c ∗ Ow c 10) ⊢ WP c (semWaitWord barS.sem 2#32) (fun _ => iprop(BarDone c ∗ (barPay 0 (dn 0 c) ∗ barPay 1 (dn 1 c)) ∗ Ow c 10)) := by
  have hE : (Rd (F := F) m ρ).expect (kcell (c, .bar)) 0 = 2 := by rw [Rd_expect]; rfl
  have hpe : (bigSep ((Rd (F := F) m ρ).duties (kcell (c, .bar)) 0 \ ∅) fun d => (Rd (F := F) m ρ).payload (kcell (c, .bar)) 0 d)
      = iprop(barPay 0 (dn 0 c) ∗ barPay 1 (dn 1 c)) := by
    rw [Rd_duties, Finset.sdiff_empty, bigSep_congr fun d _ => Rd_payload m ρ c .bar 0 d]
    exact (bigSep_eq_bigSepL_of_eq [0, 1] (by decide) (by decide) _).trans rfl
  unfold semWaitWord Ow BarW BarDone
  show _ ⊢ WP c (Prog.op (.semWait barS.sem ((2 : ℕ) : ℤ)) .ret) _
  iintro ⟨#HI, ⟨Hat, Hc⟩, ⟨%W, HO⟩⟩
  iapply (Rounds.wp_wait_rest_token 𝒱₀ ER (Rd m ρ) (c : Thread nD τ) none (sm := csem .bar) (κ := K (c, .bar)) (wpE_semWait_eq 𝒱₀ (c : Thread nD τ) none Set.univ) (Set.mem_univ _)
      1 (O := owed 10 c) (W := W) (R := 0) (m := 0) (T := ∅) hE.symm) $$ [Hat Hc HO]
  · isplitr; · iapply (invs_cell m ρ K ιs (c, .bar)); iexact HI
    isplitl [Hc]; · iexact Hc
    isplitl [HO]; · iexact HO
    isplitr; · iapply (invs_mayWait m ρ K ιs 10 1 (by omega) (by omega) c (csem .bar)); iexact HI
    iexact Hat
  iintro ⟨HO, Hat, -, Hpay⟩
  rw [wp_ret]; imodintro
  isplitl [Hat]; · iexact Hat
  isplitl [Hpay]
  · iapply (Entails.of_eq hpe); iexact Hpay
  iexists _; iexact HO

/-! ## What a lane starts with -/

/-- What sending hop `h` takes, apart from a slot the barrier hands over. -/
def sendTok (c : Dev nD) (ℓ : Fin 8) (h : ℕ) : sProp 𝕄 :=
  if Active h ℓ then
    iprop(dutyTok ER (kcell (c, .send ℓ (slotOf (h - 1)))) ((h - 1) / 4) 0 ∗ dutyTok ER (kcell (dn (dir ℓ) c, .recv ℓ (slotOf h))) ((h - 1) / 4) 0
      ∗ (if h ≤ 3 then iprop(emp) else writeTok ES (dn (dir ℓ) c, ℓ, h - 4) 1))
  else iprop(emp)

theorem sendItem_of (c : Dev nD) (ℓ : Fin 8) (h : ℕ) :
    iprop(sendTok (F := F) c ℓ h ∗ (if h ≤ 3 then anyReg ℓ (dn (dir ℓ) c) (slotOf h) else iprop(emp))) ⊢ sendItem c ℓ h := by
  unfold sendTok sendItem
  by_cases h3 : h ≤ 3
  · rw [if_pos (active_of_le (by omega) ℓ), if_pos (active_of_le (by omega) ℓ), if_pos h3, if_pos h3, if_pos h3]
    iintro ⟨⟨H1, H2, -⟩, H3⟩
    isplitl [H1]; · iexact H1
    isplitl [H2]; · iexact H2
    iexact H3
  · rw [if_neg h3, if_neg h3, if_neg h3]
    iintro ⟨H, -⟩; iexact H

theorem Snd_of (c : Dev nD) (ℓ : Fin 8) :
    iprop((bigSep (Finset.Ico 1 9) (sendTok (F := F) c ℓ)) ∗ bigSep (Finset.Ico 1 4) fun h => anyReg ℓ (dn (dir ℓ) c) (slotOf h)) ⊢ Snd c ℓ 1 := by
  have e : (bigSep (Finset.Ico 1 4) fun h => anyReg (F := F) ℓ (dn (dir ℓ) c) (slotOf h))
      ⊢ bigSep (Finset.Ico 1 9) fun h => if h ≤ 3 then anyReg ℓ (dn (dir ℓ) c) (slotOf h) else iprop(emp) := by
    have hd : Disjoint (Finset.Ico 1 4) (Finset.Ico 4 9) := by decide
    have hu : Finset.Ico 1 4 ∪ Finset.Ico 4 9 = Finset.Ico 1 9 := by decide
    have h1 : (bigSep (Finset.Ico 1 4) fun h => if h ≤ 3 then anyReg (F := F) ℓ (dn (dir ℓ) c) (slotOf h) else iprop(emp))
        = bigSep (Finset.Ico 1 4) fun h => anyReg ℓ (dn (dir ℓ) c) (slotOf h) := bigSep_congr fun h hh => if_pos (by rw [Finset.mem_Ico] at hh; omega)
    have h2 : (bigSep (Finset.Ico 4 9) fun h => if h ≤ 3 then anyReg (F := F) ℓ (dn (dir ℓ) c) (slotOf h) else iprop(emp)) = iprop(emp) :=
      (bigSep_congr fun h hh => if_neg (by rw [Finset.mem_Ico] at hh; omega)).trans (bigSep_emp_const _)
    have h3 := bigSep_union hd (Φ := fun h => if h ≤ 3 then anyReg (F := F) ℓ (dn (dir ℓ) c) (slotOf h) else iprop(emp))
    rw [hu, h1, h2] at h3
    rw [h3]
    show (bigSep (Finset.Ico 1 4) fun h => anyReg (F := F) ℓ (dn (dir ℓ) c) (slotOf h)) ⊢ iprop((bigSep (Finset.Ico 1 4) fun h => anyReg (F := F) ℓ (dn (dir ℓ) c) (slotOf h)) ∗ emp)
    iintro H
    isplitl [H]; · iexact H
    iempintro
  unfold Snd
  refine (sep_mono_right e).trans ?_
  rw [← bigSep_sep']
  exact bigSep_mono fun h _ => sendItem_of c ℓ h

/-- A lane's tokens, credits and positions before the barrier. -/
def LT (c : Dev nD) (ℓ : Fin 8) : sProp 𝕄 :=
  iprop(bigSep (Finset.Ico 1 9) (sendTok c ℓ) ∗ Rcv c ℓ 1 ∗ PR c ℓ 1 ∗ PS c ℓ 1 ∗ Rel c ℓ 0)

theorem lanes_start (c : Dev nD) :
    iprop(bigSep Finset.univ (LT (F := F) c) ∗ (barPay 0 (dn 0 c) ∗ barPay 1 (dn 1 c))
      ∗ (slotPts 0 c 0 fullShare (cont m ρ (mate 0).1 c c) ∗ slotPts 1 c 0 fullShare (cont m ρ (mate 1).1 c c)
        ∗ slotPts 2 c 0 fullShare (cont m ρ (mate 2).1 c c) ∗ slotPts 3 c 0 fullShare (cont m ρ (mate 3).1 c c)))
      ⊢ bigSep Finset.univ (LS0 m ρ c) := by
  have e0 := lanes_slots m ρ c 0 fullShare (fun δ => org δ c 0)
  rw [org_zero, org_zero] at e0
  have e1 : iprop(barPay (F := F) 0 (dn 0 c) ∗ barPay 1 (dn 1 c)) ⊢ bigSep Finset.univ fun ℓ : Fin 8 => bigSep (Finset.Ico 1 4) fun h => anyReg ℓ (dn (dir ℓ) c) (slotOf h) := by
    rw [by_dir]
    unfold barPay
    exact BI.sep_mono
      (bigSep_mono fun ℓ hℓ => by rw [(Finset.mem_filter.mp hℓ).2]; exact BI.Entails.refl _)
      (bigSep_mono fun ℓ hℓ => by rw [(Finset.mem_filter.mp hℓ).2]; exact BI.Entails.refl _)
  rw [← e0]
  refine (sep_mono_right (sep_mono_left e1)).trans ?_
  rw [← bigSep_sep', ← bigSep_sep']
  refine bigSep_mono fun ℓ _ => ?_
  show iprop(LT (F := F) c ℓ ∗ (bigSep (Finset.Ico 1 4) fun h => anyReg ℓ (dn (dir ℓ) c) (slotOf h)) ∗ reg m ρ ℓ c 0 fullShare (org (dir ℓ) c 0)) ⊢ LS0 m ρ c ℓ
  unfold LT LS0
  iintro ⟨⟨Ht, HR, HPR, HPS, HRel⟩, Hb, Hreg⟩
  isplitl [Ht Hb]
  · iapply (Snd_of c ℓ)
    isplitl [Ht]; · iexact Ht
    iexact Hb
  isplitl [HR]; · iexact HR
  isplitl [HPR]; · iexact HPR
  isplitl [HPS]; · iexact HPS
  isplitl [HRel]; · iexact HRel
  iexact Hreg

/-! ## The staged arrays -/

theorem hz : (![0, 0] : Fin 2 → Nat) = fun _ => 0 := funext fun a => by fin_cases a <;> rfl

theorem wp_loadStg (c : Dev nD) (M : Memref sig .tc .vmem S1024x128 .f32) (f : Buf (Elt F) (M.view.loc (c : Thread nD τ))) (X : Vec F S1024x128 .f32)
    (hX : M.view.readAt (Elt F) (Rect.unit (s := S1024x128) ![0, 0] S1024x128.size inb_S1024x128_S1024x128_0_0).toLoadRect f = X) :
    (M.view.loc (c : Thread nD τ) ↦{fullShare} f : sProp 𝕄) ⊢ WP c (loadStg M) (fun x => iprop(⌜x = X⌝ ∗ M.view.loc (c : Thread nD τ) ↦{fullShare} f)) := by
  unfold loadStg
  simp only [Prog.lift]
  iintro H
  iapply (wp_load 𝒱₀ (c : Thread nD τ) none Set.univ (m := M)
    (r := (Rect.unit (s := S1024x128) ![0, 0] S1024x128.size inb_S1024x128_S1024x128_0_0).toLoadRect) (S := Finset.univ) (Finset.subset_univ _)) $$ H
  iintro H
  rw [wp_ret]; imodintro
  isplitr
  · ipureintro; exact hX
  · iexact H

/-- A staging buffer of device `c` holding `X`. -/
abbrev sq (c : Dev nD) (X : (cc0_stg0_0 : Ref sig .tc).ty.Contents (Elt F)) : sProp 𝕄 := (c : Thread nD τ).loc cc0_stg0_0 ↦{fullShare} X
abbrev sk (c : Dev nD) (X : (cc0_stg1_0 : Ref sig .tc).ty.Contents (Elt F)) : sProp 𝕄 := (c : Thread nD τ).loc cc0_stg1_0 ↦{fullShare} X
abbrev sv (c : Dev nD) (X : (cc0_stg2_0 : Ref sig .tc).ty.Contents (Elt F)) : sProp 𝕄 := (c : Thread nD τ).loc cc0_stg2_0 ↦{fullShare} X
abbrev so (c : Dev nD) (X : (cc0_stg3_0 : Ref sig .tc).ty.Contents (Elt F)) : sProp 𝕄 := (c : Thread nD τ).loc cc0_stg3_0 ↦{fullShare} X

theorem wp_q (c : Dev nD) (X : (cc0_stg0_0 : Ref sig .tc).ty.Contents (Elt F)) :
    sq c X ⊢ WP c (loadStg (Memref.whole cc0_stg0_0)) (fun x => iprop(⌜x = X⌝ ∗ sq c X)) :=
  wp_loadStg c (Memref.whole cc0_stg0_0) X X (Memref.readAt_unit_zero (Elt F) cc0_stg0_0 hz _ X)
theorem wp_k (c : Dev nD) (X : (cc0_stg1_0 : Ref sig .tc).ty.Contents (Elt F)) :
    sk c X ⊢ WP c (loadStg (Memref.whole cc0_stg1_0)) (fun x => iprop(⌜x = X⌝ ∗ sk c X)) :=
  wp_loadStg c (Memref.whole cc0_stg1_0) X X (Memref.readAt_unit_zero (Elt F) cc0_stg1_0 hz _ X)
theorem wp_v (c : Dev nD) (X : (cc0_stg2_0 : Ref sig .tc).ty.Contents (Elt F)) :
    sv c X ⊢ WP c (loadStg (Memref.whole cc0_stg2_0)) (fun x => iprop(⌜x = X⌝ ∗ sv c X)) :=
  wp_loadStg c (Memref.whole cc0_stg2_0) X X (Memref.readAt_unit_zero (Elt F) cc0_stg2_0 hz _ X)

/-- The end: the output's staging buffer holds the quotient. -/
theorem wp_epilogue (c : Dev nD) (x : Acc F) (X : (cc0_stg3_0 : Ref sig .tc).ty.Contents (Elt F)) :
    so c X ⊢ WP c (epilogue x) (fun _ => so c (k0_pay1 x.1 x.2)) := by
  have hw := Memref.write_access_unit_zero_univ (Elt F) cc0_stg3_0 hz inb_S1024x128_S1024x128_0_0 X (k0_pay1 x.1 x.2)
  unfold epilogue
  rw [WP_bind]
  iintro H
  iapply (WP_wand c _ (fun x => iprop(⌜x = X⌝ ∗ so c X))) $$ [H]
  · iapply (wp_loadStg c (Memref.whole cc0_stg3_0) X X (Memref.readAt_unit_zero (Elt F) cc0_stg3_0 hz _ X)); iexact H
  iintro %_ ⟨-, H⟩
  simp only [Prog.lift]
  iapply (wp_store 𝒱₀ (c : Thread nD τ) none Set.univ (m := (Memref.whole cc0_stg3_0 : Memref sig .tc .vmem S1024x128 .f32)) (Mk := Finset.univ) (w := k0_pay1 x.1 x.2)
    (r := Rect.unit (s := S1024x128) ![0, 0] S1024x128.size inb_S1024x128_S1024x128_0_0) (S := Finset.univ) (Finset.subset_univ _)) $$ H
  iintro H
  rw [wp_ret]; imodintro
  iapply (Entails.of_eq (congrArg (fun Y => so c Y) hw))
  iexact H

/-- The start: past the barrier, every lane ready, the own block in slot 0. -/
theorem wp_prologue (c : Dev nD) :
    iprop(invs m ρ K ιs ∗ (BarTok c 0 ∗ BarTok c 1 ∗ BarW c) ∗ bufs c ∗ bigSep Finset.univ (LT c) ∗ (sq c (qstg m ρ c) ∗ sk c (kstg m ρ c) ∗ sv c (vstg m ρ c)) ∗ Ow c 8)
      ⊢ WP c prologue (fun y => iprop(⌜y = ⟨c, scaled (qstg m ρ c)⟩⌝ ∗ BarDone c ∗ bigSep Finset.univ (LS0 m ρ c)
        ∗ (sq c (qstg m ρ c) ∗ sk c (kstg m ρ c) ∗ sv c (vstg m ρ c)) ∗ Ow c 10)) := by
  unfold prologue
  rw [show (do
    let d0 : Dev nD ← Prog.lift .deviceId
    semSignalWord (upP d0 0) barS.sem 1#32
    semSignalWord (upP d0 1) barS.sem 1#32
    semWaitWord barS.sem 2#32
    let k ← loadStg (Memref.whole cc0_stg1_0)
    let v ← loadStg (Memref.whole cc0_stg2_0)
    fill (Memref.whole cc0_scratch0) (Memref.isWhole_whole _) k
    fill (Memref.whole cc0_scratch1) (Memref.isWhole_whole _) v
    fill (Memref.whole cc0_scratch2) (Memref.isWhole_whole _) k
    fill (Memref.whole cc0_scratch3) (Memref.isWhole_whole _) v
    let q ← loadStg (Memref.whole cc0_stg0_0)
    pure ⟨d0, scaled q⟩ : P F (Σ' (_ : Dev nD), FVec F S1024x128 .bf16)) = Prog.op .deviceId (fun d0 => do
    semSignalWord (upP d0 0) barS.sem 1#32
    semSignalWord (upP d0 1) barS.sem 1#32
    semWaitWord barS.sem 2#32
    let k ← loadStg (Memref.whole cc0_stg1_0)
    let v ← loadStg (Memref.whole cc0_stg2_0)
    fill (Memref.whole cc0_scratch0) (Memref.isWhole_whole _) k
    fill (Memref.whole cc0_scratch1) (Memref.isWhole_whole _) v
    fill (Memref.whole cc0_scratch2) (Memref.isWhole_whole _) k
    fill (Memref.whole cc0_scratch3) (Memref.isWhole_whole _) v
    let q ← loadStg (Memref.whole cc0_stg0_0)
    pure ⟨d0, scaled q⟩) from rfl]
  unfold WP
  rw [wp_deviceId]
  change _ ⊢ WP c (do
    semSignalWord (upP c 0) barS.sem 1#32
    semSignalWord (upP c 1) barS.sem 1#32
    semWaitWord barS.sem 2#32
    let k ← loadStg (Memref.whole cc0_stg1_0)
    let v ← loadStg (Memref.whole cc0_stg2_0)
    fill (Memref.whole cc0_scratch0) (Memref.isWhole_whole _) k
    fill (Memref.whole cc0_scratch1) (Memref.isWhole_whole _) v
    fill (Memref.whole cc0_scratch2) (Memref.isWhole_whole _) k
    fill (Memref.whole cc0_scratch3) (Memref.isWhole_whole _) v
    let q ← loadStg (Memref.whole cc0_stg0_0)
    pure (⟨c, scaled q⟩ : (Σ' (_ : Dev nD), FVec F S1024x128 .bf16))) _
  iintro ⟨#HI, ⟨Hb0, Hb1, HBW⟩, HB, HL, ⟨Hq, Hk, Hv⟩, HO⟩
  ihave HB := (bufs_split c) $$ HB
  icases HB with ⟨⟨A0, A1, A2, A3⟩, P0, P1⟩
  rw [WP_bind]
  iapply (WP_wand c _ (fun _ => Ow c 9)) $$ [Hb0 P0 HO]
  · iapply (signal_bar m ρ K ιs c (upP c 0) 0 (upP_eq c 0))
    isplitr; · iexact HI
    isplitl [Hb0 P0]
    · isplitl [Hb0]; · iexact Hb0
      iexact P0
    iexact HO
  iintro %_ HO
  rw [WP_bind]
  iapply (WP_wand c _ (fun _ => Ow c 10)) $$ [Hb1 P1 HO]
  · iapply (signal_bar m ρ K ιs c (upP c 1) 1 (upP_eq c 1))
    isplitr; · iexact HI
    isplitl [Hb1 P1]
    · isplitl [Hb1]; · iexact Hb1
      iexact P1
    iexact HO
  iintro %_ HO
  rw [WP_bind]
  iapply (WP_wand c _ (fun _ => iprop(BarDone c ∗ (barPay 0 (dn 0 c) ∗ barPay 1 (dn 1 c)) ∗ Ow c 10))) $$ [HBW HO]
  · iapply (wait_bar m ρ K ιs c)
    isplitr; · iexact HI
    isplitl [HBW]; · iexact HBW
    iexact HO
  iintro %_ ⟨HBD, HP, HO⟩
  rw [WP_bind]
  iapply (WP_wand c _ (fun x => iprop(⌜x = kstg m ρ c⌝ ∗ sk c (kstg m ρ c)))) $$ [Hk]
  · iapply (wp_k c (kstg m ρ c)); iexact Hk
  iintro %k ⟨%hk, Hk⟩
  rw [WP_bind]
  iapply (WP_wand c _ (fun x => iprop(⌜x = vstg m ρ c⌝ ∗ sv c (vstg m ρ c)))) $$ [Hv]
  · iapply (wp_v c (vstg m ρ c)); iexact Hv
  iintro %v ⟨%hv, Hv⟩
  subst hk hv
  rw [WP_bind]
  iapply (WP_wand c _ (fun _ => slotPts 0 c 0 fullShare (cont m ρ (mate 0).1 c c))) $$ [A0]
  · iapply (wp_fill m ρ 0 c (Memref.isWhole_whole _) (kstg m ρ c) rfl); iexact A0
  iintro %_ A0
  rw [WP_bind]
  iapply (WP_wand c _ (fun _ => slotPts 1 c 0 fullShare (cont m ρ (mate 1).1 c c))) $$ [A1]
  · iapply (wp_fill m ρ 1 c (Memref.isWhole_whole _) (vstg m ρ c) rfl); iexact A1
  iintro %_ A1
  rw [WP_bind]
  iapply (WP_wand c _ (fun _ => slotPts 2 c 0 fullShare (cont m ρ (mate 2).1 c c))) $$ [A2]
  · iapply (wp_fill m ρ 2 c (Memref.isWhole_whole _) (kstg m ρ c) rfl); iexact A2
  iintro %_ A2
  rw [WP_bind]
  iapply (WP_wand c _ (fun _ => slotPts 3 c 0 fullShare (cont m ρ (mate 3).1 c c))) $$ [A3]
  · iapply (wp_fill m ρ 3 c (Memref.isWhole_whole _) (vstg m ρ c) rfl); iexact A3
  iintro %_ A3
  rw [WP_bind]
  iapply (WP_wand c _ (fun x => iprop(⌜x = qstg m ρ c⌝ ∗ sq c (qstg m ρ c)))) $$ [Hq]
  · iapply (wp_q c (qstg m ρ c)); iexact Hq
  iintro %q ⟨%hq, Hq⟩
  subst hq
  iapply (WP_pure c (⟨c, scaled (qstg m ρ c)⟩ : (Σ' (_ : Dev nD), FVec F S1024x128 .bf16)))
  isplitr; · ipureintro; rfl
  isplitl [HBD]; · iexact HBD
  isplitl [HL HP A0 A1 A2 A3]
  · iapply (lanes_start m ρ c)
    isplitl [HL]; · iexact HL
    isplitl [HP]; · iexact HP
    isplitl [A0]; · iexact A0
    isplitl [A1]; · iexact A1
    isplitl [A2]; · iexact A2
    iexact A3
  isplitl [Hq Hk Hv]
  · isplitl [Hq]; · iexact Hq
    isplitl [Hk]; · iexact Hk
    iexact Hv
  iexact HO

end Cert.Proof

end
-- ==== Proof.Body.lean ====
/-
  The BODY of one device: the start, the rounds and the end, composed; then its cells are closed.
-/
module

public import proofs.«01_k».proof.Proof.Credits
public import proofs.«01_k».proof.Proof.Entry

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-- The rounds and the end, the middle rounds each with their credits. -/
def rest (d0 : Dev nD) (q : FVec F S1024x128 .bf16) : P F PUnit := do
  let x ← round1 d0 q
  let x ← round d0 q 2 x
  credSignal d0
  let x ← cycle d0 q 3 x
  let x ← cycle d0 q 4 x
  let x ← cycle d0 q 5 x
  let x ← cycle d0 q 6 x
  let x ← round d0 q 7 x
  credWait
  let x ← round8 d0 q x
  let x ← round9 q x
  epilogue x

theorem cycle_bind {α : Type} (d0 : Dev nD) (q : FVec F S1024x128 .bf16) (r : ℕ) (x : Acc F) (k : Acc F → P F α) :
    Prog.bind (cycle d0 q r x) k = Prog.bind (round d0 q r x) fun y => Prog.bind (credSignal d0) fun _ => Prog.bind credWait fun _ => k y :=
  (Prog.bind_assoc (round d0 q r x) _ k).trans (congrArg _ (funext fun y => (Prog.bind_assoc (credSignal d0) _ k).trans
    (congrArg _ (funext fun _ => Prog.bind_assoc credWait _ k))))

theorem ring_eq : ringProg (F := F) = prologue.bind fun y => rest y.1 y.2 := by
  unfold ringProg rest
  simp only [bind, cycle_bind]

/-- The running pair after device `c` folded its own block and those of the hops up to `n`. -/
def accOf (c : Dev nD) : ℕ → Acc F
  | 0 => fold (scaled (qstg m ρ c)) acc0 (kblk m ρ c) (vblk m ρ c)
  | n + 1 => fold22 m ρ (scaled (qstg m ρ c)) (accOf c n) (fun δ => org δ c (n + 1))

/-- The running pair after all blocks, -/
def accAll (c : Dev nD) : Acc F := foldHH m ρ (scaled (qstg m ρ c)) (accOf m ρ c 7) (fun δ => org δ c 8)
/-- and the output. -/
def outv (c : Dev nD) : FVec F S1024x128 .f32 := k0_pay1 (accAll m ρ c).1 (accAll m ρ c).2

/-- What the protocol gives a device at the start, -/
def Init (c : Dev nD) : sProp 𝕄 :=
  iprop((BarTok c 0 ∗ BarTok c 1 ∗ BarW c) ∗ bigSep Finset.univ (LT c) ∗ (CrTok c 0 0 ∗ CrTok c 1 0) ∗ CrW c 0)
/-- and gets back at the end: its cells at zero. -/
def Closed (c : Dev nD) : sProp 𝕄 :=
  iprop(semVal (kcell (c, .bar)) 0 ∗ (semVal (kcell (c, .cred 0)) 0 ∗ semVal (kcell (c, .cred 1)) 0)
    ∗ (bigSep Finset.univ fun ℓ : Fin 8 => bigSep Finset.univ fun s : Fin 4 => semVal (kcell (c, .send ℓ s)) 0)
    ∗ bigSep Finset.univ fun ℓ : Fin 8 => bigSep Finset.univ fun s : Fin 4 => semVal (kcell (c, .recv ℓ s)) 0)

theorem wp_rest (c : Dev nD) (X : (cc0_stg3_0 : Ref sig .tc).ty.Contents (Elt F)) :
    iprop(invs m ρ K ιs ∗ bigSep Finset.univ (LS0 m ρ c) ∗ (CrTok c 0 0 ∗ CrTok c 1 0) ∗ CrW c 0 ∗ so c X ∗ Ow c 10)
      ⊢ WP c (rest c (scaled (qstg m ρ c))) (fun _ => iprop((bigSep Finset.univ (LF m ρ c) ∗ bigSep Finset.univ (last m ρ c)) ∗ CrW c 5
        ∗ so c (outv m ρ c) ∗ Ow c 90)) := by
  have h18 : Ow (F := F) c 18 = Ow c 20 := (Ow_skip (by omega) (by decide) c).trans (Ow_skip (by omega) (by decide) c)
  have h78 : Ow (F := F) c 78 = Ow c 80 := (Ow_skip (by omega) (by decide) c).trans (Ow_skip (by omega) (by decide) c)
  have hcyc : ∀ k, k < 4 → ∀ x, x = accOf m ρ c (k + 1) → iprop(invs m ρ K ιs ∗ St m ρ c k)
      ⊢ WP c (cycle c (scaled (qstg m ρ c)) (k + 3) x) (fun y => iprop(⌜y = accOf m ρ c (k + 2)⌝ ∗ St m ρ c (k + 1))) := fun k hk x hx => by
    subst hx; exact wp_cycle m ρ K ιs c (scaled (qstg m ρ c)) k (accOf m ρ c (k + 1)) hk
  unfold rest
  rw [WP_bind]
  iintro ⟨#HI, HL, HT, HW, Hso, HO⟩
  iapply (WP_wand c _ (fun y => iprop(⌜y = accOf m ρ c 0⌝ ∗ bigSep Finset.univ (LS m ρ c 0) ∗ Ow c 18))) $$ [HL HO]
  · iapply (wp_round1 m ρ K ιs c (scaled (qstg m ρ c)))
    isplitr; · iexact HI
    isplitl [HL]; · iexact HL
    iexact HO
  iintro %x ⟨%hx, HL, HO⟩
  subst hx
  ihave HO := (Entails.of_eq h18) $$ HO
  rw [WP_bind]
  iapply (WP_wand c _ (fun y => iprop(⌜y = accOf m ρ c 1⌝ ∗ bigSep Finset.univ (LS m ρ c 1) ∗ Ow c (10 * (0 + 2) + 8)))) $$ [HL HO]
  · iapply (wp_round m ρ K ιs c (scaled (qstg m ρ c)) 0 (accOf m ρ c 0) (by omega))
    isplitr
    · isplitr; · iexact HI
      iapply (CF_small c 2 (by omega)); iempintro
    isplitl [HL]; · iexact HL
    iexact HO
  iintro %x ⟨%hx1, HL, HO⟩
  rw [WP_bind]
  iapply (WP_wand c _ (fun _ => iprop((bigSep Finset.univ (LS m ρ c (0 + 1)) ∗ CrTok c 0 (0 + 1) ∗ CrTok c 1 (0 + 1)) ∗ Ow c (10 * (0 + 3))))) $$ [HL HT HO]
  · iapply (wp_credSignal m ρ K ιs c 0 (by omega))
    isplitr; · iexact HI
    isplitr [HO]
    · isplitl [HL]; · iexact HL
      iexact HT
    iexact HO
  iintro %_ ⟨HL, HO⟩
  rw [WP_bind]
  iapply (WP_wand c _ (fun y => iprop(⌜y = accOf m ρ c 2⌝ ∗ St m ρ c 1))) $$ [HL HW HO]
  · iapply (hcyc 0 (by omega) x hx1)
    isplitr; · iexact HI
    unfold St
    isplitl [HL]; · iexact HL
    isplitl [HW]; · iexact HW
    isplitr; · iapply (CF_small c 3 (by omega)); iempintro
    iexact HO
  iintro %x2 ⟨%hx2, HS⟩
  rw [WP_bind]
  iapply (WP_wand c _ (fun y => iprop(⌜y = accOf m ρ c 3⌝ ∗ St m ρ c 2))) $$ [HS]
  · iapply (hcyc 1 (by omega) x2 hx2)
    isplitr; · iexact HI
    iexact HS
  iintro %x3 ⟨%hx3, HS⟩
  rw [WP_bind]
  iapply (WP_wand c _ (fun y => iprop(⌜y = accOf m ρ c 4⌝ ∗ St m ρ c 3))) $$ [HS]
  · iapply (hcyc 2 (by omega) x3 hx3)
    isplitr; · iexact HI
    iexact HS
  iintro %x4 ⟨%hx4, HS⟩
  rw [WP_bind]
  iapply (WP_wand c _ (fun y => iprop(⌜y = accOf m ρ c 5⌝ ∗ St m ρ c 4))) $$ [HS]
  · iapply (hcyc 3 (by omega) x4 hx4)
    isplitr; · iexact HI
    iexact HS
  iintro %x5 ⟨%hx5, HS⟩
  subst hx5
  unfold St
  icases HS with ⟨⟨HL, -, -⟩, HW, #HF, HO⟩
  rw [WP_bind]
  iapply (WP_wand c _ (fun y => iprop(⌜y = accOf m ρ c 6⌝ ∗ bigSep Finset.univ (LS m ρ c 6) ∗ Ow c (10 * (5 + 2) + 8)))) $$ [HL HO]
  · iapply (wp_round m ρ K ιs c (scaled (qstg m ρ c)) 5 (accOf m ρ c 5) (by omega))
    isplitr
    · isplitr; · iexact HI
      iexact HF
    isplitl [HL]; · iexact HL
    iexact HO
  iintro %x6 ⟨%hx6, HL, HO⟩
  subst hx6
  ihave HO := (Entails.of_eq h78) $$ HO
  rw [WP_bind]
  iapply (WP_wand c _ (fun _ => iprop(CrW c (4 + 1) ∗ CF c (4 + 4) ∗ Ow c (10 * (4 + 4))))) $$ [HW HO]
  · iapply (wp_credWait m ρ K ιs c 4 (by omega))
    isplitr; · iexact HI
    isplitl [HW]; · iexact HW
    iexact HO
  iintro %_ ⟨HW, HF8, HO⟩
  rw [WP_bind]
  iapply (WP_wand c _ (fun y => iprop(⌜y = accOf m ρ c 7⌝ ∗ bigSep Finset.univ (LS m ρ c 7) ∗ Ow c 88))) $$ [HL HF8 HO]
  · iapply (wp_round8 m ρ K ιs c (scaled (qstg m ρ c)) (accOf m ρ c 6))
    isplitl [HF8]
    · isplitr; · iexact HI
      iexact HF8
    isplitl [HL]; · iexact HL
    iexact HO
  iintro %x7 ⟨%hx7, HL, HO⟩
  subst hx7
  rw [WP_bind]
  iapply (WP_wand c _ (fun y => iprop(⌜y = accAll m ρ c⌝ ∗ (bigSep Finset.univ (LF m ρ c) ∗ bigSep Finset.univ (last m ρ c)) ∗ Ow c 90))) $$ [HL HO]
  · iapply (wp_round9 m ρ K ιs c (scaled (qstg m ρ c)) (accOf m ρ c 7))
    isplitr; · iexact HI
    isplitl [HL]; · iexact HL
    iexact HO
  iintro %x9 ⟨%hx9, HL, HO⟩
  subst hx9
  iapply (WP_wand c _ (fun _ => so c (outv m ρ c))) $$ [Hso]
  · iapply (wp_epilogue c (accAll m ρ c) X); iexact Hso
  iintro %_ Hso
  isplitl [HL]; · iexact HL
  isplitl [HW]; · iexact HW
  isplitl [Hso]; · iexact Hso
  iexact HO

theorem close_all (c : Dev nD) :
    iprop(invs m ρ K ιs ∗ BarDone c ∗ CrW c 5 ∗ (bigSep Finset.univ (LF m ρ c) ∗ bigSep Finset.univ (last m ρ c)))
      ⊢ (|={Set.univ}=> (Closed c ∗ bufs c) : sProp 𝕄) := by
  have hb := close_cell m ρ K ιs (c, .bar) 1 (fun r hr => if_neg (by omega))
  have hc := fun δ => close_cell m ρ K ιs (c, .cred δ) 1 (fun r hr => if_neg (by omega))
  unfold BarDone CrW CrPos Closed
  rw [if_neg (show ¬ 5 < 5 by omega), if_neg (show ¬ 5 < 5 by omega)]
  iintro ⟨#HI, HB, ⟨⟨H0, -⟩, H1, -⟩, HL⟩
  imod hb $$ [HB] with HB
  · isplitr; · iexact HI
    iexact HB
  imod (hc 0) $$ [H0] with H0
  · isplitr; · iexact HI
    iexact H0
  imod (hc 1) $$ [H1] with H1
  · isplitr; · iexact HI
    iexact H1
  imod (close_lanes m ρ K ιs c) $$ [HL] with ⟨HS, HR, HA⟩
  · isplitr; · iexact HI
    iexact HL
  imodintro
  isplitr [HA]
  · isplitl [HB]; · iexact HB
    isplitl [H0 H1]
    · isplitl [H0]; · iexact H0
      iexact H1
    isplitl [HS]; · iexact HS
    iexact HR
  iapply (bufs_join c); iexact HA

/-- The whole body. -/
theorem wp_ring (c : Dev nD) (X : (cc0_stg3_0 : Ref sig .tc).ty.Contents (Elt F)) :
    iprop(invs m ρ K ιs ∗ Init c ∗ bufs c ∗ (sq c (qstg m ρ c) ∗ sk c (kstg m ρ c) ∗ sv c (vstg m ρ c)) ∗ so c X ∗ Ow c 8)
      ⊢ WP c ringProg (fun _ => iprop((Closed c ∗ bufs c) ∗ (sq c (qstg m ρ c) ∗ sk c (kstg m ρ c) ∗ sv c (vstg m ρ c)) ∗ so c (outv m ρ c) ∗ Ow c 90)) := by
  rw [ring_eq]
  show _ ⊢ WP c (prologue >>= fun y => rest y.1 y.2) _
  rw [WP_bind]
  unfold Init
  iintro ⟨#HI, ⟨HB, HL, HT, HW⟩, Hbuf, Hs, Hso, HO⟩
  iapply (WP_wand c _ (fun y => iprop(⌜y = ⟨c, scaled (qstg m ρ c)⟩⌝ ∗ BarDone c ∗ bigSep Finset.univ (LS0 m ρ c)
        ∗ (sq c (qstg m ρ c) ∗ sk c (kstg m ρ c) ∗ sv c (vstg m ρ c)) ∗ Ow c 10))) $$ [HB HL Hbuf Hs HO]
  · iapply (wp_prologue m ρ K ιs c)
    isplitr; · iexact HI
    isplitl [HB]; · iexact HB
    isplitl [Hbuf]; · iexact Hbuf
    isplitl [HL]; · iexact HL
    isplitl [Hs]; · iexact Hs
    iexact HO
  iintro %y ⟨%hy, HBD, HL, Hs, HO⟩
  subst hy
  iapply (WP_fupd c)
  iapply (WP_wand c _ (fun _ => iprop((bigSep Finset.univ (LF m ρ c) ∗ bigSep Finset.univ (last m ρ c)) ∗ CrW c 5
        ∗ so c (outv m ρ c) ∗ Ow c 90))) $$ [HL HT HW Hso HO]
  · iapply (wp_rest m ρ K ιs c X)
    isplitr; · iexact HI
    isplitl [HL]; · iexact HL
    isplitl [HT]; · iexact HT
    isplitl [HW]; · iexact HW
    isplitl [Hso]; · iexact Hso
    iexact HO
  iintro %_ ⟨HF, HW, Hso, HO⟩
  imod (close_all m ρ K ιs c) $$ [HBD HW HF] with HC
  · isplitr; · iexact HI
    isplitl [HBD]; · iexact HBD
    isplitl [HW]; · iexact HW
    iexact HF
  imodintro
  isplitl [HC]; · iexact HC
  isplitl [Hs]; · iexact Hs
  isplitl [Hso]; · iexact Hso
  iexact HO

end Cert.Proof

end
-- ==== Proof.Deal.lean ====
/-
  The DEAL: at launch all cells, tokens, slots and credits exist at once, grouped by the device they belong to. Here they are
  regrouped by the device that uses them: a token goes to the device that pays with it, a credit to the device that waits with it.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-! ## Regrouping -/

/-- Consecutive numbers as the indices of a `Fin`. -/
theorem hops (a n : ℕ) (Φ : ℕ → sProp 𝕄) : bigSep (Finset.Ico a (a + n)) Φ = bigSep Finset.univ fun i : Fin n => Φ (a + i.val) := by
  have e : (Finset.univ : Finset (Fin n)).map ⟨fun i : Fin n => a + i.val, fun i j h => Fin.ext (Nat.add_left_cancel h)⟩ = Finset.Ico a (a + n) := by
    ext x
    rw [Finset.mem_map, Finset.mem_Ico]
    constructor
    · rintro ⟨i, -, rfl⟩
      have := i.isLt
      exact ⟨Nat.le_add_right _ _, Nat.add_lt_add_left this _⟩
    · rintro ⟨h1, h2⟩
      exact ⟨⟨x - a, by omega⟩, Finset.mem_univ _, by show a + (x - a) = x; omega⟩
  rw [← e, bigSep_map]; rfl

/-- The ring's two rotations. -/
def ringE (δ : Fin 2) : Dev nD ≃ Dev nD := ⟨up δ, dn δ, dn_up δ, up_dn δ⟩

/-- Every item handed to the device a rotation of its own says. -/
theorem deal {T : Type} [Fintype T] (e : T → (Dev nD ≃ Dev nD)) (Φ : Dev nD → T → sProp 𝕄) :
    (bigSep Finset.univ fun c => bigSep Finset.univ fun t => Φ c t) = bigSep Finset.univ fun c => bigSep Finset.univ fun t => Φ (e t c) t := by
  rw [bigSep_univ_comm, bigSep_univ_comm (fun c t => Φ (e t c) t)]
  exact bigSep_congr fun t _ => bigSep_univ_equiv (e t) fun c => Φ c t

/-- All channels, kind by kind. -/
theorem by_ch (Φ : Ch → sProp 𝕄) : bigSep Finset.univ Φ
    = iprop(Φ .bar ∗ (Φ (.cred 0) ∗ Φ (.cred 1)) ∗ (bigSep Finset.univ fun ℓ => bigSep Finset.univ fun s => Φ (.send ℓ s))
      ∗ bigSep Finset.univ fun ℓ => bigSep Finset.univ fun s => Φ (.recv ℓ s)) := by
  have e1 : (bigSep Finset.univ fun a : Unit ⊕ Fin 2 => Φ (Ch.equiv.symm (.inl a))) = iprop(Φ .bar ∗ Φ (.cred 0) ∗ Φ (.cred 1)) :=
    (bigSep_univ_eq_bigSepL ([.inl (), .inr 0, .inr 1] : List (Unit ⊕ Fin 2)) (by decide) (by decide) _).trans rfl
  rw [bigSep_univ_equiv Ch.equiv.symm, bigSep_univ_sum, bigSep_univ_sum (fun b => Φ (Ch.equiv.symm (.inr b))), bigSep_univ_prod, bigSep_univ_prod]
  rw [e1]
  exact assocs _ _ _

/-! ## Semaphores -/

/-- The kernel's own semaphores: all but the barrier's. -/
abbrev Oc : Type := Fin 2 ⊕ (Fin 8 × Fin 4) ⊕ (Fin 8 × Fin 4)
def chOf : Oc → Ch | .inl δ => .cred δ | .inr (.inl p) => .send p.1 p.2 | .inr (.inr p) => .recv p.1 p.2
theorem chOf_inj : Function.Injective chOf := by
  rintro (δ | p | p) (δ' | p' | p') h <;> simp only [chOf, Ch.cred.injEq, Ch.send.injEq, Ch.recv.injEq, reduceCtorEq] at h
  · rw [h]
  · rw [Prod.ext h.1 h.2]
  · rw [Prod.ext h.1 h.2]
def osem (k : Oc) : SemLoc sig := csem (chOf k)

theorem ownSemFacts : Pipeline.OwnSemFacts cfg0.spec osem where
  isScoped := by decide
  inj := csem_inj.comp chOf_inj
  disj := by decide

theorem unscopedSems0_eq (c : Dev nD) : (unscopedSems0 c : sProp 𝕄) = semVal (kcell (c, .bar)) 0 := by
  unfold unscopedSems0; rw [bigSep_eq_bigSepL_of_eq [SemLoc.reg barS.sem] (by decide) (by decide)]; rfl

theorem ownSems0_eq (c : Dev nD) : (Pipeline.ownSems0 (Ix := ℕ) (Name := ℕ) (U := UU) (Lvl := ℕ) (Val := Elt F) (τ := τ) osem c : sProp 𝕄)
    = iprop((semVal (kcell (c, .cred 0)) 0 ∗ semVal (kcell (c, .cred 1)) 0)
      ∗ (bigSep Finset.univ fun ℓ : Fin 8 => bigSep Finset.univ fun s : Fin 4 => semVal (kcell (c, .send ℓ s)) 0)
      ∗ bigSep Finset.univ fun ℓ : Fin 8 => bigSep Finset.univ fun s : Fin 4 => semVal (kcell (c, .recv ℓ s)) 0) := by
  have e1 : (bigSep Finset.univ fun δ : Fin 2 => (semVal ((c : Thread nD τ), osem (.inl δ)) 0 : sProp 𝕄))
      = iprop(semVal (kcell (c, .cred 0)) 0 ∗ semVal (kcell (c, .cred 1)) 0) :=
    (bigSep_univ_eq_bigSepL ([0, 1] : List (Fin 2)) (by decide) (by decide) _).trans rfl
  unfold Pipeline.ownSems0
  rw [bigSep_univ_sum, bigSep_univ_sum (fun b => (semVal ((c : Thread nD τ), osem (.inr b)) 0 : sProp 𝕄)), bigSep_univ_prod, bigSep_univ_prod, e1]
  rfl

theorem sems_in (c : Dev nD) :
    iprop(Pipeline.ownSems0 (Ix := ℕ) (Name := ℕ) (U := UU) (Lvl := ℕ) (Val := Elt F) (τ := τ) osem c ∗ unscopedSems0 c)
      ⊢ (bigSep Finset.univ fun k : Ch => semVal (kcell (c, k)) 0 : sProp 𝕄) := by
  rw [ownSems0_eq, unscopedSems0_eq, by_ch]
  iintro ⟨H, HB⟩
  isplitl [HB]; · iexact HB
  iexact H

theorem sems_out (c : Dev nD) : Closed (F := F) c
    ⊢ iprop(unscopedSems0 c ∗ Pipeline.ownSems0 (Ix := ℕ) (Name := ℕ) (U := UU) (Lvl := ℕ) (Val := Elt F) (τ := τ) osem c) := by
  rw [ownSems0_eq, unscopedSems0_eq]; exact BI.Entails.refl _

/-! ## The tokens -/

/-- The tokens of the cells of one device. -/
abbrev Tk : Type := Fin 2 ⊕ (Fin 2 × Fin 5) ⊕ (Fin 8 × Fin 8) ⊕ (Fin 8 × Fin 8)

/-- Which duty a token is: of the barrier, of a credit cell, of hop `i + 1` of a send or receive cell. -/
def tkDuty : Tk → Ch × ℕ × ℕ
  | .inl δ => (.bar, 0, δ.val)
  | .inr (.inl p) => (.cred p.1, 0, p.2.val)
  | .inr (.inr (.inl p)) => (.send p.1 (slotOf p.2.val), p.2.val / 4, 0)
  | .inr (.inr (.inr p)) => (.recv p.1 (slotOf (1 + p.2.val)), p.2.val / 4, 0)

theorem tkDuty_inj : Function.Injective tkDuty := by
  rintro (δ | p | ⟨ℓ, i⟩ | ⟨ℓ, i⟩) (δ' | p' | ⟨ℓ', i'⟩ | ⟨ℓ', i'⟩) h <;>
    simp only [tkDuty, Prod.mk.injEq, Ch.cred.injEq, Ch.send.injEq, Ch.recv.injEq, reduceCtorEq, false_and, true_and, and_true] at h
  · rw [Fin.ext h]
  · rw [Prod.ext h.1 (Fin.ext h.2)]
  · obtain ⟨⟨h1, h2⟩, h3⟩ := h
    have h4 : i.val % 4 = i'.val % 4 := congrArg Fin.val h2
    rw [h1, Fin.ext (show i.val = i'.val by omega)]
  · obtain ⟨⟨h1, h2⟩, h3⟩ := h
    have h4 : (1 + i.val) % 4 = (1 + i'.val) % 4 := congrArg Fin.val h2
    rw [h1, Fin.ext (show i.val = i'.val by omega)]

def tokOf (ct : Dev nD × Tk) : GSem nD τ sig × ℕ × ℕ := (kcell (ct.1, (tkDuty ct.2).1), (tkDuty ct.2).2)
theorem tokOf_inj : Function.Injective tokOf := by
  rintro ⟨c, t⟩ ⟨c', t'⟩ h
  have h1 := kcell_inj (congrArg Prod.fst h)
  have h2 : (tkDuty t).2 = (tkDuty t').2 := congrArg (fun x : GSem nD τ sig × ℕ × ℕ => x.2) h
  have h3 : (tkDuty t).1 = (tkDuty t').1 := congrArg (fun x : Dev nD × Ch => x.2) h1
  rw [show c = c' from congrArg Prod.fst h1, tkDuty_inj (Prod.ext h3 h2)]

def ringCells : Finset (GSem nD τ sig) := Finset.univ.map ⟨kcell, kcell_inj⟩
def ringToks : Finset (GSem nD τ sig × ℕ × ℕ) := Finset.univ.map ⟨tokOf, tokOf_inj⟩

/-- A token of device `c`'s cells. -/
def tok (c : Dev nD) (t : Tk) : sProp 𝕄 := dutyTok ER (kcell (c, (tkDuty t).1)) (tkDuty t).2.1 (tkDuty t).2.2

/-- How far from the cell its payer is. -/
def payerE : Tk → (Dev nD ≃ Dev nD)
  | .inl δ => ringE δ | .inr (.inl p) => ringE p.1 | .inr (.inr (.inl _)) => Equiv.refl _ | .inr (.inr (.inr p)) => (ringE (dir p.1)).symm

/-- The tokens device `c` pays with, with the rights to fill released slots. -/
def Pays (c : Dev nD) : sProp 𝕄 :=
  iprop((BarTok c 0 ∗ BarTok c 1) ∗ (CrTok c 0 0 ∗ CrTok c 1 0) ∗ bigSep Finset.univ fun ℓ : Fin 8 => bigSep (Finset.Ico 1 9) (sendTok c ℓ))

theorem two (Φ : Fin 2 → sProp 𝕄) : bigSep Finset.univ Φ = iprop(Φ 0 ∗ Φ 1) :=
  (bigSep_univ_eq_bigSepL ([0, 1] : List (Fin 2)) (by decide) (by decide) _).trans rfl

/-- The rights to fill, hop by hop. -/
theorem writes_hops (c : Dev nD) (ℓ : Fin 8) :
    (bigSep Finset.univ fun i : Fin 5 => writeTok (ES (F := F)) (dn (dir ℓ) c, ℓ, i.val) 1)
      ⊢ bigSep (Finset.Ico 1 9) fun h => if h ≤ 3 then iprop(emp) else writeTok (ES (F := F)) (dn (dir ℓ) c, ℓ, h - 4) 1 := by
  have hd : Disjoint (Finset.Ico 1 4) (Finset.Ico 4 9) := by decide
  have hu : Finset.Ico 1 4 ∪ Finset.Ico 4 9 = Finset.Ico 1 9 := by decide
  have h1 : (bigSep (Finset.Ico 1 4) fun h => if h ≤ 3 then (iprop(emp) : sProp 𝕄) else writeTok (ES (F := F)) (dn (dir ℓ) c, ℓ, h - 4) 1) = iprop(emp) :=
    (bigSep_congr fun h hh => if_pos (by rw [Finset.mem_Ico] at hh; omega)).trans (bigSep_emp_const _)
  have h2 : (bigSep (Finset.Ico 4 9) fun h => if h ≤ 3 then (iprop(emp) : sProp 𝕄) else writeTok (ES (F := F)) (dn (dir ℓ) c, ℓ, h - 4) 1)
      = bigSep Finset.univ fun i : Fin 5 => writeTok (ES (F := F)) (dn (dir ℓ) c, ℓ, i.val) 1 :=
    (hops 4 5 _).trans (bigSep_congr fun i _ => by
      show (if 4 + i.val ≤ 3 then (iprop(emp) : sProp 𝕄) else writeTok (ES (F := F)) (dn (dir ℓ) c, ℓ, 4 + i.val - 4) 1) = _
      rw [if_neg (by omega), Nat.add_sub_cancel_left])
  have h3 := bigSep_union hd (Φ := fun h => if h ≤ 3 then (iprop(emp) : sProp 𝕄) else writeTok (ES (F := F)) (dn (dir ℓ) c, ℓ, h - 4) 1)
  rw [hu, h1, h2] at h3
  rw [h3]
  show (bigSep Finset.univ fun i : Fin 5 => writeTok (ES (F := F)) (dn (dir ℓ) c, ℓ, i.val) 1)
    ⊢ iprop(emp ∗ bigSep Finset.univ fun i : Fin 5 => writeTok (ES (F := F)) (dn (dir ℓ) c, ℓ, i.val) 1)
  iintro H
  isplitr; · iempintro
  iexact H

theorem sendTok_of (c : Dev nD) (ℓ : Fin 8) :
    iprop((bigSep Finset.univ fun i : Fin 8 => dutyTok (ER (F := F)) (kcell (c, .send ℓ (slotOf i.val))) (i.val / 4) 0)
      ∗ (bigSep Finset.univ fun i : Fin 8 => dutyTok (ER (F := F)) (kcell (dn (dir ℓ) c, .recv ℓ (slotOf (1 + i.val)))) (i.val / 4) 0)
      ∗ bigSep Finset.univ fun i : Fin 5 => writeTok (ES (F := F)) (dn (dir ℓ) c, ℓ, i.val) 1)
      ⊢ bigSep (Finset.Ico 1 9) (sendTok c ℓ) := by
  have e1 : (bigSep Finset.univ fun i : Fin 8 => dutyTok (ER (F := F)) (kcell (c, .send ℓ (slotOf i.val))) (i.val / 4) 0)
      = bigSep (Finset.Ico 1 9) fun h => dutyTok ER (kcell (c, .send ℓ (slotOf (h - 1)))) ((h - 1) / 4) 0 :=
    ((hops 1 8 _).trans (bigSep_congr fun i _ => by rw [Nat.add_sub_cancel_left])).symm
  have e2 : (bigSep Finset.univ fun i : Fin 8 => dutyTok (ER (F := F)) (kcell (dn (dir ℓ) c, .recv ℓ (slotOf (1 + i.val)))) (i.val / 4) 0)
      = bigSep (Finset.Ico 1 9) fun h => dutyTok ER (kcell (dn (dir ℓ) c, .recv ℓ (slotOf h))) ((h - 1) / 4) 0 :=
    ((hops 1 8 _).trans (bigSep_congr fun i _ => by rw [Nat.add_sub_cancel_left])).symm
  rw [e1, e2]
  refine (sep_mono_right (sep_mono_right (writes_hops c ℓ))).trans ?_
  rw [← bigSep_sep', ← bigSep_sep']
  refine bigSep_mono fun h _ => ?_
  unfold sendTok
  by_cases ha : Active h ℓ
  · rw [if_pos ha]; exact BI.Entails.refl _
  · rw [if_neg ha]
    show iprop(dutyTok (ER (F := F)) (kcell (c, .send ℓ (slotOf (h - 1)))) ((h - 1) / 4) 0 ∗ dutyTok ER (kcell (dn (dir ℓ) c, .recv ℓ (slotOf h))) ((h - 1) / 4) 0
      ∗ (if h ≤ 3 then iprop(emp) else writeTok ES (dn (dir ℓ) c, ℓ, h - 4) 1)) ⊢ iprop(emp)
    iintro -; iempintro

/-- The deal of the tokens. -/
theorem toks_dealt :
    iprop((bigSep Finset.univ fun c : Dev nD => bigSep Finset.univ fun t : Tk => tok (F := F) c t)
      ∗ bigSep Finset.univ fun c : Dev nD => bigSep Finset.univ fun p : Fin 8 × Fin 5 => writeTok (ES (F := F)) (c, p.1, p.2.val) 1)
      ⊢ bigSep Finset.univ fun c : Dev nD => Pays c := by
  rw [deal payerE, deal (fun p : Fin 8 × Fin 5 => (ringE (dir p.1)).symm), ← bigSep_sep']
  refine bigSep_mono fun c _ => ?_
  rw [bigSep_univ_sum, bigSep_univ_sum (fun b => tok (F := F) (payerE (.inr b) c) (.inr b)),
    bigSep_univ_sum (fun b => tok (F := F) (payerE (.inr (.inr b)) c) (.inr (.inr b))), bigSep_univ_prod, bigSep_univ_prod, bigSep_univ_prod, bigSep_univ_prod, two, two]
  unfold Pays CrTok
  have ec : ∀ δ : Fin 2, (bigSep (Finset.Ico 0 5) fun i => dutyTok (ER (F := F)) (kcell (up δ c, .cred δ)) 0 i)
      = bigSep Finset.univ fun i : Fin 5 => dutyTok (ER (F := F)) (kcell (up δ c, .cred δ)) 0 i.val :=
    fun δ => (hops 0 5 _).trans (bigSep_congr fun i _ => by rw [Nat.zero_add])
  rw [ec, ec]
  have hs : iprop((bigSep Finset.univ fun ℓ : Fin 8 => bigSep Finset.univ fun i : Fin 8 => dutyTok (ER (F := F)) (kcell (c, .send ℓ (slotOf i.val))) (i.val / 4) 0)
      ∗ (bigSep Finset.univ fun ℓ : Fin 8 => bigSep Finset.univ fun i : Fin 8 => dutyTok (ER (F := F)) (kcell (dn (dir ℓ) c, .recv ℓ (slotOf (1 + i.val)))) (i.val / 4) 0)
      ∗ bigSep Finset.univ fun ℓ : Fin 8 => bigSep Finset.univ fun i : Fin 5 => writeTok (ES (F := F)) (dn (dir ℓ) c, ℓ, i.val) 1)
      ⊢ bigSep Finset.univ fun ℓ : Fin 8 => bigSep (Finset.Ico 1 9) (sendTok c ℓ) := by
    rw [← bigSep_sep', ← bigSep_sep']
    exact bigSep_mono fun ℓ _ => sendTok_of c ℓ
  show iprop(((BarTok (F := F) c 0 ∗ BarTok c 1)
      ∗ ((bigSep Finset.univ fun i : Fin 5 => dutyTok ER (kcell (up 0 c, .cred 0)) 0 i.val) ∗ bigSep Finset.univ fun i : Fin 5 => dutyTok ER (kcell (up 1 c, .cred 1)) 0 i.val)
      ∗ (bigSep Finset.univ fun ℓ : Fin 8 => bigSep Finset.univ fun i : Fin 8 => dutyTok (ER (F := F)) (kcell (c, .send ℓ (slotOf i.val))) (i.val / 4) 0)
      ∗ (bigSep Finset.univ fun ℓ : Fin 8 => bigSep Finset.univ fun i : Fin 8 => dutyTok (ER (F := F)) (kcell (dn (dir ℓ) c, .recv ℓ (slotOf (1 + i.val)))) (i.val / 4) 0))
      ∗ bigSep Finset.univ fun ℓ : Fin 8 => bigSep Finset.univ fun i : Fin 5 => writeTok (ES (F := F)) (dn (dir ℓ) c, ℓ, i.val) 1) ⊢ _
  iintro ⟨⟨⟨HB0, HB1⟩, ⟨HC0, HC1⟩, HS, HR⟩, HW⟩
  isplitl [HB0 HB1]
  · isplitl [HB0]; · iexact HB0
    iexact HB1
  isplitl [HC0 HC1]
  · isplitl [HC0]; · iexact HC0
    iexact HC1
  iapply hs
  isplitl [HS]; · iexact HS
  isplitl [HR]; · iexact HR
  iexact HW

/-! ## The positions -/

/-- The positions device `c` starts from. -/
def Poss (c : Dev nD) : sProp 𝕄 :=
  iprop(atPos ER (kcell (c, .bar)) 0 ∅ 0 ∗ (CrPos c 0 0 ∗ CrPos c 1 0) ∗ (bigSep Finset.univ fun ℓ : Fin 8 => PS c ℓ 1) ∗ bigSep Finset.univ fun ℓ : Fin 8 => PR c ℓ 1)

theorem crPos_of (c : Dev nD) (δ : Fin 2) : atPos (ER (F := F)) (kcell (c, .cred δ)) 0 ∅ 0 ⊢ CrPos c δ 0 := by
  unfold CrPos
  rw [if_pos (by decide)]
  iintro H
  iexists ∅
  rw [bigSep_empty]
  isplitr; · ipureintro; exact Finset.empty_subset _
  isplitl [H]; · iexact H
  iempintro

theorem poss_of (c : Dev nD) :
    iprop((bigSep Finset.univ fun k : Ch => atPos (ER (F := F)) (kcell (c, k)) 0 ∅ 0) ∗ bigSep Finset.univ fun k : Ch => reached (ER (F := F)) (kcell (c, k)) 0) ⊢ Poss c := by
  have eS : ∀ ℓ : Fin 8, (bigSep Finset.univ fun s : Fin 4 => iprop(atPos (ER (F := F)) (kcell (c, .send ℓ s)) 0 ∅ 0 ∗ reached (ER (F := F)) (kcell (c, .send ℓ s)) 0)) = PS c ℓ 1 := fun ℓ =>
    ((univ4 _).trans rfl).trans ((bigSep_eq_bigSepL_of_eq (S := Finset.Ico 1 (1 + 4)) ([1, 2, 3, 4] : List ℕ) (by decide) (by decide) (PosS c ℓ)).trans rfl).symm
  have eR : ∀ ℓ : Fin 8, (bigSep Finset.univ fun s : Fin 4 => iprop(atPos (ER (F := F)) (kcell (c, .recv ℓ s)) 0 ∅ 0 ∗ reached (ER (F := F)) (kcell (c, .recv ℓ s)) 0)) = PR c ℓ 1 := fun ℓ =>
    ((bigSep_univ_eq_bigSepL ([1, 2, 3, 0] : List (Fin 4)) (by decide) (by decide) _).trans rfl).trans
      ((bigSep_eq_bigSepL_of_eq (S := Finset.Ico 1 (1 + 4)) ([1, 2, 3, 4] : List ℕ) (by decide) (by decide) (PosR c ℓ)).trans rfl).symm
  have h0 := crPos_of (F := F) c 0
  have h1 := crPos_of (F := F) c 1
  rw [← bigSep_sep', by_ch]
  unfold Poss
  iintro ⟨⟨HB, -⟩, ⟨⟨H0, -⟩, ⟨H1, -⟩⟩, HS, HR⟩
  isplitl [HB]; · iexact HB
  isplitl [H0 H1]
  · isplitl [H0]
    · iapply h0; iexact H0
    · iapply h1; iexact H1
  isplitl [HS]
  · iapply (Entails.of_eq (bigSep_congr (s := Finset.univ) fun (ℓ : Fin 8) _ => eS ℓ)); iexact HS
  · iapply (Entails.of_eq (bigSep_congr (s := Finset.univ) fun (ℓ : Fin 8) _ => eR ℓ)); iexact HR

/-! ## The credits -/

/-- The credits device `c` waits with. -/
def Creds (c : Dev nD) : sProp 𝕄 :=
  iprop(cred (tallyAt (kcell (c, .bar)) 1 2) ∗ (CrCr c 0 0 ∗ CrCr c 1 0) ∗ bigSep Finset.univ fun ℓ : Fin 8 => Rcv c ℓ 1)

/-- The events of hops 1 to 8. -/
def evt (p : Fin 8 × (Fin 8 ⊕ Fin 2)) : ℕ := match p.2 with | .inl ℓ => 10 * (1 + p.1.val) + ℓ.val | .inr δ => 10 * (1 + p.1.val) + 8 + δ.val
theorem evt_inj : Function.Injective evt := by decide +kernel
theorem evt_map : Finset.univ.map ⟨evt, evt_inj⟩ = Finset.Ico 10 90 := by decide +kernel

/-- All events after the barrier, hop by hop and lane by lane. -/
theorem events (Φ : ℕ → sProp 𝕄) : bigSep (Finset.Ico 10 90) Φ
    = iprop((bigSep Finset.univ fun ℓ : Fin 8 => bigSep (Finset.Ico 1 9) fun h => Φ (10 * h + ℓ.val))
      ∗ bigSep Finset.univ fun δ : Fin 2 => bigSep (Finset.Ico 1 9) fun h => Φ (10 * h + 8 + δ.val)) := by
  have h1 : ∀ ℓ : Fin 8, (bigSep (Finset.Ico 1 9) fun h => Φ (10 * h + ℓ.val)) = bigSep Finset.univ fun i : Fin 8 => Φ (10 * (1 + i.val) + ℓ.val) := fun ℓ => hops 1 8 _
  have h2 : ∀ δ : Fin 2, (bigSep (Finset.Ico 1 9) fun h => Φ (10 * h + 8 + δ.val)) = bigSep Finset.univ fun i : Fin 8 => Φ (10 * (1 + i.val) + 8 + δ.val) := fun δ => hops 1 8 _
  rw [← evt_map, bigSep_map, bigSep_univ_prod, bigSep_univ_comm, bigSep_univ_sum, bigSep_congr fun ℓ _ => h1 ℓ, bigSep_congr fun δ _ => h2 δ]
  rfl

/-- The credit of an event at the device it goes to. -/
theorem cred_event (i : ℕ) (k : Ch) (f g : Dev nD → Dev nD) (h1 : ∀ c, f (g c) = c) (h2 : ∀ d, g (f d) = d) (ι n : ℕ)
    (h : ∀ c, due i c = tallyAt (kcell (f c, k)) ι n) (c : Dev nD) :
    (Pipeline.launchCred (due i) c : sProp 𝕄) ⊢ cred (tallyAt (kcell (c, k)) ι n) := by
  rw [show due i = fun d => tallyAt (((f d).tc : Thread nD τ), csem k) ι n from funext h]
  exact Pipeline.launchCred_tallyAt (csem k) f g h1 h2 ι n c

theorem creds_of (c : Dev nD) : (Pipeline.launchCred (owed 8) c : sProp 𝕄) ⊢ Creds c := by
  have hd : Disjoint (Finset.Ico 8 10) (Finset.Ico 10 90) := by decide +kernel
  have hu : Finset.Ico 8 10 ∪ Finset.Ico 10 90 = Finset.Ico 8 90 := by decide +kernel
  have hb : ∀ δ : Fin 2, (Pipeline.launchCred (due (8 + δ.val)) c : sProp 𝕄) ⊢ cred (tallyAt (kcell (c, .bar)) 1 1) := fun δ =>
    cred_event _ _ (up δ) (dn δ) (up_dn δ) (dn_up δ) 1 1 (due_bar δ) c
  have hbar : (bigSep (Finset.Ico 8 10) fun i => (Pipeline.launchCred (due i) c : sProp 𝕄)) ⊢ cred (tallyAt (kcell (c, .bar)) 1 2) := by
    rw [show (bigSep (Finset.Ico 8 10) fun i => (Pipeline.launchCred (due i) c : sProp 𝕄)) = iprop(Pipeline.launchCred (due 8) c ∗ Pipeline.launchCred (due 9) c) from
      (bigSep_eq_bigSepL_of_eq (S := Finset.Ico 8 10) ([8, 9] : List ℕ) (by decide) (by decide) (fun i => (Pipeline.launchCred (due i) c : sProp 𝕄))).trans rfl]
    have e : (tallyAt (kcell (c, .bar)) 1 2 : CellTallies nD τ sig ℕ) = tallyAt (kcell (c, .bar)) 1 1 + tallyAt (kcell (c, .bar)) 1 1 :=
      (tallyAt_add (kcell (c, .bar)) 1 1 1).symm
    rw [e]
    refine BI.Entails.trans ?_ (cred_add _ _).2
    exact BI.sep_mono (hb 0) (hb 1)
  have hcr : ∀ δ : Fin 2, (bigSep (Finset.Ico 1 9) fun h => (Pipeline.launchCred (due (10 * h + 8 + δ.val)) c : sProp 𝕄)) ⊢ CrCr c δ 0 := fun δ => by
    have hsub : Finset.Ico 2 7 ⊆ Finset.Ico 1 9 := by decide
    refine (bigSep_subset hsub).trans ?_
    unfold CrCr
    rw [hops 2 5, hops 0 5]
    refine bigSep_mono fun i _ => ?_
    rw [Nat.zero_add, Nat.add_comm 2]
    exact cred_event _ _ (up δ) (dn δ) (up_dn δ) (dn_up δ) (i.val + 3) 1 (due_credit i.val δ i.isLt) c
  have hrc : ∀ ℓ : Fin 8, (bigSep (Finset.Ico 1 9) fun h => (Pipeline.launchCred (due (10 * h + ℓ.val)) c : sProp 𝕄)) ⊢ Rcv c ℓ 1 := fun ℓ => by
    unfold Rcv
    refine bigSep_mono fun h hh => ?_
    unfold recvCr
    by_cases ha : Active h ℓ
    · rw [if_pos ha]
      exact cred_event _ _ (dn (dir ℓ)) (up (dir ℓ)) (dn_up _) (up_dn _) (h + 1) N (due_send h ℓ (Finset.mem_Ico.mp hh).1 ha) c
    · rw [if_neg ha]
      show (Pipeline.launchCred (due (10 * h + ℓ.val)) c : sProp 𝕄) ⊢ iprop(emp)
      iintro -; iempintro
  have e0 : (Pipeline.launchCred (owed 8) c : sProp 𝕄) = bigSep (Finset.Ico 8 90) fun i => Pipeline.launchCred (due i) c :=
    Pipeline.launchCred_sum (Finset.Ico 8 90) (fun i d => due i d) c
  rw [e0, ← hu, bigSep_union hd, events, two]
  unfold Creds
  have hsw : iprop((bigSep Finset.univ fun ℓ : Fin 8 => Rcv (F := F) c ℓ 1) ∗ (CrCr c 0 0 ∗ CrCr c 1 0)) ⊢ iprop((CrCr c 0 0 ∗ CrCr c 1 0) ∗ bigSep Finset.univ fun ℓ : Fin 8 => Rcv c ℓ 1) := by
    iintro ⟨H1, H2⟩
    isplitl [H2]; · iexact H2
    iexact H1
  exact BI.sep_mono hbar ((BI.sep_mono (bigSep_mono fun ℓ _ => hrc ℓ) (BI.sep_mono (hcr 0) (hcr 1))).trans hsw)

/-! ## Putting it together -/

/-- The rights to release contents. -/
def Rels (c : Dev nD) : sProp 𝕄 := bigSep Finset.univ fun ℓ : Fin 8 => Rel c ℓ 0

theorem init_of (c : Dev nD) : iprop((Poss (F := F) c ∗ Pays c ∗ Rels c) ∗ Creds c) ⊢ Init c := by
  have hL : iprop((bigSep Finset.univ fun ℓ : Fin 8 => bigSep (Finset.Ico 1 9) (sendTok (F := F) c ℓ)) ∗ (bigSep Finset.univ fun ℓ : Fin 8 => Rcv c ℓ 1)
      ∗ (bigSep Finset.univ fun ℓ : Fin 8 => PR c ℓ 1) ∗ (bigSep Finset.univ fun ℓ : Fin 8 => PS c ℓ 1) ∗ bigSep Finset.univ fun ℓ : Fin 8 => Rel c ℓ 0)
      ⊢ bigSep Finset.univ (LT c) := by
    rw [← bigSep_sep', ← bigSep_sep', ← bigSep_sep', ← bigSep_sep']
    exact bigSep_mono fun ℓ _ => BI.Entails.refl _
  unfold Poss Pays Rels Creds Init BarW CrW
  iintro ⟨⟨⟨HpB, ⟨Hp0, Hp1⟩, HpS, HpR⟩, ⟨⟨HtB0, HtB1⟩, HtC, HtS⟩, HRel⟩, HcB, ⟨Hc0, Hc1⟩, HcR⟩
  isplitl [HpB HtB0 HtB1 HcB]
  · isplitl [HtB0]; · iexact HtB0
    isplitl [HtB1]; · iexact HtB1
    isplitl [HpB]; · iexact HpB
    iexact HcB
  isplitl [HtS HcR HpR HpS HRel]
  · iapply hL
    isplitl [HtS]; · iexact HtS
    isplitl [HcR]; · iexact HcR
    isplitl [HpR]; · iexact HpR
    isplitl [HpS]; · iexact HpS
    iexact HRel
  isplitl [HtC]; · iexact HtC
  isplitl [Hp0 Hc0]
  · isplitl [Hp0]; · iexact Hp0
    iexact Hc0
  isplitl [Hp1]; · iexact Hp1
  iexact Hc1

end Cert.Proof

end
-- ==== Proof.Run.lean ====
/-
  The RUN of all sixteen devices: every weakly fair execution of the program ends, with every semaphore at zero, the arguments as
  they were and device `c`'s result at `outv m ρ c`.
-/
module

public import proofs.«01_k».proof.Proof.Deal
public import proofs.«01_k».proof.Proof.Gen.KernelIdeal.Points
public import Idealize.ShloMosaic.Lib.Pipeline.CollectiveSegs

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-! ## The ghost state at launch -/

def u₀ : UU :=
  (initOf (Pipeline.cells cfgs cellOf_inj) (Pipeline.launchToks cfgs cellOf_inj), (initOf ringCells ringToks, initSlots keys 1))

/-- The slots' records, at the first device. -/
def slots0 (c : Dev nD) : sProp 𝕄 := if c = 0 then BI.own (ES (initSlots keys 1)) else iprop(emp)

/-- What the launch element deals device `c`. -/
def G (c : Dev nD) : sProp 𝕄 :=
  iprop((bigSep Finset.univ fun k : Ch => roundState ER (Rd m ρ) (kcell (c, k)) 0)
    ∗ ((bigSep Finset.univ fun k : Ch => atPos ER (kcell (c, k)) 0 ∅ 0) ∗ bigSep Finset.univ fun k : Ch => reached ER (kcell (c, k)) 0)
    ∗ (bigSep Finset.univ fun t : Tk => tok c t) ∗ slots0 c)

/-- All invariants, without the levels. -/
def Recs : sProp 𝕄 :=
  iprop((bigSep Finset.univ fun ck => cellInv ER (Rd m ρ) (K ck) (kcell ck))
    ∗ (bigSep Finset.univ fun ck => reached ER (kcell ck) 0)
    ∗ bigSep keys fun k => slotInv ES (ιs k) k (anyReg k.2.1 k.1 (slotOf k.2.2)))

instance Recs_persistent : BI.Persistent (Recs (F := F) m ρ K ιs) := by unfold Recs; infer_instance

/-- What the global step makes of it. -/
def G' (c : Dev nD) : sProp 𝕄 := iprop(∃ K ιs, Recs m ρ K ιs ∗ Poss c ∗ Pays c ∗ Rels c)

/-- What device `c`'s body starts from. -/
def start (c : Dev nD) : sProp 𝕄 := iprop(∃ K ιs, invs m ρ K ιs ∗ Init c)

theorem at_first (X : sProp 𝕄) : (bigSep Finset.univ fun c : Dev nD => if c = 0 then X else iprop(emp)) = X := by
  rw [bigSep_univ_at _ (0 : Dev nD), if_pos rfl]
  have e : (bigSep (Finset.univ.erase (0 : Dev nD)) fun c : Dev nD => if c = 0 then X else iprop(emp)) = iprop(emp) :=
    (bigSep_congr fun c hc => if_neg (Finset.ne_of_mem_erase hc)).trans (bigSep_emp_const _)
  rw [e]
  exact BI.equiv_iff.mp ⟨by
    show iprop(X ∗ emp) ⊢ X
    iintro ⟨H, -⟩; iexact H, by
    show X ⊢ iprop(X ∗ emp)
    iintro H; isplitl [H]; · iexact H
    iempintro⟩

theorem fund_ring : (BI.own (embR (initOf ringCells ringToks, initSlots keys 1)) : sProp 𝕄) ⊢ (|==> bigSep Finset.univ (G m ρ) : sProp 𝕄) := by
  have hX (Φ : GSem nD τ sig → sProp 𝕄) : bigSep ringCells Φ = bigSep Finset.univ fun c : Dev nD => bigSep Finset.univ fun k : Ch => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : Tk => tok c t := by
    unfold ringToks; rw [bigSep_map, bigSep_univ_prod]; rfl
  iintro HX
  ihave H := (own_pair_emb _ _ _) $$ HX
  icases H with ⟨H1, H2⟩
  imod (Rounds.fund ER (Rd m ρ) ringCells ringToks) $$ H1 with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  ihave H2 := (Entails.of_eq (at_first (F := F) (BI.own (ES (initSlots keys 1)))).symm) $$ H2
  unfold G; simp only [bigSep_sep']
  isplitl [Hst]; · iexact Hst
  isplitl [Hat Hr]
  · isplitl [Hat]; · iexact Hat
    iexact Hr
  isplitl [Htok]; · iexact Htok
  unfold slots0
  iexact H2

/-- One device's cells opened at zero. -/
theorem core_alloc (c : Dev nD) :
    iprop(Pipeline.ownSems0 (Ix := ℕ) (Name := ℕ) (U := UU) (Lvl := ℕ) (Val := Elt F) (τ := τ) osem c ∗ unscopedSems0 c ∗ G m ρ c)
      ⊢ (|={Set.univ}=> ((bigSep Finset.univ fun k => iprop(∃ κ : ℕ, cellInv ER (Rd m ρ) κ (kcell (c, k))))
          ∗ ((bigSep Finset.univ fun k : Ch => atPos ER (kcell (c, k)) 0 ∅ 0) ∗ bigSep Finset.univ fun k : Ch => reached ER (kcell (c, k)) 0)
          ∗ (bigSep Finset.univ fun t : Tk => tok c t) ∗ slots0 c) : sProp 𝕄) := by
  have hal : iprop((bigSep Finset.univ fun k : Ch => (semVal (kcell (c, k)) 0 : sProp 𝕄)) ∗ bigSep Finset.univ fun k : Ch => roundState ER (Rd m ρ) (kcell (c, k)) 0)
      ⊢ (|={Set.univ}=> bigSep Finset.univ fun k => iprop(∃ κ : ℕ, cellInv ER (Rd m ρ) κ (kcell (c, k))) : sProp 𝕄) := by
    rw [← bigSep_sep']
    exact (bigSep_mono fun k _ => (Rounds.body_intro ER (Rd m ρ) (kcell (c, k))).trans inv_alloc).trans (bigSep_fupd _ _)
  unfold G
  iintro ⟨Hos, Hus, Hst, Hrest⟩
  ihave Hv := (sems_in (F := F) c) $$ [Hos Hus]
  · isplitl [Hos] <;> iassumption
  imod hal $$ [Hv Hst] with Hinv
  · isplitl [Hv] <;> iassumption
  imodintro
  isplitl [Hinv]; · iexact Hinv
  iexact Hrest

instance : BI.Persistent (bigSep Finset.univ fun ck : Dev nD × Ch => (reached (ER (F := F)) (kcell ck) 0 : sProp 𝕄)) := inferInstance

/-- A record over the keys, device by device. -/
theorem by_key (Φ : Key → sProp 𝕄) : bigSep keys Φ = bigSep Finset.univ fun c : Dev nD => bigSep Finset.univ fun ℓ : Fin 8 => bigSep (Finset.Ico 0 5) fun i => Φ (c, ℓ, i) := by
  have hinj : Function.Injective fun p : Dev nD × Fin 8 × Fin 5 => ((p.1, p.2.1, p.2.2.val) : Key) := fun p p' h => by
    have h' : p.1 = p'.1 ∧ p.2.1 = p'.2.1 ∧ p.2.2.val = p'.2.2.val := by simpa only [Prod.mk.injEq] using h
    exact Prod.ext h'.1 (Prod.ext h'.2.1 (Fin.ext h'.2.2))
  have e : Finset.univ.map ⟨_, hinj⟩ = keys := by
    ext ⟨c, ℓ, i⟩
    unfold keys
    simp only [Finset.mem_map, Finset.mem_univ, true_and, Function.Embedding.coeFn_mk, Prod.exists, Prod.mk.injEq, Finset.mem_product, Finset.mem_range]
    constructor
    · rintro ⟨c', ℓ', i', -, -, rfl⟩; exact i'.isLt
    · intro h; exact ⟨c, ℓ, ⟨i, h⟩, rfl, rfl, rfl⟩
  rw [← e, bigSep_map, bigSep_univ_prod]
  refine bigSep_congr fun c _ => ?_
  rw [bigSep_univ_prod]
  refine bigSep_congr fun ℓ _ => ((hops 0 5 _).trans (bigSep_congr fun i _ => ?_)).symm
  rw [Nat.zero_add]; rfl

/-- The global step: all cells and all released slots are put under invariants, and what they give is dealt out. -/
theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ (|={Set.univ}=> bigSep Finset.univ (G' m ρ) : sProp 𝕄) := by
  have h1 := (bigSep_mono (s := Finset.univ) fun (c : Dev nD) _ => core_alloc (F := F) m ρ c).trans (bigSep_fupd _ _)
  simp only [bigSep_sep'] at h1
  rw [← bigSep_univ_prod (fun ck : Dev nD × Ch => iprop(∃ κ : ℕ, cellInv ER (Rd m ρ) κ (kcell ck)))] at h1
  have hr : (bigSep Finset.univ fun c : Dev nD => bigSep Finset.univ fun k : Ch => (reached (ER (F := F)) (kcell (c, k)) 0 : sProp 𝕄))
      = bigSep Finset.univ fun ck : Dev nD × Ch => reached ER (kcell ck) 0 := (bigSep_univ_prod (fun ck : Dev nD × Ch => (reached (ER (F := F)) (kcell ck) 0 : sProp 𝕄))).symm
  have hre : (bigSep keys fun k => (readerAt (ES (F := F)) k 0 : sProp 𝕄)) = bigSep Finset.univ fun c : Dev nD => Rels c := by_key _
  have hwt : (bigSep (keys ×ˢ Finset.range 1) fun x => (writeTok (ES (F := F)) x.1 (x.2 + 1) : sProp 𝕄))
      = bigSep Finset.univ fun c : Dev nD => bigSep Finset.univ fun p : Fin 8 × Fin 5 => writeTok ES (c, p.1, p.2.val) 1 := by
    rw [Finset.range_one, Finset.product_singleton, bigSep_map, by_key]
    refine bigSep_congr fun c _ => ?_
    rw [bigSep_univ_prod]
    refine bigSep_congr fun ℓ _ => (hops 0 5 _).trans (bigSep_congr fun i _ => ?_)
    rw [Nat.zero_add]; rfl
  have hpos : iprop((bigSep Finset.univ fun c : Dev nD => bigSep Finset.univ fun k : Ch => (atPos (ER (F := F)) (kcell (c, k)) 0 ∅ 0 : sProp 𝕄))
      ∗ bigSep Finset.univ fun c : Dev nD => bigSep Finset.univ fun k : Ch => reached (ER (F := F)) (kcell (c, k)) 0) ⊢ bigSep Finset.univ fun c : Dev nD => Poss c := by
    rw [← bigSep_sep']; exact bigSep_mono fun c _ => poss_of c
  have hfin : ∀ K ιs, iprop(Recs m ρ K ιs ∗ (bigSep Finset.univ fun c : Dev nD => Poss c) ∗ (bigSep Finset.univ fun c : Dev nD => Pays c) ∗ bigSep Finset.univ fun c : Dev nD => Rels c)
      ⊢ bigSep Finset.univ (G' (F := F) m ρ) := fun K ιs => by
    rw [← bigSep_sep', ← bigSep_sep']
    refine bigSep_with_persistent fun c _ => ?_
    show iprop(Recs m ρ K ιs ∗ Poss c ∗ Pays c ∗ Rels c) ⊢ G' (F := F) m ρ c
    unfold G'
    iintro H
    iexists K; iexists ιs; iexact H
  have h1' : (bigSep Finset.univ fun c => iprop(Pipeline.ownSems0 (Ix := ℕ) (Name := ℕ) (U := UU) (Lvl := ℕ) (Val := Elt F) (τ := τ) osem c ∗ unscopedSems0 c ∗ G m ρ c) : sProp 𝕄)
      ⊢ (|={Set.univ}=> ((bigSep Finset.univ fun ck : Dev nD × Ch => iprop(∃ κ : ℕ, cellInv ER (Rd m ρ) κ (kcell ck)))
          ∗ ((bigSep Finset.univ fun c : Dev nD => bigSep Finset.univ fun k : Ch => atPos ER (kcell (c, k)) 0 ∅ 0)
            ∗ bigSep Finset.univ fun c : Dev nD => bigSep Finset.univ fun k : Ch => reached ER (kcell (c, k)) 0)
          ∗ (bigSep Finset.univ fun c : Dev nD => bigSep Finset.univ fun t : Tk => tok c t) ∗ bigSep Finset.univ fun c : Dev nD => slots0 c) : sProp 𝕄) := by
    rw [bigSep_sep', bigSep_sep']; exact h1
  iintro H
  imod h1' $$ H with ⟨HI, ⟨Hat, Hr⟩, Htok, Hsl⟩
  ihave Hsl := (show (bigSep Finset.univ fun c : Dev nD => slots0 (F := F) c) ⊢ BI.own (ES (initSlots keys 1)) from Entails.of_eq (at_first _)) $$ Hsl
  imod (slots_init ES keys 1 (fun k : Key => anyReg (F := F) k.2.1 k.1 (slotOf k.2.2))) $$ Hsl with ⟨%ιs, -, #HS, Hre, Hwt⟩
  imodintro
  ihave HK := (BI.bigSep_exists_pi Finset.univ (fun (ck : Dev nD × Ch) (κ : ℕ) => (cellInv ER (Rd m ρ) κ (kcell ck) : sProp 𝕄))) $$ HI
  icases HK with ⟨%K, #HI⟩
  ihave Hre := (Entails.of_eq hre) $$ Hre
  ihave Hwt := (Entails.of_eq hwt) $$ Hwt
  ihave Hp := (toks_dealt (F := F)) $$ [Htok Hwt]
  · isplitl [Htok] <;> iassumption
  ihave Hr := (Entails.of_eq hr) $$ Hr
  icases Hr with #HR
  iapply (hfin K ιs)
  isplitr
  · unfold Recs
    isplitr; · iexact HI
    isplitr; · iexact HR
    iexact HS
  isplitl [Hat]
  · iapply hpos
    isplitl [Hat]; · iexact Hat
    iapply (Entails.of_eq hr.symm); iexact HR
  isplitl [Hp]; · iexact Hp
  iexact Hre

theorem start_intro (c : Dev nD) :
    iprop(Pipeline.unscopedRestP Pipeline.Prefetch.none cfg0.spec c (fun b => m ((c : Thread nD τ).loc b)) ∗ levAts L lv
        ∗ Pipeline.launchCred (owed 8) c ∗ prngReg c (ρ c) ∗ G' m ρ c)
      ⊢ |={Set.univ}=> iprop(start m ρ c ∗ emp) := by
  unfold start G' invs Recs
  iintro ⟨-, #Hlev, Hcr, -, ⟨%K, %ιs, ⟨#HI, #HR, #HS⟩, HL⟩⟩
  ihave Hc := (creds_of (F := F) c) $$ Hcr
  imodintro
  isplitl
  · iexists K; iexists ιs
    isplitr
    · isplitr; · iexact HI
      isplitr; · iexact HR
      isplitr; · iexact HS
      iexact Hlev
    iapply (init_of c)
    isplitl [HL]; · iexact HL
    iexact Hc
  · iempintro

/-! ## The body's obligation -/

def Φ₀ (c : Dev nD) : sProp 𝕄 := iprop(start m ρ c ∗ bufs c)
def Φ₁ (c : Dev nD) : sProp 𝕄 := iprop(Closed c ∗ bufs c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outv m ρ c
  Φ t := match t with
    | ⟨0, _⟩ => Φ₀ m ρ c
    | ⟨_ + 1, _⟩ => Φ₁ c
  q _ := fullShare
  owed t := match t with
    | ⟨0, _⟩ => owed 8 c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ c ∗ (dats m ρ 0 c).owesAt 0 t₀.succ
    ∗ stg c cc0_stg0_0 (qstg m ρ c) ∗ stg c cc0_stg1_0 (kstg m ρ c) ∗ stg c cc0_stg2_0 (vstg m ρ c) ∗ stg c cc0_stg3_0 (outv m ρ c))

theorem before_q (c : Dev nD) (d : _) : (dats (F := F) m ρ 0 c).before (0 : Fin 4) t₀ d = qstg m ρ c := by
  unfold Pipeline.Dat.before; rw [if_pos (fetch0_0 t₀)]; rfl
theorem before_k (c : Dev nD) (d : _) : (dats (F := F) m ρ 0 c).before (1 : Fin 4) t₀ d = kstg m ρ c := by
  unfold Pipeline.Dat.before; rw [if_pos (fetch0_1 t₀)]; rfl
theorem before_v (c : Dev nD) (d : _) : (dats (F := F) m ρ 0 c).before (2 : Fin 4) t₀ d = vstg m ρ c := by
  unfold Pipeline.Dat.before; rw [if_pos (fetch0_2 t₀)]; rfl

theorem sound_body (c : Dev nD) : bodyPre (F := F) m ρ c ⊢ WP c ringProg (fun _ => bodyPost m ρ c) := by
  unfold bodyPre bodyPost Φ₀ start
  simp only [before_q, before_k, before_v]
  unfold Pipeline.Dat.owesAt Pipeline.owesWithin
  rw [show (dats (F := F) m ρ 0 c).owed t₀.castSucc = owed 8 c from rfl, show (dats (F := F) m ρ 0 c).owed t₀.succ = 0 from rfl]
  iintro ⟨⟨⟨%K, %ιs, #HI, HInit⟩, Hbuf⟩, ⟨%W, %hW, HO⟩, ⟨%d0, %f0, %hf0, H0⟩, ⟨%d1, %f1, %hf1, H1⟩, ⟨%d2, %f2, %hf2, H2⟩, ⟨%d3, %f3, %hf3, H3⟩⟩
  subst hf0; subst hf1; subst hf2
  iapply (WP_wand c ringProg (fun _ => iprop((Closed c ∗ bufs c) ∗ (sq c (qstg m ρ c) ∗ sk c (kstg m ρ c) ∗ sv c (vstg m ρ c)) ∗ so c (outv m ρ c) ∗ Ow c 90))) $$ [HInit Hbuf HO H0 H1 H2 H3]
  · iapply (wp_ring m ρ K ιs c f3)
    isplitr; · iexact HI
    isplitl [HInit]; · iexact HInit
    isplitl [Hbuf]; · iexact Hbuf
    isplitl [H0 H1 H2]
    · isplitl [H0]; · iexact H0
      isplitl [H1]; · iexact H1
      iexact H2
    isplitl [H3]; · iexact H3
    unfold Ow; iexists W; iexact HO
  iintro %_ ⟨HC, ⟨H0, H1, H2⟩, H3, HO⟩
  unfold Ow
  rw [owed_end]
  icases HO with ⟨%W', HO⟩
  isplitl [HC]; · unfold Φ₁; iexact HC
  isplitl [HO]
  · iexists W'
    isplitr; · ipureintro; exact fun _ _ => Or.inl trivial
    iexact HO
  isplitl [H0]
  · iexists _; isplitr; · ipureintro; rfl
    iexact H0
  isplitl [H1]
  · iexists _; isplitr; · ipureintro; rfl
    iexact H1
  isplitl [H2]
  · iexists _; isplitr; · ipureintro; rfl
    iexact H2
  iexists _; isplitr; · ipureintro; rfl
  iexact H3

set_option maxRecDepth 100000 in
/-- The library's body obligation on device `c`. -/
theorem body_obligation (c : Dev nD) : Pipeline.BodyObligation (dats (F := F) m ρ 0 c) (defs₀ (F := F)) 𝒱₀ 0 Set.univ := fun t => by
  rw [fin_N t]
  rw [bigSep_W, bigSep_W]
  simp only [owns_whole_eq]
  show bodyPre m ρ c ⊢ wp frame (wpE (defs₀ (F := F)) 𝒱₀ c none) Set.univ (bodyAt0 t₀) (fun _ => bodyPost m ρ c)
  rw [show bodyAt0 (F := F) t₀ = ringProg from body_eq]
  exact sound_body m ρ c

/-! ## The side conditions -/

theorem share_eq (c : Dev nD) (w : Fin cfg0.W) : (dats (F := F) m ρ 0 c).share w = fullShare := by unfold Pipeline.Dat.share; split <;> rfl

theorem bufs_eq (c : Dev nD) : (Pipeline.scopedRest (Ix := ℕ) (Name := ℕ) (U := UU) (Lvl := ℕ) (Val := Elt F) cfg0.spec c : sProp 𝕄) = bufs c :=
  scopedRest0_eq c

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, bufs_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, bufs_eq]
  unfold Φ₁
  iintro ⟨HC, Hr⟩
  ihave HC := (sems_out (F := F) c) $$ HC
  icases HC with ⟨H1, H2⟩
  isplitl [H1]; · iexact H1
  isplitl [H2]; · iexact H2
  iexact Hr

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait 8 0 (by omega) (by omega) c _
    · have h := mayWait (F := F) 90 0 (by omega) (by omega) c (.dma ((cfg0.win w).sem s))
      rw [owed_end] at h
      exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- The run, for any float values, from any memory with all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed 8) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Proof

end
-- ==== Proof.Final.lean ====
/-
  What the run leaves: the three argument arrays as they were, and in the result array of every device the quotient the ring
  computed there (`outv`).
-/
module

public import proofs.«01_k».proof.Proof.Run
public import Idealize.ShloMosaic.Lib.Pipeline.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] [Named F]

local notation "𝕄" => MT nD τ sig ℕ (Elt F) ℕ UU ℕ

variable (m : (ℓ : Loc nD τ sig) → Buf (Elt F) ℓ) (ρ : Dev nD → PrngReg)
variable (K : Dev nD × Ch → ℕ) (ιs : Key → ℕ)

/-- The one block of a window is the whole array. -/
theorem read_out (c : Dev nD) (x : FVec F S1024x128 .f32) :
    ((cfg0.win (3 : Fin 4)).blk t₀).view.read (Elt F) x = x := by
  funext i
  rw [View.read_apply]
  refine (congrArg x ?_ : _ = x i)
  funext a
  refine Fin.ext ?_
  exact Pipeline.Window.rect_emb_val_of_index_zero (cfg0.win (3 : Fin 4)) t₀ a (by fin_cases a <;> rfl) i

theorem qstg_eq (c : Dev nD) : qstg m ρ c = m ((c : Thread nD τ).loc main_arg0) := by
  funext i
  refine (congrArg (m ((c : Thread nD τ).loc main_arg0)) ?_ : _ = m ((c : Thread nD τ).loc main_arg0) i)
  funext a
  refine Fin.ext ?_
  exact Pipeline.Window.rect_emb_val_of_index_zero (cfg0.win (0 : Fin 4)) t₀ a (by fin_cases a <;> rfl) i

theorem kstg_eq (c : Dev nD) : kstg m ρ c = m ((c : Thread nD τ).loc main_arg1) := by
  funext i
  refine (congrArg (m ((c : Thread nD τ).loc main_arg1)) ?_ : _ = m ((c : Thread nD τ).loc main_arg1) i)
  funext a
  refine Fin.ext ?_
  exact Pipeline.Window.rect_emb_val_of_index_zero (cfg0.win (1 : Fin 4)) t₀ a (by fin_cases a <;> rfl) i

theorem vstg_eq (c : Dev nD) : vstg m ρ c = m ((c : Thread nD τ).loc main_arg2) := by
  funext i
  refine (congrArg (m ((c : Thread nD τ).loc main_arg2)) ?_ : _ = m ((c : Thread nD τ).loc main_arg2) i)
  funext a
  refine Fin.ext ?_
  exact Pipeline.Window.rect_emb_val_of_index_zero (cfg0.win (2 : Fin 4)) t₀ a (by fin_cases a <;> rfl) i

/-- The result array ends at the quotient. -/
theorem final_out (c : Dev nD) : finalA m ρ c 3 = outv m ρ c := by
  refine (dats (F := F) m ρ 0 c).arrAt_eq_of_cover 3 (outv m ρ c) ?_ ?_
  · intro t _
    have ht : t = t₀ := fin_N t
    subst ht
    exact (read_out (F := F) c _).symm
  · intro i
    refine ⟨t₀, by decide, ?_⟩
    have h : ((cfg0.win (3 : Fin 4)).blk t₀).view.emb i = i := by
      funext a
      refine Fin.ext ?_
      exact Pipeline.Window.rect_emb_val_of_index_zero (cfg0.win (3 : Fin 4)) t₀ a (by fin_cases a <;> rfl) i
    rw [← h]
    exact View.emb_mem_set _ i

/-- The arguments end as they were. -/
theorem final_in0 (c : Dev nD) : finalA m ρ c 0 = m ((c : Thread nD τ).loc main_arg0) := (dats (F := F) m ρ 0 c).arrAt_in 0 rfl _
theorem final_in1 (c : Dev nD) : finalA m ρ c 1 = m ((c : Thread nD τ).loc main_arg1) := (dats (F := F) m ρ 0 c).arrAt_in 1 rfl _
theorem final_in2 (c : Dev nD) : finalA m ρ c 2 = m ((c : Thread nD τ).loc main_arg2) := (dats (F := F) m ρ 0 c).arrAt_in 2 rfl _

/-- The run: every device's result, its arguments, and the semaphores. -/
theorem run_final : θ_run defs (onTc (τ := τ) (main (F := F))) ⟨m, fun _ => 0, ρ⟩ (fun r =>
    (∀ c : Dev nD, r.2.mem ((c.tc : Thread nD τ).loc main_v1) = outv m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
    ∧ r.2.sem = fun _ => 0) :=
  (θ_run defs _ _).mono (fun _ h => ⟨fun c => ⟨(h.1 c 3).trans (final_out m ρ c), (h.1 c 0).trans (final_in0 m ρ c),
    (h.1 c 1).trans (final_in1 m ρ c), (h.1 c 2).trans (final_in2 m ρ c)⟩, h.2⟩) (run_main m ρ)

end Cert.Proof

end
-- ==== Proof.Frames.lean ====
/-
  The claims that read no result: each program runs to its end from every memory, leaves its arguments as they were and every
  semaphore at zero. The kernel as printed and its idealization are one program up to the value of the named constant, so at
  the bit-exact floats, the name read as the printed word, the first is the second. The rewrite's own claim is last.
-/
module

public import proofs.«01_k».proof.Defs
public import proofs.«01_k».proof.Proof.Gen.Kernel
public import proofs.«01_k».proof.Proof.Gen.Pre_finite_KernelIdeal
public import proofs.«01_k».proof.Proof.Gen.Pre_finite_ReferenceIdeal
public import proofs.«01_k».proof.Proof.Gen.ReferenceIdeal.Run
public import proofs.«01_k».proof.Proof.Final
public import Idealize.ShloMosaic.Lib.Quiescent

@[expose] public section

noncomputable section

namespace Cert.Proof

open Idealize.ShloMosaic Idealize.ShloMosaic.TcCoe Idealize.SL.Sem

/-- A named constant read as the word that was printed. -/
@[reducible] def printed : Named Bits where
  named _ _ {φ} bits := FloatOps.ofBits φ bits

attribute [local instance] printed

set_option maxRecDepth 100000 in
theorem defs_eq : Cert.Kernel.defs (F := Bits) = Cert.KernelIdeal.defs (F := Bits) := by chain_rfl

/-- The kernel as printed, at the bit-exact floats. -/
theorem frame_kernel : Cert.quiescent_Kernel := fun m ρ _ => by
  rw [defs_eq]
  exact (θ_run Cert.KernelIdeal.defs _ _).mono (fun _ h => ⟨fun c => (h.1 c).2, h.2⟩) (run_final (F := Bits) m ρ)

/-- Its idealization, over the extended reals. -/
theorem frame_ideal : Cert.quiescent_KernelIdeal := fun m ρ _ =>
  (θ_run Cert.KernelIdeal.defs _ _).mono (fun _ h => ⟨fun c => (h.1 c).2, h.2⟩) (run_final (F := Ideal) m ρ)

/-- The same where the precondition holds. -/
theorem frame_ideal_finite : Cert.quiescent_KernelIdeal_pre_finite_KernelIdeal := fun m ρ _ => frame_ideal m ρ trivial

/-- The reference, over the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_ReferenceIdeal := fun m ρ _ => frame_reference m ρ trivial

/-- The one rewrite of the idealization: the folded root by its name. -/
theorem preserves : Cert.preserves_Kernel_KernelIdeal :=
  IdealRules.named_const.statement Cert.KernelIdeal.κ "inv_sqrt_d" .f32 0x3DB504F3#32 (((Real.sqrt 128)⁻¹ : ℝ) : EReal) rfl

end Cert.Proof

end
-- ==== Proof.Reads.lean ====
/-
  The operations of the kernel's rounds over the extended reals, on queries and keys that hold real numbers and any values: what
  a block of keys and values adds to the running denominator and numerator, for a block of any number of rows.
-/
module

public import proofs.«01_k».proof.Proof.Loop
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal.Laws

@[expose] public section

noncomputable section

namespace Cert.Proof

open Cert.KernelIdeal Cert.KernelIdeal.Gen
open Idealize.ShloMosaic Idealize.ShloMosaic.ValueIdx Idealize.SL.Sem
open scoped BigOperators

/-- A sum of real numbers, read over the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The exponentiated score of a query and a key. -/
def weight (q k : Fin 128 → ℝ) : ℝ := Real.exp (∑ d, q d * k d)

section Block

variable {n : ℕ} (q : Fin 1024 → Fin 128 → ℝ) (k : Fin n → Fin 128 → ℝ) (v : Fin n → Fin 128 → EReal)

/-- What a block adds to a row's denominator, -/
def den (r : Fin 1024) : ℝ := ∑ j, weight (q r) (k j)

/-- and to its numerators. -/
def num (r : Fin 1024) (e : Fin 128) : EReal := ∑ j, (weight (q r) (k j) : EReal) * v j e

variable (Q : FVec Ideal ⟨2, ![1024, 128]⟩ .bf16) (K V : FVec Ideal ⟨3, ![1, n, 128]⟩ .bf16)
  (hQ : ∀ r d, Q (ix2 r d) = (q r d : EReal)) (hK : ∀ j d, K (ix3 (0 : Fin 1) j d) = (k j d : EReal))
  (hV : ∀ j d, V (ix3 (0 : Fin 1) j d) = v j d)
  (hc : (⟨3, ![1, n, 128]⟩ : Shape).ShapeCasts ⟨2, ![n, 128]⟩)

include hQ hK in
/-- The exponentiated scores. -/
theorem weights_apply (r : Fin 1024) (j : Fin n) :
    exp (matmul (DotDims.transposedRhs 1024 128 n) none Q (shapeCast ⟨2, ![n, 128]⟩ K hc) (constant ⟨2, ![1024, n]⟩ .f32 0x00000000#32)) (ix2 r j)
      = (weight (q r) (k j) : EReal) := by
  show Ideal.exp (FloatOps.matmul (DotDims.transposedRhs 1024 128 n) none Q _ _ (ix2 r j)) = _
  rw [Ideal.matmul_transposedRhs_apply, constant_apply, Ideal.ofBits_zero_f32, zero_add]
  simp only [shapeCast_1ab_ab_apply, hQ]
  rw [show (∑ d, (q r d : EReal) * K (ix3 (0 : Fin 1) j d)) = ((∑ d, q r d * k j d : ℝ) : EReal) by
    rw [coe_sum]; exact Finset.sum_congr rfl fun d _ => by rw [hK, EReal.coe_mul]]
  exact Ideal.exp_coe _

variable (W : FVec Ideal ⟨2, ![1024, n]⟩ .f32) (hW : ∀ r j, W (ix2 r j) = (weight (q r) (k j) : EReal))

include hW in
/-- The row sums. -/
theorem rowSum_apply (hr : (⟨2, ![1024, n]⟩ : Shape).Reduces [1] ⟨1, ![1024]⟩) (hφ : FKind.Formats .f32)
    (hacc : (0x00000000#32 : BitVec 32) = FKind.add.neutral .f32 hφ) (hc1 : (⟨1, ![1024]⟩ : Shape).ShapeCasts ⟨2, ![1024, 1]⟩) (r : Fin 1024) :
    shapeCast ⟨2, ![1024, 1]⟩ (multiReduction .add [1] ⟨1, ![1024]⟩ W 0x00000000#32 hr hφ hacc) hc1 (ix2 r (0 : Fin 1)) = (den q k r : EReal) := by
  rw [shapeCast_a_a1_apply, Ideal.multiReduction_add_single, den, coe_sum]
  refine Finset.sum_congr rfl fun (j : Fin n) _ => Eq.trans (congrArg W (funext fun a => Fin.ext ?_)) (hW r j)
  match a with
  | ⟨0, _⟩ => rfl
  | ⟨1, _⟩ => rfl

include hW hV in
/-- The weighted values. -/
theorem weighted_apply (hb : (FTy.bf16).bits < (FTy.f32).bits) (r : Fin 1024) (e : Fin 128) :
    matmul (DotDims.plain 1024 n 128) none (truncf .bf16 W hb) (shapeCast ⟨2, ![n, 128]⟩ V hc) (constant ⟨2, ![1024, 128]⟩ .f32 0x00000000#32) (ix2 r e)
      = num q k v r e := by
  show FloatOps.matmul (DotDims.plain 1024 n 128) none _ _ _ (ix2 r e) = _
  rw [Ideal.matmul_plain_apply, constant_apply, Ideal.ofBits_zero_f32, zero_add, num]
  refine Finset.sum_congr rfl fun j _ => ?_
  rw [truncf_apply, hW, shapeCast_1ab_ab_apply, hV]

end Block

/-- A running pair: real denominators `l` and numerators `a`. -/
def Holds (x : Acc Ideal) (l : Fin 1024 → ℝ) (a : Fin 1024 → Fin 128 → EReal) : Prop :=
  (∀ r, x.1 (ix2 r (0 : Fin 1)) = (l r : EReal)) ∧ ∀ r e, x.2 (ix2 r e) = a r e

theorem holds_acc0 : Holds acc0 (fun _ => 0) (fun _ _ => 0) :=
  ⟨fun _ => Ideal.ofBits_zero_f32, fun _ _ => Ideal.ofBits_zero_f32⟩

variable {q : Fin 1024 → Fin 128 → ℝ} {Q : FVec Ideal S1024x128 .bf16} {x : Acc Ideal} {l : Fin 1024 → ℝ} {a : Fin 1024 → Fin 128 → EReal}

/-- A block's fold adds the block's share. -/
theorem holds_fold (hQ : ∀ r d, Q (ix2 r d) = (q r d : EReal)) (hx : Holds x l a) {k : Fin 1024 → Fin 128 → ℝ} {v : Fin 1024 → Fin 128 → EReal} {K V : Vec Ideal S1x1024x128 .bf16}
    (hK : ∀ j d, K (ix3 (0 : Fin 1) j d) = (k j d : EReal)) (hV : ∀ j d, V (ix3 (0 : Fin 1) j d) = v j d) :
    Holds (fold Q x K V) (fun r => l r + den q k r) (fun r e => a r e + num q k v r e) := by
  have hW : ∀ r j, probs Q K (ix2 r j) = (weight (q r) (k j) : EReal) := weights_apply q k Q K hQ hK _
  refine ⟨fun r => ?_, fun r e => ?_⟩
  · rw [EReal.coe_add, ← hx.1 r, ← rowSum_apply q k (probs Q K) hW reduces_S1024x1024_S1024 (.inl rfl) rfl shapeCasts_S1024_S1024x1 r]
    rfl
  · show _ = a r e + num q k v r e
    rw [← hx.2 r e, ← weighted_apply q k v V hV shapeCasts_S1x1024x128_S1024x128 (probs Q K) hW bitsLt_bf16_f32 r e]
    rfl

/-- The same of half a block. -/
theorem holds_foldH (hQ : ∀ r d, Q (ix2 r d) = (q r d : EReal)) (hx : Holds x l a) {k : Fin 512 → Fin 128 → ℝ} {v : Fin 512 → Fin 128 → EReal} {K V : Vec Ideal S1x512x128 .bf16}
    (hK : ∀ j d, K (ix3 (0 : Fin 1) j d) = (k j d : EReal)) (hV : ∀ j d, V (ix3 (0 : Fin 1) j d) = v j d) :
    Holds (foldH Q x K V) (fun r => l r + den q k r) (fun r e => a r e + num q k v r e) := by
  have hW : ∀ r j, probsH Q K (ix2 r j) = (weight (q r) (k j) : EReal) := weights_apply q k Q K hQ hK _
  refine ⟨fun r => ?_, fun r e => ?_⟩
  · rw [EReal.coe_add, ← hx.1 r, ← rowSum_apply q k (probsH Q K) hW reduces_S1024x512_S1024 (.inl rfl) rfl shapeCasts_S1024_S1024x1 r]
    rfl
  · show _ = a r e + num q k v r e
    rw [← hx.2 r e, ← weighted_apply q k v V hV shapeCasts_S1x512x128_S512x128 (probsH Q K) hW bitsLt_bf16_f32 r e]
    rfl

/-- The queries, scaled: times `1/√128`. -/
theorem scaled_apply (X : FVec Ideal S1024x128 .f32) (r : Fin 1024) (d : Fin 128) :
    scaled X (ix2 r d) = X (ix2 r d) * (((Real.sqrt 128)⁻¹ : ℝ) : EReal) := by
  show shapeCast S1024x128 X _ (ix2 r d) * Named.named (F := Ideal) κ "inv_sqrt_d" (φ := .f32) 0x3DB504F3#32 = _
  rw [shapeCast_self, IdealRules.named_const.ideal_named_scalar _ _ _ _ rfl]

/-- The stored quotient. -/
theorem quotient_apply (hx : Holds x l a) (r : Fin 1024) (e : Fin 128) (hl : l r ≠ 0) :
    k0_pay1 x.1 x.2 (ix2 r e) = a r e * ((1 / l r : ℝ) : EReal) := by
  show Ideal.div (x.2 (ix2 r e)) (broadcastTo S1024x128 x.1 broadcasts_S1024x1_S1024x128 (ix2 r e)) = _
  rw [broadcastTo_apply x.1 _ (ix2 r e) (ix2 r (0 : Fin 1)) (fun b => by
    match b with
    | ⟨0, _⟩ => rfl
    | ⟨1, _⟩ => rfl), hx.1, hx.2, Ideal.div_coe hl]

end Cert.Proof

end
-- ==== Proof.Values.lean ====
/-
  What the kernel computes over the extended reals, on queries and keys that hold real numbers: a device's running pair after
  all blocks is the sums of one row's exponentiated scores over every key, and of those times the values, in whatever order the
  two directions of the ring bring the blocks.
-/
module

public import proofs.«01_k».proof.Proof.Reads
public import proofs.«01_k».proof.Proof.Body

@[expose] public section

noncomputable section

namespace Cert.Proof

open Cert.KernelIdeal Cert.KernelIdeal.Gen
open Idealize.ShloMosaic Idealize.ShloMosaic.ValueIdx Idealize.ShloMosaic.TcCoe Idealize.SL.Sem
open scoped BigOperators

/-! ## Sums over the ring -/

/-- The blocks that have come in after `n` rounds, one from each direction a round. -/
def arrived {M : Type} [AddCommMonoid M] (f : Dev nD → M) (c : Dev nD) : ℕ → M
  | 0 => f c
  | n + 1 => arrived f c n + f (org 0 c (n + 1)) + f (org 1 c (n + 1))

/-- A block `n` steps one way is `16 - n` steps the other way. -/
theorem org_flip (c : Dev nD) (n : Fin 9) : org 0 c n.val = org 1 c (16 - n.val) := by revert c n; decide

theorem org_bijective (c : Dev nD) : Function.Bijective fun k : Fin 16 => org 1 c k.val := by revert c; decide +kernel

/-- Seven rounds and the block opposite are all the blocks. -/
theorem arrived_all {M : Type} [AddCommMonoid M] (f : Dev nD → M) (c : Dev nD) : arrived f c 7 + f (org 1 c 8) = ∑ o, f o := by
  rw [← (org_bijective c).sum_comp f]
  have e (n : ℕ) (h : n < 9) : org 0 c n = org 1 c (16 - n) := org_flip c ⟨n, h⟩
  simp only [arrived, e 1 (by omega), e 2 (by omega), e 3 (by omega), e 4 (by omega), e 5 (by omega), e 6 (by omega), e 7 (by omega), Fin.sum_univ_succ]
  simp only [Fin.val_zero, org_zero, Fin.val_succ, Finset.univ_eq_empty, Finset.sum_empty]
  norm_num
  abel

/-- Row `j` of half `h` of a block. -/
def hrow (h : Fin 2) (j : Fin 512) : Fin 1024 := ⟨512 * h.val + j.val, by omega⟩

/-- A sum over a block is the sum over its two halves. -/
theorem sum_halves {M : Type} [AddCommMonoid M] (f : Fin 1024 → M) : ∑ j, f (hrow 0 j) + ∑ j, f (hrow 1 j) = ∑ j, f j := by
  rw [show ∑ j, f j = ∑ j : Fin (512 + 512), f j from rfl, Fin.sum_univ_add]
  refine congrArg₂ (· + ·) (Finset.sum_congr rfl fun j _ => congrArg f (Fin.ext ?_)) (Finset.sum_congr rfl fun j _ => congrArg f (Fin.ext ?_))
  · show 512 * 0 + j.val = j.val; omega
  · rfl

/-! ## The kernel's values -/

section Kernel

variable (m : (ℓ : Loc nD τ sig) → Buf (Elt Ideal) ℓ) (ρ : Dev nD → PrngReg)
variable (A B : Dev nD → Fin 1024 → Fin 128 → ℝ) (C : Dev nD → Fin 1024 → Fin 128 → EReal)
  (hA : ∀ c r d, qstg m ρ c (ix2 r d) = (A c r d : EReal)) (hB : ∀ c r d, kstg m ρ c (ix2 r d) = (B c r d : EReal))
  (hC : ∀ c r d, vstg m ρ c (ix2 r d) = C c r d)

/-- A device's scaled queries. -/
def sqry (A : Dev nD → Fin 1024 → Fin 128 → ℝ) (c : Dev nD) (r : Fin 1024) (d : Fin 128) : ℝ := A c r d * (Real.sqrt 128)⁻¹

include hA in
theorem query_apply (c : Dev nD) (r : Fin 1024) (d : Fin 128) : scaled (qstg m ρ c) (ix2 r d) = (sqry A c r d : EReal) := by
  rw [scaled_apply, hA, ← EReal.coe_mul, sqry]

/-- A block as it is sent holds what the argument holds. -/
theorem block_apply (X : FVec Ideal S1024x128 .f32) (j : Fin 1024) (d : Fin 128) : (k0_pay4 X : FVec Ideal S1x1024x128 .bf16) (ix3 (0 : Fin 1) j d) = (X (ix2 j d) : EReal) := by
  show shapeCast S1x1024x128 (truncf .bf16 (shapeCast S1024x128 X _) _) _ (ix3 (0 : Fin 1) j d) = _
  rw [shapeCast_ab_1ab_apply, truncf_apply, shapeCast_self]

theorem halfOf_apply (X : Vec Ideal S1x1024x128 .bf16) (h : Fin 2) (j : Fin 512) (d : Fin 128) :
    halfOf X h (ix3 (0 : Fin 1) j d) = X (ix3 (0 : Fin 1) (hrow h j) d) :=
  congrArg X (funext fun a => Fin.ext (match a with | ⟨0, _⟩ => rfl | ⟨1, _⟩ => rfl | ⟨2, _⟩ => rfl))

/-- The shares of device `o`'s block in a row of device `c`: of the denominator, -/
def dshare (c : Dev nD) (r : Fin 1024) (o : Dev nD) : ℝ := den (sqry A c) (B o) r
/-- and of the numerators. -/
def nshare (c : Dev nD) (r : Fin 1024) (e : Fin 128) (o : Dev nD) : EReal := num (sqry A c) (B o) (C o) r e

include hA hB hC in
/-- The running pair after `n` rounds. -/
theorem holds_accOf (c : Dev nD) : ∀ n, Holds (accOf m ρ c n) (fun r => arrived (dshare A B c r) c n) (fun r e => arrived (nshare A B C c r e) c n)
  | 0 => by
    have h := holds_fold (query_apply m ρ A hA c) holds_acc0 (K := kblk m ρ c) (V := vblk m ρ c) (fun j d => (block_apply _ j d).trans (hB c j d))
      (fun j d => (block_apply _ j d).trans (hC c j d))
    simp only [zero_add] at h
    exact h
  | n + 1 => holds_fold (query_apply m ρ A hA c)
      (holds_fold (query_apply m ρ A hA c) (holds_accOf c n) (fun j d => (block_apply _ j d).trans (hB _ j d)) (fun j d => (block_apply _ j d).trans (hC _ j d)))
      (fun j d => (block_apply _ j d).trans (hB _ j d)) (fun j d => (block_apply _ j d).trans (hC _ j d))

theorem org_opposite (c : Dev nD) : org 0 c 8 = org 1 c 8 := by revert c; decide

include hA hB hC in
/-- The running pair after all blocks. -/
theorem holds_accAll (c : Dev nD) : Holds (accAll m ρ c) (fun r => ∑ o, dshare A B c r o) (fun r e => ∑ o, nshare A B C c r e o) := by
  have key (δ h : Fin 2) (j : Fin 512) (d : Fin 128) : halfOf (kblk m ρ (org δ c 8)) h (ix3 (0 : Fin 1) j d) = (B (org δ c 8) (hrow h j) d : EReal) :=
    (halfOf_apply _ h j d).trans ((block_apply _ _ d).trans (hB _ _ d))
  have val (δ h : Fin 2) (j : Fin 512) (d : Fin 128) : halfOf (vblk m ρ (org δ c 8)) h (ix3 (0 : Fin 1) j d) = C (org δ c 8) (hrow h j) d :=
    (halfOf_apply _ h j d).trans ((block_apply _ _ d).trans (hC _ _ d))
  have h := holds_foldH (query_apply m ρ A hA c) (holds_foldH (query_apply m ρ A hA c) (holds_accOf m ρ A B C hA hB hC c 7) (key 0 0) (val 0 0)) (key 1 1) (val 1 1)
  refine ⟨fun r => (h.1 r).trans (congrArg _ ?_), fun r e => (h.2 r e).trans ?_⟩
  · show _ + _ + _ = _
    rw [org_opposite, add_assoc]
    exact (congrArg _ (sum_halves fun j => weight (sqry A c r) (B (org 1 c 8) j))).trans (arrived_all (dshare A B c r) c)
  · show _ + _ + _ = _
    rw [org_opposite, add_assoc]
    exact (congrArg _ (sum_halves fun j => (weight (sqry A c r) (B (org 1 c 8) j) : EReal) * C (org 1 c 8) j e)).trans (arrived_all (nshare A B C c r e) c)

theorem dshare_pos (c : Dev nD) (r : Fin 1024) : 0 < ∑ o, dshare A B c r o :=
  Finset.sum_pos (fun o _ => by unfold dshare den; exact Finset.sum_pos (fun j _ => Real.exp_pos _) ⟨(0 : Fin 1024), Finset.mem_univ _⟩)
    ⟨(0 : Fin 16), Finset.mem_univ _⟩

include hA hB hC in
/-- The result: a row's numerators over its denominator. -/
theorem outv_apply (c : Dev nD) (r : Fin 1024) (e : Fin 128) :
    outv m ρ c (ix2 r e) = (∑ o, nshare A B C c r e o) * ((1 / ∑ o, dshare A B c r o : ℝ) : EReal) :=
  quotient_apply (holds_accAll m ρ A B C hA hB hC c) r e (dshare_pos A B c r).ne'

end Kernel

end Cert.Proof

end
-- ==== Proof.Reference.lean ====
/-
  The reference over the extended reals, on queries and keys that hold real numbers: each row of the result is the softmax of the
  row's scores, weighting the values. Subtracting the row's largest score changes numerator and denominator by one factor.
-/
module

public import proofs.«01_k».proof.Proof.Gen.ReferenceIdeal.Run
public import proofs.«01_k».proof.Proof.Reads
public import Idealize.ShloMosaic.Lib.IdealHost
public import Idealize.ShloMosaic.Lib.KernelVsHost
public import Idealize.ShloMosaic.Lib.StackMember

@[expose] public section

noncomputable section

namespace Cert.Proof.Ref

open Cert.ReferenceIdeal Cert.ReferenceIdeal.Gen
open Idealize.ShloMosaic Idealize.ShloMosaic.ValueIdx Idealize.SL.Sem
open scoped BigOperators

/-- The largest of finitely many real numbers, and `-∞`, is one of them. -/
theorem max_real {ι : Type} [DecidableEq ι] (s : Finset ι) (hs : s.Nonempty) (f : ι → EReal) (g : ι → ℝ) (h : ∀ i, f i = (g i : EReal)) :
    ∃ M : ℝ, s.fold max (⊥ : EReal) f = (M : EReal) := by
  induction hs using Finset.Nonempty.cons_induction with
  | singleton a => exact ⟨g a, by rw [Finset.fold_singleton, h]; exact max_eq_left bot_le⟩
  | cons a s ha _ ih =>
    obtain ⟨M, hM⟩ := ih
    exact ⟨max (g a) M, by rw [Finset.fold_cons, hM, h]; exact (EReal.coe_strictMono.monotone.map_max).symm⟩

theorem bits_128 : Ideal.ofBits .f32 0x43000000#32 = ((128 : ℝ) : EReal) := by
  simp [Ideal.ofBits, Ideal.ieee, -EReal.coe_mul]; norm_num

theorem bits_bot : Ideal.ofBits .f32 0xFF800000#32 = ⊥ := by
  simp [Ideal.ofBits, Ideal.ieee]

/-- A real number that is not negative multiplies a sum of extended reals term by term. -/
theorem sum_mul_real {ι : Type} (s : Finset ι) (f : ι → EReal) (a : ℝ) (ha : 0 ≤ a) : (∑ j ∈ s, f j) * (a : EReal) = ∑ j ∈ s, f j * (a : EReal) := by
  classical
  induction s using Finset.induction_on with
  | empty => simp
  | insert b s h ih =>
    rw [Finset.sum_insert h, Finset.sum_insert h, EReal.right_distrib_of_nonneg_of_ne_top (EReal.coe_nonneg.2 ha) (EReal.coe_ne_top a), ih]

/-- The softmax of a row does not see a shift of its scores. -/
theorem softmax_shift {ι : Type} [Fintype ι] (s : ι → ℝ) (v : ι → EReal) (M : ℝ) :
    ∑ j, ((Real.exp (s j - M) * (1 / ∑ k, Real.exp (s k - M)) : ℝ) : EReal) * v j
      = (∑ j, (Real.exp (s j) : EReal) * v j) * ((1 / ∑ j, Real.exp (s j) : ℝ) : EReal) := by
  have h : ∑ k, Real.exp (s k - M) = (∑ k, Real.exp (s k)) / Real.exp M := by simp only [Real.exp_sub, Finset.sum_div]
  rw [sum_mul_real _ _ _ (one_div_nonneg.2 (Finset.sum_nonneg fun j _ => (Real.exp_pos _).le))]
  refine Finset.sum_congr rfl fun j _ => ?_
  have := Real.exp_ne_zero M
  rw [mul_right_comm, ← EReal.coe_mul, h, Real.exp_sub, one_div_div]
  refine congrArg (fun t : ℝ => (t : EReal) * v j) ?_
  field_simp

variable (X Y Z : FVec Ideal S16384x128 .f32)

/-- The scores, -/
def scores : FVec Ideal S16384x16384 .f32 :=
  Host.divf (Host.dotGeneral dot_S16384x128_S128x16384_S16384x16384_1_0_0_1_n_n none X (transpose S128x16384 [1, 0] Y transposes_S16384x128_S128x16384_1_0))
    (broadcastInDim S16384x16384 ![] bcast_S_S16384x16384 (Host.sqrt (constant S_ .f32 0x43000000#32)))

/-- a number per row, along the row, -/
def along (x : FVec Ideal S16384 .f32) : FVec Ideal S16384x16384 .f32 :=
  broadcastInDim S16384x16384 ![0, 1] bcast_S16384x1_S16384x16384_0_1 (broadcastInDim S16384x1 ![0] bcast_S16384_S16384x1_0 x)

/-- the exponentials of the scores less the row's largest, -/
def exps (s : FVec Ideal S16384x16384 .f32) : FVec Ideal S16384x16384 .f32 :=
  Host.exp (subf s (along (Host.reduce FloatOps.maximumf s (constant S_ .f32 0xFF800000#32) reducesTo_S16384x16384_S16384_d1 h_S_)))

/-- and the result. -/
def result : FVec Ideal S16384x128 .f32 :=
  Host.dotGeneral dot_S16384x16384_S16384x128_S16384x128_1_0_0_1_n_n none
    (Host.divf (exps (scores X Y)) (along (Host.reduceAdd (exps (scores X Y)) (constant S_ .f32 0x00000000#32) reducesTo_S16384x16384_S16384_d1 h_S_))) Z

theorem along_apply (x : FVec Ideal S16384 .f32) (i j : Fin 16384) : along x (ix2 i j) = x (ix1 i) := by
  rw [along, broadcastInDim_apply _ _ _ _ (ix2 i (0 : Fin 1)) (fun b => by
    match b with
    | ⟨0, _⟩ => rfl
    | ⟨1, _⟩ => rfl), broadcastInDim_apply _ _ _ _ (ix1 i) (fun b => by
    match b with
    | ⟨0, _⟩ => rfl)]

variable (A B : Fin 16384 → Fin 128 → ℝ)
  (hX : ∀ i d, X (ix2 i d) = (A i d : EReal)) (hY : ∀ i d, Y (ix2 i d) = (B i d : EReal))

/-- A score. -/
def score (i j : Fin 16384) : ℝ := (∑ d, A i d * B j d) * (1 / Real.sqrt 128)

theorem sqrt_pos : Real.sqrt 128 ≠ 0 := (Real.sqrt_pos.mpr (by norm_num)).ne'

include hX hY in
theorem scores_apply (i j : Fin 16384) : scores X Y (ix2 i j) = (score A B i j : EReal) := by
  have h1 : Host.dotGeneral dot_S16384x128_S128x16384_S16384x16384_1_0_0_1_n_n none X (transpose S128x16384 [1, 0] Y transposes_S16384x128_S128x16384_1_0) (ix2 i j)
      = ((∑ d, A i d * B j d : ℝ) : EReal) := by
    refine (StackMember.dotGeneral_plain_apply none X _ i j).trans ?_
    rw [coe_sum]
    refine Finset.sum_congr rfl fun d _ => ?_
    rw [transpose_ix2_apply, hX, hY, EReal.coe_mul]
  have h2 : broadcastInDim S16384x16384 ![] bcast_S_S16384x16384 (Host.sqrt (constant (F := Ideal) S_ .f32 0x43000000#32)) (ix2 i j) = (Real.sqrt 128 : EReal) := by
    rw [broadcastInDim_scalar_apply]
    show Ideal.sqrt (Ideal.ofBits .f32 0x43000000#32) = _
    rw [bits_128, Ideal.sqrt_coe, if_neg (by norm_num)]
  rw [scores]
  show Ideal.div _ _ = _
  rw [h1, h2, Ideal.div_coe sqrt_pos, ← EReal.coe_mul, score]

theorem reduces_rows : S16384x16384.Reduces [1] S16384 := by decide

theorem lift_row (i j : Fin 16384) : reduces_rows.lift (ix1 i) j = ix2 i j :=
  funext fun a => Fin.ext (match a with | ⟨0, _⟩ => rfl | ⟨1, _⟩ => rfl)

variable (S : FVec Ideal S16384x16384 .f32) (s : Fin 16384 → Fin 16384 → ℝ) (hS : ∀ i j, S (ix2 i j) = (s i j : EReal))

include hS in
/-- The exponentials of a row, less some number. -/
theorem exps_apply (i : Fin 16384) : ∃ M : ℝ, ∀ j, exps S (ix2 i j) = (Real.exp (s i j - M) : EReal) := by
  obtain ⟨M, hM⟩ := max_real (Finset.univ : Finset (Fin 16384)) ⟨0, Finset.mem_univ _⟩ (S ∘ reduces_rows.lift (ix1 i)) (s i)
    (fun j => (congrArg S (lift_row i j)).trans (hS i j))
  refine ⟨M, fun j => ?_⟩
  rw [exps]
  show Ideal.exp (S (ix2 i j) - along _ (ix2 i j)) = _
  have e : Host.reduce FloatOps.maximumf S (constant S_ .f32 0xFF800000#32) reducesTo_S16384x16384_S16384_d1 h_S_ (ix1 i) = (M : EReal) :=
    ((congrFun (hostReduce_maximumf_eq_multiReduction S 0xFF800000#32 reducesTo_S16384x16384_S16384_d1 h_S_ reduces_rows (.inl rfl) rfl) (ix1 i)).trans
      (Ideal.multiReduction_maximumf_single S 0xFF800000#32 reduces_rows (.inl rfl) rfl (ix1 i))).trans
      ((congrArg (fun b : EReal => (Finset.univ : Finset (Fin 16384)).fold max b (S ∘ reduces_rows.lift (ix1 i))) bits_bot).trans hM)
  rw [along_apply, e, hS, ← EReal.coe_sub, Ideal.exp_coe]

/-- The sum of a row. -/
theorem sums_apply (W : FVec Ideal S16384x16384 .f32) (i : Fin 16384) (w : Fin 16384 → ℝ) (hW : ∀ j, W (ix2 i j) = (w j : EReal)) :
    Host.reduceAdd W (constant S_ .f32 0x00000000#32) reducesTo_S16384x16384_S16384_d1 h_S_ (ix1 i) = ((∑ j, w j : ℝ) : EReal) := by
  rw [hostReduceAdd_apply, Ideal.hostReduceAdd_single _ reduces_rows, constant_apply, Ideal.ofBits_zero_f32, zero_add, coe_sum]
  exact Finset.sum_congr rfl fun (j : Fin 16384) _ => (congrArg W (lift_row i j)).trans (hW j)

include hX hY in
/-- The result: the values weighted by the exponentiated scores, over the sum of these. -/
theorem result_apply (i : Fin 16384) (e : Fin 128) :
    result X Y Z (ix2 i e) = (∑ j, (Real.exp (score A B i j) : EReal) * Z (ix2 j e)) * ((1 / ∑ j, Real.exp (score A B i j) : ℝ) : EReal) := by
  obtain ⟨M, hM⟩ := exps_apply (scores X Y) (score A B) (scores_apply X Y A B hX hY) i
  have hsum := sums_apply (exps (scores X Y)) i _ hM
  have hpos : ∑ j, Real.exp (score A B i j - M) ≠ 0 := (Finset.sum_pos (fun j _ => Real.exp_pos _) ⟨0, Finset.mem_univ _⟩).ne'
  rw [result, ← softmax_shift _ _ M]
  refine (StackMember.dotGeneral_plain_apply none _ Z i e).trans ?_
  refine Finset.sum_congr rfl fun j _ => ?_
  rw [hostDivf_apply, along_apply, hsum, hM, Ideal.div_coe hpos, EReal.coe_mul]

end Cert.Proof.Ref

end
-- ==== Proof.Finite.lean ====
/-
  The precondition read: where it holds, every entry of the queries and keys is a real number.
-/
module

public import proofs.«01_k».proof.Proof.Gen.Pre_finite_KernelIdeal
public import Idealize.ShloMosaic.PureOps.Ideal.Laws
public import Idealize.ShloMosaic.Lib.ValueIdx
public import Idealize.ShloMosaic.Lib.ReduceAll
public import Idealize.ShloMosaic.Lib.Affine

@[expose] public section

noncomputable section

namespace Cert.Proof

open Cert.Pre_finite_KernelIdeal Cert.Pre_finite_KernelIdeal.Gen
open Idealize.ShloMosaic Idealize.ShloMosaic.ValueIdx

/-- A number below `+∞` in absolute value is real. -/
theorem real_of_abs_lt {x : EReal} (h : max x (-x) < ⊤) : ∃ r : ℝ, x = (r : EReal) := by
  induction x with
  | bot => simp at h
  | coe r => exact ⟨r, rfl⟩
  | top => simp at h

theorem bits_top : Ideal.ofBits .f32 0x7F800000#32 = ⊤ := by
  simp [Ideal.ofBits, Ideal.ieee]

instance : Subsingleton S_.Idx := ⟨fun _ _ => funext fun a => a.elim0⟩

/-- An array every entry of which is below `+∞` in absolute value holds real numbers. -/
theorem real_of_all (x : FVec Ideal S1024x128 .f32)
    (h : Host.reduce IntOp.andi (cmpf .olt (Host.absf x) (broadcastInDim S1024x128 ![] bcast_S_S1024x128 (constant S_ .f32 0x7F800000#32)))
      (constantI S_ 1 1#1) reducesTo_S1024x128_S_d0_1 h_S_ ix0 = 1#1) (i : S1024x128.Idx) : ∃ r : ℝ, x i = (r : EReal) := by
  have e := Host.reduce_andi_all _ _ _ _ _ h i
  have e' : Ideal.cmp .olt (max (x i) (-x i)) (Ideal.ofBits .f32 0x7F800000#32) = 1#1 := e
  rw [bits_top] at e'
  refine real_of_abs_lt ?_
  by_contra hn
  simp [Ideal.cmp, hn] at e'

/-- What the precondition says of a device's arguments. -/
theorem real_of_finite (x y z : FVec Ideal S1024x128 .f32) (h : fn (F := Ideal) x y z = fun _ => 1#1) :
    (∀ i, ∃ r : ℝ, x i = (r : EReal)) ∧ ∀ i, ∃ r : ℝ, y i = (r : EReal) := by
  have h0 := congrFun h ix0
  obtain ⟨h1, h2⟩ := IntOp.andi_eq_one.1 h0
  exact ⟨real_of_all x h1, real_of_all y h2⟩

end Cert.Proof

end
-- ==== Proof.Algebraic.lean ====
/-
  The value claim: over the extended reals, on finite queries and keys, a device's result is its block of the reference's result.
  The rows of the whole arrays are the devices' rows one device after the other, so a sum over all keys is the sum over the
  devices of the sums over their blocks.
-/
module

public import proofs.«01_k».proof.Proof.Frames
public import proofs.«01_k».proof.Proof.Values
public import proofs.«01_k».proof.Proof.Reference
public import proofs.«01_k».proof.Proof.Finite

@[expose] public section

noncomputable section

namespace Cert.Proof

open Cert.KernelIdeal Cert.KernelIdeal.Gen
open Idealize.ShloMosaic Idealize.ShloMosaic.ValueIdx Idealize.ShloMosaic.TcCoe Idealize.SL.Sem
open scoped BigOperators

/-! ## Rows of the whole arrays -/

/-- Row `j` of device `o`'s block. -/
def grow (o : Dev nD) (j : Fin 1024) : Fin 16384 := ⟨o.val * 1024 + j.val, by have : o.val < 16 := o.isLt; omega⟩

/-- A row of the whole is a row of one block. -/
theorem grow_surj (i : Fin 16384) : ∃ o j, grow o j = i :=
  ⟨⟨i.val / 1024, by show _ < 16; omega⟩, ⟨i.val % 1024, by omega⟩, Fin.ext (by show i.val / 1024 * 1024 + i.val % 1024 = i.val; omega)⟩

/-- A sum over all rows is the sum over the devices of the sums over their rows. -/
theorem sum_rows {M : Type} [AddCommMonoid M] (f : Fin 16384 → M) : ∑ i, f i = ∑ o : Dev nD, ∑ j, f (grow o j) := by
  rw [show ∑ i, f i = ∑ i : Fin (16 * 1024), f i from rfl, ← finProdFinEquiv.sum_comp, Fintype.sum_prod_type]
  exact Finset.sum_congr rfl fun o _ => Finset.sum_congr rfl fun j _ => congrArg f (Fin.ext (by
    show j.val + 1024 * o.val = o.val * 1024 + j.val; omega))

/-- A device's block of an array. -/
theorem block_row (X : FVec Ideal ⟨2, ![16384, 128]⟩ .f32) (h : Layout.Tiles ⟨2, ![1024, 128]⟩ ⟨2, ![16384, 128]⟩ 0 16) (c : Dev nD) (r : Fin 1024) (d : Fin 128) :
    Layout.block ⟨2, ![1024, 128]⟩ ⟨2, ![16384, 128]⟩ 0 16 c X h (ix2 r d) = X (ix2 (grow c r) d) :=
  congrArg X (funext fun a => Fin.ext (match a with | ⟨0, _⟩ => rfl | ⟨1, _⟩ => rfl))

/-! ## The claim -/

/-- An array whose blocks hold real numbers holds real numbers. -/
theorem real_whole (X : FVec Ideal ⟨2, ![16384, 128]⟩ .f32) (h : ∀ (c : Dev nD) (r : Fin 1024) (d : Fin 128), ∃ x : ℝ, X (ix2 (grow c r) d) = (x : EReal)) :
    ∃ A : Fin 16384 → Fin 128 → ℝ, ∀ i d, X (ix2 i d) = (A i d : EReal) := by
  have h' : ∀ i d, ∃ x : ℝ, X (ix2 i d) = (x : EReal) := fun i d => by
    obtain ⟨o, j, rfl⟩ := grow_surj i
    exact h o j d
  choose A hA using h'
  exact ⟨A, hA⟩

/-- A scaled query's score is the reference's. -/
theorem weight_eq (A B : Fin 16384 → Fin 128 → ℝ) (c o : Dev nD) (r j : Fin 1024) :
    weight (sqry (fun c r => A (grow c r)) c r) (B (grow o j)) = Real.exp (Ref.score A B (grow c r) (grow o j)) := by
  rw [weight, Ref.score, Finset.sum_mul]
  refine congrArg Real.exp (Finset.sum_congr rfl fun d _ => ?_)
  rw [sqry, one_div]; ring

section Blocks

variable (m : (ℓ : Loc nD τ sig) → Buf (Elt Ideal) ℓ) (ρ : Dev nD → PrngReg) (X Y Z : FVec Ideal ⟨2, ![16384, 128]⟩ .f32) (A B : Fin 16384 → Fin 128 → ℝ)
  (hX : ∀ i d, X (ix2 i d) = (A i d : EReal)) (hY : ∀ i d, Y (ix2 i d) = (B i d : EReal))
  (hq : ∀ c r d, qstg m ρ c (ix2 r d) = X (ix2 (grow c r) d)) (hk : ∀ c r d, kstg m ρ c (ix2 r d) = Y (ix2 (grow c r) d))
  (hv : ∀ c r d, vstg m ρ c (ix2 r d) = Z (ix2 (grow c r) d))

include hX hY hq hk hv in
/-- A device's result is its rows of the reference's. -/
theorem outv_rows (c : Dev nD) (r : Fin 1024) (e : Fin 128) : outv m ρ c (ix2 r e) = Ref.result X Y Z (ix2 (grow c r) e) := by
  rw [outv_apply m ρ (fun c r => A (grow c r)) (fun c r => B (grow c r)) (fun c r d => Z (ix2 (grow c r) d)) (fun c r d => (hq c r d).trans (hX _ d))
    (fun c r d => (hk c r d).trans (hY _ d)) hv c r e, Ref.result_apply X Y Z A B hX hY, sum_rows, sum_rows]
  simp only [nshare, dshare, num, den, weight_eq]

end Blocks

/-- Each device's result is its block of the reference's. -/
theorem algebraic : Cert.algebraic_KernelIdeal_ReferenceIdeal_pre_finite_KernelIdeal := fun m g m' g' hpre hargs => by
  have hre := fun c => real_of_finite _ _ _ (hpre c)
  have b0 (c : Dev nD) (r : Fin 1024) (d : Fin 128) := (congrFun (hargs c).1 (ix2 r d)).trans (block_row _ _ c r d)
  have b1 (c : Dev nD) (r : Fin 1024) (d : Fin 128) := (congrFun (hargs c).2.1 (ix2 r d)).trans (block_row _ _ c r d)
  have b2 (c : Dev nD) (r : Fin 1024) (d : Fin 128) := (congrFun (hargs c).2.2 (ix2 r d)).trans (block_row _ _ c r d)
  obtain ⟨A, hA⟩ := real_whole _ fun c r d => let ⟨x, hx⟩ := (hre c).1 (ix2 r d); ⟨x, (b0 c r d).symm.trans hx⟩
  obtain ⟨B, hB⟩ := real_whole _ fun c r d => let ⟨x, hx⟩ := (hre c).2 (ix2 r d); ⟨x, (b1 c r d).symm.trans hx⟩
  refine ⟨Ref.result _ _ _, (θ_run Cert.KernelIdeal.defs _ _).mono (fun _ h c => ⟨(h.1 c).1.trans ?_, (h.1 c).2⟩) (run_final (F := Ideal) m g),
    (θ_run Cert.ReferenceIdeal.defs _ _).mono (fun _ h => ⟨(h 0).1, (h 0).2⟩) (Cert.ReferenceIdeal.Value.run (F := Ideal) m' g')⟩
  funext i
  obtain ⟨r, e, rfl⟩ : ∃ r e, i = ix2 r e := ⟨_, _, eq_ix2 i⟩
  exact (outv_rows m g _ _ _ A B hA hB (fun c r d => (congrFun (qstg_eq m g c) _).trans (b0 c r d)) (fun c r d => (congrFun (kstg_eq m g c) _).trans (b1 c r d))
    (fun c r d => (congrFun (vstg_eq m g c) _).trans (b2 c r d)) c r e).trans (block_row _ _ c r e).symm

end Cert.Proof

end
-- ==== Proof.lean ====
/-
  Everything claimed: the frames, the rewrite's claim and the value claim, each proved in its own module.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_kernel, frame_ideal, frame_ideal_finite, frame_reference, frame_reference_finite, preserves, algebraic⟩

end Cert.Proof

end
